-- ==== Defs.lean ====
def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4)
      ∧ r.2.mem ((c.tc : Thread Cert.OProjRefIdeal.nD Cert.OProjRefIdeal.τ).loc Cert.OProjRefIdeal.main_arg5) = m ((c.tc : Thread Cert.OProjRefIdeal.nD Cert.OProjRefIdeal.τ).loc Cert.OProjRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)
      ∧ m' ((c.tc : Thread Cert.OProjRefIdeal.nD Cert.OProjRefIdeal.τ).loc Cert.OProjRefIdeal.main_arg5) = m ((c.tc : Thread Cert.OProjIdeal.nD Cert.OProjIdeal.τ).loc Cert.OProjIdeal.main_arg5)) →
    ∃ (v0 : (c : Dev Cert.OProjIdeal.nD) → Buf (Elt Ideal) ((c.tc : Thread Cert.OProjIdeal.nD Cert.OProjIdeal.τ).loc Cert.OProjIdeal.main_v4_0)) (v1 : (c : Dev Cert.OProjIdeal.nD) → Buf (Elt Ideal) ((c.tc : Thread Cert.OProjIdeal.nD Cert.OProjIdeal.τ).loc Cert.OProjIdeal.main_v4_1)) (v2 : (c : Dev Cert.OProjIdeal.nD) → Buf (Elt Ideal) ((c.tc : Thread Cert.OProjIdeal.nD Cert.OProjIdeal.τ).loc Cert.OProjIdeal.main_v4_2)) (v3 : (c : Dev Cert.OProjIdeal.nD) → Buf (Elt Ideal) ((c.tc : Thread Cert.OProjIdeal.nD Cert.OProjIdeal.τ).loc Cert.OProjIdeal.main_v4_3)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v4_0) = v0 c
          ∧ r.2.mem ((c.tc : Thread Cert.OProjIdeal.nD Cert.OProjIdeal.τ).loc Cert.OProjIdeal.main_v4_1) = v1 c
          ∧ r.2.mem ((c.tc : Thread Cert.OProjIdeal.nD Cert.OProjIdeal.τ).loc Cert.OProjIdeal.main_v4_2) = v2 c
          ∧ r.2.mem ((c.tc : Thread Cert.OProjIdeal.nD Cert.OProjIdeal.τ).loc Cert.OProjIdeal.main_v4_3) = v3 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v54) = v0 c
          ∧ r.2.mem ((c.tc : Thread Cert.OProjRefIdeal.nD Cert.OProjRefIdeal.τ).loc Cert.OProjRefIdeal.main_v7) = v1 c
          ∧ r.2.mem ((c.tc : Thread Cert.OProjRefIdeal.nD Cert.OProjRefIdeal.τ).loc Cert.OProjRefIdeal.main_v21) = v2 c
          ∧ r.2.mem ((c.tc : Thread Cert.OProjRefIdeal.nD Cert.OProjRefIdeal.τ).loc Cert.OProjRefIdeal.main_v55) = v3 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4)
          ∧ r.2.mem ((c.tc : Thread Cert.OProjRefIdeal.nD Cert.OProjRefIdeal.τ).loc Cert.OProjRefIdeal.main_arg5) = m' ((c.tc : Thread Cert.OProjRefIdeal.nD Cert.OProjRefIdeal.τ).loc Cert.OProjRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v9_0)) (v1 : (c : Dev Cert.QkvIdeal.nD) → Buf (Elt Ideal) ((c.tc : Thread Cert.QkvIdeal.nD Cert.QkvIdeal.τ).loc Cert.QkvIdeal.main_v9_1)) (v2 : (c : Dev Cert.QkvIdeal.nD) → Buf (Elt Ideal) ((c.tc : Thread Cert.QkvIdeal.nD Cert.QkvIdeal.τ).loc Cert.QkvIdeal.main_v9_2)) (v3 : (c : Dev Cert.QkvIdeal.nD) → Buf (Elt Ideal) ((c.tc : Thread Cert.QkvIdeal.nD Cert.QkvIdeal.τ).loc Cert.QkvIdeal.main_v9_5)) (v4 : (c : Dev Cert.QkvIdeal.nD) → Buf (Elt Ideal) ((c.tc : Thread Cert.QkvIdeal.nD Cert.QkvIdeal.τ).loc Cert.QkvIdeal.main_v9_6)) (v5 : (c : Dev Cert.QkvIdeal.nD) → Buf (Elt Ideal) ((c.tc : Thread Cert.QkvIdeal.nD Cert.QkvIdeal.τ).loc Cert.QkvIdeal.main_v9_8)) (v6 : (c : Dev Cert.QkvIdeal.nD) → Buf (Elt Ideal) ((c.tc : Thread Cert.QkvIdeal.nD Cert.QkvIdeal.τ).loc Cert.QkvIdeal.main_v9_9)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v9_0) = v0 c
          ∧ r.2.mem ((c.tc : Thread Cert.QkvIdeal.nD Cert.QkvIdeal.τ).loc Cert.QkvIdeal.main_v9_1) = v1 c
          ∧ r.2.mem ((c.tc : Thread Cert.QkvIdeal.nD Cert.QkvIdeal.τ).loc Cert.QkvIdeal.main_v9_2) = v2 c
          ∧ r.2.mem ((c.tc : Thread Cert.QkvIdeal.nD Cert.QkvIdeal.τ).loc Cert.QkvIdeal.main_v9_5) = v3 c
          ∧ r.2.mem ((c.tc : Thread Cert.QkvIdeal.nD Cert.QkvIdeal.τ).loc Cert.QkvIdeal.main_v9_6) = v4 c
          ∧ r.2.mem ((c.tc : Thread Cert.QkvIdeal.nD Cert.QkvIdeal.τ).loc Cert.QkvIdeal.main_v9_8) = v5 c
          ∧ r.2.mem ((c.tc : Thread Cert.QkvIdeal.nD Cert.QkvIdeal.τ).loc Cert.QkvIdeal.main_v9_9) = v6 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v33) = v0 c
          ∧ r.2.mem ((c.tc : Thread Cert.QkvRefIdeal.nD Cert.QkvRefIdeal.τ).loc Cert.QkvRefIdeal.main_v122) = v1 c
          ∧ r.2.mem ((c.tc : Thread Cert.QkvRefIdeal.nD Cert.QkvRefIdeal.τ).loc Cert.QkvRefIdeal.main_v107) = v2 c
          ∧ r.2.mem ((c.tc : Thread Cert.QkvRefIdeal.nD Cert.QkvRefIdeal.τ).loc Cert.QkvRefIdeal.main_v124) = v3 c
          ∧ r.2.mem ((c.tc : Thread Cert.QkvRefIdeal.nD Cert.QkvRefIdeal.τ).loc Cert.QkvRefIdeal.main_v126) = v4 c
          ∧ r.2.mem ((c.tc : Thread Cert.QkvRefIdeal.nD Cert.QkvRefIdeal.τ).loc Cert.QkvRefIdeal.main_v128) = v5 c
          ∧ r.2.mem ((c.tc : Thread Cert.QkvRefIdeal.nD Cert.QkvRefIdeal.τ).loc Cert.QkvRefIdeal.main_v130) = v6 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def Claim : Prop :=
  ∃ (hOProj : Cert.OProj.Facts) (hOProjIdeal : Cert.OProjIdeal.Facts) (hOProjRefIdeal : Cert.OProjRefIdeal.Facts) (hQkv : Cert.Qkv.Facts) (hQkvIdeal : Cert.QkvIdeal.Facts) (hQkvRefIdeal : Cert.QkvRefIdeal.Facts),
    quiescent_OProj (hOProj := hOProj)
    ∧ quiescent_OProjIdeal (hOProjIdeal := hOProjIdeal)
    ∧ quiescent_OProjRefIdeal (hOProjRefIdeal := hOProjRefIdeal)
    ∧ quiescent_Qkv (hQkv := hQkv)
    ∧ quiescent_QkvIdeal (hQkvIdeal := hQkvIdeal)
    ∧ quiescent_QkvRefIdeal (hQkvRefIdeal := hQkvRefIdeal)
    ∧ preserves_OProj_OProjIdeal
    ∧ algebraic_OProjIdeal_OProjRefIdeal (hOProjIdeal := hOProjIdeal) (hOProjRefIdeal := hOProjRefIdeal)
    ∧ preserves_Qkv_QkvIdeal
    ∧ algebraic_QkvIdeal_QkvRefIdeal (hQkvIdeal := hQkvIdeal) (hQkvRefIdeal := hQkvRefIdeal)
-- ==== OProj.lean ====
abbrev S2304x128 : Shape := ⟨2, ![2304, 128]⟩
abbrev S768x128 : Shape := ⟨2, ![768, 128]⟩
abbrev S24x3x5120 : Shape := ⟨3, ![24, 3, 5120]⟩
abbrev S2560x5120 : Shape := ⟨2, ![2560, 5120]⟩
abbrev S5120 : Shape := ⟨1, ![5120]⟩
abbrev S3x24x5120 : Shape := ⟨3, ![3, 24, 5120]⟩
abbrev S72x5120 : Shape := ⟨2, ![72, 5120]⟩
abbrev S1x5120 : Shape := ⟨2, ![1, 5120]⟩
abbrev S3x24 : Shape := ⟨2, ![3, 24]⟩
abbrev S72x512 : Shape := ⟨2, ![72, 512]⟩
abbrev S2560x512 : Shape := ⟨2, ![2560, 512]⟩
abbrev S1x512 : Shape := ⟨2, ![1, 512]⟩
abbrev S72x128 : Shape := ⟨2, ![72, 128]⟩
abbrev S24x128 : Shape := ⟨2, ![24, 128]⟩
abbrev S72 : Shape := ⟨1, ![72]⟩
abbrev S72x1 : Shape := ⟨2, ![72, 1]⟩
abbrev S56x128 : Shape := ⟨2, ![56, 128]⟩
abbrev S128x128 : Shape := ⟨2, ![128, 128]⟩
abbrev S1x24 : Shape := ⟨2, ![1, 24]⟩
abbrev S72x2560 : Shape := ⟨2, ![72, 2560]⟩

abbrev nBuf : Space → Nat
  | .hbm => 14
  | .vmem => 18
  | .smem => 0
  | _ => 0

abbrev bufTy : (tb : Table) → Fin (tcTables nBuf tb) → BufTy
  | .hbm, ⟨0, _⟩ => ⟨S2304x128, .f32⟩
  | .hbm, ⟨1, _⟩ => ⟨S768x128, .f32⟩
  | .hbm, ⟨2, _⟩ => ⟨S24x3x5120, .bf16⟩
  | .hbm, ⟨3, _⟩ => ⟨S2560x5120, .i8⟩
  | .hbm, ⟨4, _⟩ => ⟨S5120, .f32⟩
  | .hbm, ⟨5, _⟩ => ⟨S5120, .f32⟩
  | .hbm, ⟨6, _⟩ => ⟨S3x24x5120, .bf16⟩
  | .hbm, ⟨7, _⟩ => ⟨S72x5120, .bf16⟩
  | .hbm, ⟨8, _⟩ => ⟨S1x5120, .f32⟩
  | .hbm, ⟨9, _⟩ => ⟨S1x5120, .f32⟩
  | .hbm, ⟨10, _⟩ => ⟨S72x5120, .bf16⟩
  | .hbm, ⟨11, _⟩ => ⟨S72x5120, .f32⟩
  | .hbm, ⟨12, _⟩ => ⟨S72x5120, .i8⟩
  | .hbm, ⟨13, _⟩ => ⟨S3x24, .f32⟩
  | .local _ .vmem, ⟨0, _⟩ => ⟨S2304x128, .f32⟩
  | .local _ .vmem, ⟨1, _⟩ => ⟨S768x128, .f32⟩
  | .local _ .vmem, ⟨2, _⟩ => ⟨S72x512, .bf16⟩
  | .local _ .vmem, ⟨3, _⟩ => ⟨S72x512, .bf16⟩
  | .local _ .vmem, ⟨4, _⟩ => ⟨S2560x512, .i8⟩
  | .local _ .vmem, ⟨5, _⟩ => ⟨S2560x512, .i8⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S72x512, .bf16⟩
  | .local _ .vmem, ⟨11, _⟩ => ⟨S72x512, .bf16⟩
  | .local _ .vmem, ⟨12, _⟩ => ⟨S72x5120, .f32⟩
  | .local _ .vmem, ⟨13, _⟩ => ⟨S72x5120, .i8⟩
  | .local _ .vmem, ⟨14, _⟩ => ⟨S3x24, .f32⟩
  | .local _ .vmem, ⟨15, _⟩ => ⟨S72x5120, .bf16⟩
  | .local _ .vmem, ⟨16, _⟩ => ⟨S72x128, .f32⟩
  | .local _ .vmem, ⟨17, _⟩ => ⟨S72x128, .f32⟩
  | _, _ => ⟨S2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2304x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S72x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2560x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S72x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S72x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S72x5120 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x24 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OProjRefIdeal.lean ====
abbrev S2304x128 : Shape := ⟨2, ![2304, 128]⟩
abbrev S768x128 : Shape := ⟨2, ![768, 128]⟩
abbrev S24x3x5120 : Shape := ⟨3, ![24, 3, 5120]⟩
abbrev S2560x5120 : Shape := ⟨2, ![2560, 5120]⟩
abbrev S5120 : Shape := ⟨1, ![5120]⟩
abbrev S24x6x16x128 : Shape := ⟨4, ![24, 6, 16, 128]⟩
abbrev S24x6x15x128 : Shape := ⟨4, ![24, 6, 15, 128]⟩
abbrev S24x2x16x128 : Shape := ⟨4, ![24, 2, 16, 128]⟩
abbrev S24x2x15x128 : Shape := ⟨4, ![24, 2, 15, 128]⟩
abbrev S24x8x15x128 : Shape := ⟨4, ![24, 8, 15, 128]⟩
abbrev S24x8x3x5x128 : Shape := ⟨5, ![24, 8, 3, 5, 128]⟩
abbrev S3x24x8x5x128 : Shape := ⟨5, ![3, 24, 8, 5, 128]⟩
abbrev S72x5120 : Shape := ⟨2, ![72, 5120]⟩
abbrev S_ : Shape := ⟨0, ![]⟩
abbrev S72 : Shape := ⟨1, ![72]⟩
abbrev S72x1 : Shape := ⟨2, ![72, 1]⟩
abbrev S72x2560 : Shape := ⟨2, ![72, 2560]⟩
abbrev S1x5120 : Shape := ⟨2, ![1, 5120]⟩
abbrev S3x24x5120 : Shape := ⟨3, ![3, 24, 5120]⟩
abbrev S3x24 : Shape := ⟨2, ![3, 24]⟩

abbrev nBuf : Space → Nat
  | .hbm => 78
  | .vmem => 0
  | .smem => 0
  | _ => 0

abbrev bufTy : (tb : Table) → Fin (tcTables nBuf tb) → BufTy
  | .hbm, ⟨0, _⟩ => ⟨S2304x128, .f32⟩
  | .hbm, ⟨1, _⟩ => ⟨S768x128, .f32⟩
  | .hbm, ⟨2, _⟩ => ⟨S24x3x5120, .bf16⟩
  | .hbm, ⟨3, _⟩ => ⟨S2560x5120, .i8⟩
  | .hbm, ⟨4, _⟩ => ⟨S5120, .f32⟩
  | .hbm, ⟨5, _⟩ => ⟨S5120, .f32⟩
  | .hbm, ⟨6, _⟩ => ⟨S24x6x16x128, .f32⟩
  | .hbm, ⟨7, _⟩ => ⟨S24x6x15x128, .f32⟩
  | .hbm, ⟨8, _⟩ => ⟨S24x2x16x128, .f32⟩
  | .hbm, ⟨9, _⟩ => ⟨S24x2x15x128, .f32⟩
  | .hbm, ⟨10, _⟩ => ⟨S24x8x15x128, .f32⟩
  | .hbm, ⟨11, _⟩ => ⟨S24x8x3x5x128, .f32⟩
  | .hbm, ⟨12, _⟩ => ⟨S3x24x8x5x128, .f32⟩
  | .hbm, ⟨13, _⟩ => ⟨S72x5120, .f32⟩
  | .hbm, ⟨14, _⟩ => ⟨S72x5120, .f32⟩
  | .hbm, ⟨15, _⟩ => ⟨S_, .f32⟩
  | .hbm, ⟨16, _⟩ => ⟨S72, .f32⟩
  | .hbm, ⟨17, _⟩ => ⟨S_, .f32⟩
  | .hbm, ⟨18, _⟩ => ⟨S72, .f32⟩
  | .hbm, ⟨19, _⟩ => ⟨S72, .i1⟩
  | .hbm, ⟨20, _⟩ => ⟨S_, .f32⟩
  | .hbm, ⟨21, _⟩ => ⟨S72, .f32⟩
  | .hbm, ⟨22, _⟩ => ⟨S72, .f32⟩
  | .hbm, ⟨23, _⟩ => ⟨S_, .f32⟩
  | .hbm, ⟨24, _⟩ => ⟨S_, .f32⟩
  | .hbm, ⟨25, _⟩ => ⟨S72, .f32⟩
  | .hbm, ⟨26, _⟩ => ⟨S72, .f32⟩
  | .hbm, ⟨27, _⟩ => ⟨S72x1, .f32⟩
  | .hbm, ⟨28, _⟩ => ⟨S72x5120, .f32⟩
  | .hbm, ⟨29, _⟩ => ⟨S72x5120, .f32⟩
  | .hbm, ⟨30, _⟩ => ⟨S72x5120, .f32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S72x5120, .f32⟩
  | .hbm, ⟨35, _⟩ => ⟨S72x5120, .f32⟩
  | .hbm, ⟨36, _⟩ => ⟨S_, .f32⟩
  | .hbm, ⟨37, _⟩ => ⟨S72x5120, .f32⟩
  | .hbm, ⟨38, _⟩ => ⟨S72x5120, .f32⟩
  | .hbm, ⟨39, _⟩ => ⟨S72x5120, .i32⟩
  | .hbm, ⟨40, _⟩ => ⟨S72x5120, .i8⟩
  | .hbm, ⟨41, _⟩ => ⟨S2560x5120, .i32⟩
  | .hbm, ⟨42, _⟩ => ⟨S_, .i32⟩
  | .hbm, ⟨43, _⟩ => ⟨S2560x5120, .i32⟩
  | .hbm, ⟨44, _⟩ => ⟨S2560x5120, .i32⟩
  | .hbm, ⟨45, _⟩ => ⟨S2560x5120, .bf16⟩
  | .hbm, ⟨46, _⟩ => ⟨S_, .i32⟩
  | .hbm, ⟨47, _⟩ => ⟨S2560x5120, .i32⟩
  | .hbm, ⟨48, _⟩ => ⟨S2560x5120, .i32⟩
  | .hbm, ⟨49, _⟩ => ⟨S2560x5120, .bf16⟩
  | .hbm, ⟨50, _⟩ => ⟨S72x5120, .i32⟩
  | .hbm, ⟨51, _⟩ => ⟨S72x5120, .bf16⟩
  | .hbm, ⟨52, _⟩ => ⟨S72x2560, .bf16⟩
  | .hbm, ⟨53, _⟩ => ⟨S72x5120, .f32⟩
  | .hbm, ⟨54, _⟩ => ⟨S72x2560, .bf16⟩
  | .hbm, ⟨55, _⟩ => ⟨S72x5120, .f32⟩
  | .hbm, ⟨56, _⟩ => ⟨S72x5120, .f32⟩
  | .hbm, ⟨57, _⟩ => ⟨S72x5120, .f32⟩
  | .hbm, ⟨58, _⟩ => ⟨S_, .f32⟩
  | .hbm, ⟨59, _⟩ => ⟨S72, .f32⟩
  | .hbm, ⟨60, _⟩ => ⟨S72x1, .f32⟩
  | .hbm, ⟨61, _⟩ => ⟨S1x5120, .f32⟩
  | .hbm, ⟨62, _⟩ => ⟨S72x5120, .f32⟩
  | .hbm, ⟨63, _⟩ => ⟨S72x5120, .f32⟩
  | .hbm, ⟨64, _⟩ => ⟨S72x5120, .f32⟩
  | .hbm, ⟨65, _⟩ => ⟨S72x5120, .f32⟩
  | .hbm, ⟨66, _⟩ => ⟨S72x1, .f32⟩
  | .hbm, ⟨67, _⟩ => ⟨S72x5120, .f32⟩
  | .hbm, ⟨68, _⟩ => ⟨S72x5120, .f32⟩
  | .hbm, ⟨69, _⟩ => ⟨S1x5120, .f32⟩
  | .hbm, ⟨70, _⟩ => ⟨S72x5120, .f32⟩
  | .hbm, ⟨71, _⟩ => ⟨S72x5120, .f32⟩
  | .hbm, ⟨72, _⟩ => ⟨S24x3x5120, .f32⟩
  | .hbm, ⟨73, _⟩ => ⟨S3x24x5120, .f32⟩
  | .hbm, ⟨74, _⟩ => ⟨S72x5120, .f32⟩
  | .hbm, ⟨75, _⟩ => ⟨S72x5120, .f32⟩
  | .hbm, ⟨76, _⟩ => ⟨S72x5120, .bf16⟩
  | .hbm, ⟨77, _⟩ => ⟨S3x24, .f32⟩
  | _, _ => ⟨S2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_c_3 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Qkv.lean ====
abbrev S24x3x5120 : Shape := ⟨3, ![24, 3, 5120]⟩
abbrev S5120 : Shape := ⟨1, ![5120]⟩
abbrev S2560x7168 : Shape := ⟨2, ![2560, 7168]⟩
abbrev S7168 : Shape := ⟨1, ![7168]⟩
abbrev S24x3x64 : Shape := ⟨3, ![24, 3, 64]⟩
abbrev S3x24x5120 : Shape := ⟨3, ![3, 24, 5120]⟩
abbrev S72x5120 : Shape := ⟨2, ![72, 5120]⟩
abbrev S1x5120 : Shape := ⟨2, ![1, 5120]⟩
abbrev S1x7168 : Shape := ⟨2, ![1, 7168]⟩
abbrev S3x24x64 : Shape := ⟨3, ![3, 24, 64]⟩
abbrev S72x64 : Shape := ⟨2, ![72, 64]⟩
abbrev S3x24 : Shape := ⟨2, ![3, 24]⟩
abbrev S3072x128 : Shape := ⟨2, ![3072, 128]⟩
abbrev S4608x128 : Shape := ⟨2, ![4608, 128]⟩
abbrev S72x8x64 : Shape := ⟨3, ![72, 8, 64]⟩
abbrev S3x8x24 : Shape := ⟨3, ![3, 8, 24]⟩
abbrev S2560x512 : Shape := ⟨2, ![2560, 512]⟩
abbrev S1x512 : Shape := ⟨2, ![1, 512]⟩
abbrev S72x128 : Shape := ⟨2, ![72, 128]⟩
abbrev S72 : Shape := ⟨1, ![72]⟩
abbrev S72x1 : Shape := ⟨2, ![72, 1]⟩
abbrev S72x2560 : Shape := ⟨2, ![72, 2560]⟩
abbrev S72x512 : Shape := ⟨2, ![72, 512]⟩
abbrev S24x128 : Shape := ⟨2, ![24, 128]⟩
abbrev S24x1 : Shape := ⟨2, ![24, 1]⟩
abbrev S56x128 : Shape := ⟨2, ![56, 128]⟩
abbrev S128x128 : Shape := ⟨2, ![128, 128]⟩
abbrev S8x24 : Shape := ⟨2, ![8, 24]⟩
abbrev S1x8x24 : Shape := ⟨3, ![1, 8, 24]⟩
abbrev S1x24 : Shape := ⟨2, ![1, 24]⟩
abbrev S8x128 : Shape := ⟨2, ![8, 128]⟩
abbrev S8x64 : Shape := ⟨2, ![8, 64]⟩
abbrev S1x8x64 : Shape := ⟨3, ![1, 8, 64]⟩

abbrev nBuf : Space → Nat
  | .hbm => 26
  | .vmem => 26
  | .smem => 0
  | _ => 0

abbrev bufTy : (tb : Table) → Fin (tcTables nBuf tb) → BufTy
  | .hbm, ⟨0, _⟩ => ⟨S24x3x5120, .bf16⟩
  | .hbm, ⟨1, _⟩ => ⟨S5120, .f32⟩
  | .hbm, ⟨2, _⟩ => ⟨S2560x7168, .i8⟩
  | .hbm, ⟨3, _⟩ => ⟨S7168, .f32⟩
  | .hbm, ⟨4, _⟩ => ⟨S7168, .f32⟩
  | .hbm, ⟨5, _⟩ => ⟨S24x3x64, .f32⟩
  | .hbm, ⟨6, _⟩ => ⟨S24x3x64, .f32⟩
  | .hbm, ⟨7, _⟩ => ⟨S3x24x5120, .bf16⟩
  | .hbm, ⟨8, _⟩ => ⟨S72x5120, .bf16⟩
  | .hbm, ⟨9, _⟩ => ⟨S1x5120, .f32⟩
  | .hbm, ⟨10, _⟩ => ⟨S1x7168, .f32⟩
  | .hbm, ⟨11, _⟩ => ⟨S1x7168, .f32⟩
  | .hbm, ⟨12, _⟩ => ⟨S3x24x64, .f32⟩
  | .hbm, ⟨13, _⟩ => ⟨S72x64, .f32⟩
  | .hbm, ⟨14, _⟩ => ⟨S3x24x64, .f32⟩
  | .hbm, ⟨15, _⟩ => ⟨S72x64, .f32⟩
  | .hbm, ⟨16, _⟩ => ⟨S72x5120, .i8⟩
  | .hbm, ⟨17, _⟩ => ⟨S3x24, .f32⟩
  | .hbm, ⟨18, _⟩ => ⟨S3072x128, .f32⟩
  | .hbm, ⟨19, _⟩ => ⟨S4608x128, .f32⟩
  | .hbm, ⟨20, _⟩ => ⟨S72x8x64, .i8⟩
  | .hbm, ⟨21, _⟩ => ⟨S3x8x24, .f32⟩
  | .hbm, ⟨22, _⟩ => ⟨S3x8x24, .f32⟩
  | .hbm, ⟨23, _⟩ => ⟨S72x8x64, .i8⟩
  | .hbm, ⟨24, _⟩ => ⟨S3x8x24, .f32⟩
  | .hbm, ⟨25, _⟩ => ⟨S3x8x24, .f32⟩
  | .local _ .vmem, ⟨0, _⟩ => ⟨S72x5120, .bf16⟩
  | .local _ .vmem, ⟨1, _⟩ => ⟨S1x5120, .f32⟩
  | .local _ .vmem, ⟨2, _⟩ => ⟨S2560x512, .i8⟩
  | .local _ .vmem, ⟨3, _⟩ => ⟨S2560x512, .i8⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S72x64, .f32⟩
  | .local _ .vmem, ⟨9, _⟩ => ⟨S72x64, .f32⟩
  | .local _ .vmem, ⟨10, _⟩ => ⟨S72x5120, .i8⟩
  | .local _ .vmem, ⟨11, _⟩ => ⟨S3x24, .f32⟩
  | .local _ .vmem, ⟨12, _⟩ => ⟨S3072x128, .f32⟩
  | .local _ .vmem, ⟨13, _⟩ => ⟨S4608x128, .f32⟩
  | .local _ .vmem, ⟨14, _⟩ => ⟨S72x8x64, .i8⟩
  | .local _ .vmem, ⟨15, _⟩ => ⟨S3x8x24, .f32⟩
  | .local _ .vmem, ⟨16, _⟩ => ⟨S3x8x24, .f32⟩
  | .local _ .vmem, ⟨17, _⟩ => ⟨S72x8x64, .i8⟩
  | .local _ .vmem, ⟨18, _⟩ => ⟨S3x8x24, .f32⟩
  | .local _ .vmem, ⟨19, _⟩ => ⟨S3x8x24, .f32⟩
  | .local _ .vmem, ⟨20, _⟩ => ⟨S72x5120, .bf16⟩
  | .local _ .vmem, ⟨21, _⟩ => ⟨S72x128, .f32⟩
  | .local _ .vmem, ⟨22, _⟩ => ⟨S72x128, .f32⟩
  | .local _ .vmem, ⟨23, _⟩ => ⟨S72x128, .f32⟩
  | .local _ .vmem, ⟨24, _⟩ => ⟨S72x128, .f32⟩
  | .local _ .vmem, ⟨25, _⟩ => ⟨S72x128, .f32⟩
  | _, _ => ⟨S24x3x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev main_v9_7 : Ref sig .tc := ⟨.hbm, 23, rfl⟩
abbrev main_v9_8 : Ref sig .tc := ⟨.hbm, 24, rfl⟩
abbrev main_v9_9 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19

abbrev nD : Nat := 1
abbrev τ : Topo := Topo.v7x

variable {F : FTy → Type} [FloatOps F]

abbrev grid0 : Pipeline.Grid := ⟨1, ![14], ![false]⟩

def k0_cond2 (i : grid0.Coords) : BitVec 1 :=
  let arg0 : BitVec 32 := BitVec.ofNat 32 (i 0).val
  let c4_i32_14 : BitVec 32 := 4#32
  let v35 : BitVec 32 := Scalar.muli arg0 c4_i32_14
  let c40_i32 : BitVec 32 := 40#32
  let v36 : BitVec 1 := Scalar.cmpi .slt v35 c40_i32
  let v37 : BitVec 32 := Scalar.extui v36
  let c0_i32_15 : BitVec 32 := 0#32
  let v38 : BitVec 1 := Scalar.cmpi .ne v37 c0_i32_15
  v38

def k0_off1 (i : grid0.Coords) (c0_i32_25 : BitVec 32) (c0_i32_31 : BitVec 32) (c0_i32_38 : BitVec 32) : Fin 2 → Nat :=
  let arg0 : BitVec 32 := BitVec.ofNat 32 (i 0).val
  let c4_i32_14 : BitVec 32 := 4#32
  let v35 : BitVec 32 := Scalar.muli arg0 c4_i32_14
  let v56 : BitVec 32 := Scalar.addi v35 c0_i32_25
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c5_i32 : BitVec 32 := 5#32
  let c0_i32_28 : BitVec 32 := 0#32
  let v63 : BitVec 1 := Scalar.cmpi .sgt c5_i32 c0_i32_28
  let v64 : BitVec 32 := Scalar.extui v63
  let c0_i32_29 : BitVec 32 := 0#32
  let v65 : BitVec 1 := Scalar.cmpi .slt c5_i32 c0_i32_29
  let v66 : BitVec 32 := Scalar.extui v65
  let v67 : BitVec 32 := Scalar.subi v64 v66
  let v68 : BitVec 1 := Scalar.cmpi .ne v62 v67
  let v69 : BitVec 32 := Scalar.remsi v56 c5_i32
  let c0_i32_30 : BitVec 32 := 0#32
  let v70 : BitVec 1 := Scalar.cmpi .ne v69 c0_i32_30
  let v71 : BitVec 1 := Scalar.andi v68 v70
  let v57 : BitVec 32 := Scalar.divsi v56 c5_i32
  let c1_i32 : BitVec 32 := 1#32
  let v72 : BitVec 32 := Scalar.subi v57 c1_i32
  let v73 : BitVec 32 := Scalar.select v71 v72 v57
  let c16_i32 : BitVec 32 := 16#32
  let v74 : BitVec 32 := Scalar.muli v73 c16_i32
  let v75 : BitVec 32 := Scalar.addi v35 c0_i32_31
  let c5_i32_32 : BitVec 32 := 5#32
  let c0_i32_33 : BitVec 32 := 0#32
  let v76 : BitVec 1 := Scalar.cmpi .eq c5_i32_32 c0_i32_33
  let c1_i32_34 : BitVec 32 := 1#32
  let v77 : BitVec 32 := Scalar.select v76 c1_i32_34 c5_i32_32
  let v78 : BitVec 32 := Scalar.remsi v75 v77
  let c0_i32_36 : BitVec 32 := 0#32
  let v80 : BitVec 1 := Scalar.cmpi .slt v78 c0_i32_36
  let c0_i32_37 : BitVec 32 := 0#32
  let v81 : BitVec 1 := Scalar.cmpi .slt v77 c0_i32_37
  let v82 : BitVec 1 := Scalar.xori v80 v81
  let c0_i32_35 : BitVec 32 := 0#32
  let v79 : BitVec 1 := Scalar.cmpi .ne v78 c0_i32_35
  let v83 : BitVec 1 := Scalar.andi v82 v79
  let v84 : BitVec 32 := Scalar.addi v78 v77
  let v85 : BitVec 32 := Scalar.select v83 v84 v78
  let v86 : BitVec 32 := Scalar.addi v74 v85
  let v88 : BitVec 32 := Scalar.addi v86 c0_i32_38
  let v89 : Index := Scalar.indexCast v88
  let c0_39 : Index := 0#32
  ![v89.toNat, 0]
def k0_off1_at (r : Fin 12) : BitVec 32 × BitVec 32 × BitVec 32 :=
  if r.val < 6 then
    if r.val < 3 then
      if r.val < 1 then
        (0#32, 0#32, 0#32)
      else
        if r.val < 2 then
          (0#32, 0#32, 5#32)
        else
          (0#32, 0#32, 10#32)
    else
      if r.val < 4 then
        (1#32, 1#32, 0#32)
      else
        if r.val < 5 then
          (1#32, 1#32, 5#32)
        else
          (1#32, 1#32, 10#32)
  else
    if r.val < 9 then
      if r.val < 7 then
        (2#32, 2#32, 0#32)
      else
        if r.val < 8 then
          (2#32, 2#32, 5#32)
        else
          (2#32, 2#32, 10#32)
    else
      if r.val < 10 then
        (3#32, 3#32, 0#32)
      else
        if r.val < 11 then
          (3#32, 3#32, 5#32)
        else
          (3#32, 3#32, 10#32)
def k0_cond3 (i : grid0.Coords) : BitVec 1 :=
  let arg0 : BitVec 32 := BitVec.ofNat 32 (i 0).val
  let c4_i32_14 : BitVec 32 := 4#32
  let v35 : BitVec 32 := Scalar.muli arg0 c4_i32_14
  let c40_i32_16 : BitVec 32 := 40#32
  let v39 : BitVec 1 := Scalar.cmpi .sge v35 c40_i32_16
  let c48_i32 : BitVec 32 := 48#32
  let v40 : BitVec 1 := Scalar.cmpi .slt v35 c48_i32
  let v41 : BitVec 1 := Scalar.andi v39 v40
  let v42 : BitVec 32 := Scalar.extui v41
  let c0_i32_17 : BitVec 32 := 0#32
  let v43 : BitVec 1 := Scalar.cmpi .ne v42 c0_i32_17
  v43

def k0_off2 (i : grid0.Coords) (c0_i32_43 : BitVec 32) (c0_i32_51 : BitVec 32) : Fin 2 → Nat :=
  let arg0 : BitVec 32 := BitVec.ofNat 32 (i 0).val
  let c4_i32_14 : BitVec 32 := 4#32
  let v35 : BitVec 32 := Scalar.muli arg0 c4_i32_14
  let c40_i32_40 : BitVec 32 := 40#32
  let v74 : BitVec 32 := Scalar.subi v35 c40_i32_40
  let v76 : BitVec 32 := Scalar.addi v74 c0_i32_43
  let c24_i32 : BitVec 32 := 24#32
  let v110 : BitVec 32 := Scalar.muli v76 c24_i32
  let c0_i32_50 : BitVec 32 := 0#32
  let v111 : BitVec 32 := Scalar.addi v110 c0_i32_50
  let v112 : BitVec 32 := Scalar.addi v111 c0_i32_51
  let v114 : Index := Scalar.indexCast v112
  let c0_52 : Index := 0#32
  ![v114.toNat, 0]
def k0_off3 (i : grid0.Coords) (c0_i32_43 : BitVec 32) (c0_i32_51 : BitVec 32) (c3_i32 : BitVec 32) : Fin 2 → Nat :=
  let arg0 : BitVec 32 := BitVec.ofNat 32 (i 0).val
  let c4_i32_14 : BitVec 32 := 4#32
  let v35 : BitVec 32 := Scalar.muli arg0 c4_i32_14
  let c40_i32_40 : BitVec 32 := 40#32
  let v74 : BitVec 32 := Scalar.subi v35 c40_i32_40
  let v76 : BitVec 32 := Scalar.addi v74 c0_i32_43
  let c24_i32 : BitVec 32 := 24#32
  let v110 : BitVec 32 := Scalar.muli v76 c24_i32
  let c0_i32_50 : BitVec 32 := 0#32
  let v111 : BitVec 32 := Scalar.addi v110 c0_i32_50
  let v112 : BitVec 32 := Scalar.addi v111 c0_i32_51
  let v119 : BitVec 32 := Scalar.addi v112 c3_i32
  let v120 : Index := Scalar.indexCast v119
  let c0_53 : Index := 0#32
  ![v120.toNat, 0]
def k0_cond4 (i : grid0.Coords) : BitVec 1 :=
  let arg0 : BitVec 32 := BitVec.ofNat 32 (i 0).val
  let c4_i32_14 : BitVec 32 := 4#32
  let v35 : BitVec 32 := Scalar.muli arg0 c4_i32_14
  let c48_i32_18 : BitVec 32 := 48#32
  let v44 : BitVec 1 := Scalar.cmpi .sge v35 c48_i32_18
  let v45 : BitVec 32 := Scalar.extui v44
  let c0_i32_19 : BitVec 32 := 0#32
  let v46 : BitVec 1 := Scalar.cmpi .ne v45 c0_i32_19
  v46

def k0_off4 (i : grid0.Coords) (c0_i32_24 : BitVec 32) (c0_i32_31 : BitVec 32) : Fin 2 → Nat :=
  let arg0 : BitVec 32 := BitVec.ofNat 32 (i 0).val
  let c4_i32_14 : BitVec 32 := 4#32
  let v35 : BitVec 32 := Scalar.muli arg0 c4_i32_14
  let c40_i32_21 : BitVec 32 := 40#32
  let v50 : BitVec 32 := Scalar.subi v35 c40_i32_21
  let c8_i32 : BitVec 32 := 8#32
  let v51 : BitVec 32 := Scalar.subi v50 c8_i32
  let v53 : BitVec 32 := Scalar.addi v51 c0_i32_24
  let c24_i32_30 : BitVec 32 := 24#32
  let v87 : BitVec 32 := Scalar.muli v53 c24_i32_30
  let c9_i32 : BitVec 32 := 9#32
  let v88 : BitVec 32 := Scalar.addi v87 c9_i32
  let v89 : BitVec 32 := Scalar.addi v88 c0_i32_31
  let v91 : Index := Scalar.indexCast v89
  let c0_32 : Index := 0#32
  ![v91.toNat, 0]
def k0_off5 (i : grid0.Coords) (c0_i32_24 : BitVec 32) (c0_i32_31 : BitVec 32) (c3_i32 : BitVec 32) : Fin 2 → Nat :=
  let arg0 : BitVec 32 := BitVec.ofNat 32 (i 0).val
  let c4_i32_14 : BitVec 32 := 4#32
  let v35 : BitVec 32 := Scalar.muli arg0 c4_i32_14
  let c40_i32_21 : BitVec 32 := 40#32
  let v50 : BitVec 32 := Scalar.subi v35 c40_i32_21
  let c8_i32 : BitVec 32 := 8#32
  let v51 : BitVec 32 := Scalar.subi v50 c8_i32
  let v53 : BitVec 32 := Scalar.addi v51 c0_i32_24
  let c24_i32_30 : BitVec 32 := 24#32
  let v87 : BitVec 32 := Scalar.muli v53 c24_i32_30
  let c9_i32 : BitVec 32 := 9#32
  let v88 : BitVec 32 := Scalar.addi v87 c9_i32
  let v89 : BitVec 32 := Scalar.addi v88 c0_i32_31
  let v96 : BitVec 32 := Scalar.addi v89 c3_i32
  let v97 : Index := Scalar.indexCast v96
  let c0_33 : Index := 0#32
  ![v97.toNat, 0]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond5 (i : grid0.Coords) : BitVec 1 :=
  let arg0 : BitVec 32 := BitVec.ofNat 32 (i 0).val
  let c13_i32 : BitVec 32 := 13#32
  let v47 : BitVec 1 := Scalar.cmpi .eq arg0 c13_i32
  let v48 : BitVec 32 := Scalar.extui v47
  let c0_i32_20 : BitVec 32 := 0#32
  let v49 : BitVec 1 := Scalar.cmpi .ne v48 c0_i32_20
  v49

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S72x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2560x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S72x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S72x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S72x5120 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x24 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3072x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4608x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S72x8x64 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x8x24 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x8x24 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S72x8x64 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x8x24 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x8x24 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== QkvRefIdeal.lean ====
abbrev S24x3x5120 : Shape := ⟨3, ![24, 3, 5120]⟩
abbrev S5120 : Shape := ⟨1, ![5120]⟩
abbrev S2560x7168 : Shape := ⟨2, ![2560, 7168]⟩
abbrev S7168 : Shape := ⟨1, ![7168]⟩
abbrev S24x3x64 : Shape := ⟨3, ![24, 3, 64]⟩
abbrev S3x24x5120 : Shape := ⟨3, ![3, 24, 5120]⟩
abbrev S72x5120 : Shape := ⟨2, ![72, 5120]⟩
abbrev S3x24x64 : Shape := ⟨3, ![3, 24, 64]⟩
abbrev S72x64 : Shape := ⟨2, ![72, 64]⟩
abbrev S_ : Shape := ⟨0, ![]⟩
abbrev S72 : Shape := ⟨1, ![72]⟩
abbrev S72x1 : Shape := ⟨2, ![72, 1]⟩
abbrev S1x5120 : Shape := ⟨2, ![1, 5120]⟩
abbrev S72x2560 : Shape := ⟨2, ![72, 2560]⟩
abbrev S72x7168 : Shape := ⟨2, ![72, 7168]⟩
abbrev S1x7168 : Shape := ⟨2, ![1, 7168]⟩
abbrev S72x40x128 : Shape := ⟨3, ![72, 40, 128]⟩
abbrev S72x40x64 : Shape := ⟨3, ![72, 40, 64]⟩
abbrev S72x1x64 : Shape := ⟨3, ![72, 1, 64]⟩
abbrev S72x1024 : Shape := ⟨2, ![72, 1024]⟩
abbrev S72x8x128 : Shape := ⟨3, ![72, 8, 128]⟩
abbrev S72x8x64 : Shape := ⟨3, ![72, 8, 64]⟩
abbrev S3x24x8x5x128 : Shape := ⟨5, ![3, 24, 8, 5, 128]⟩
abbrev S24x8x3x5x128 : Shape := ⟨5, ![24, 8, 3, 5, 128]⟩
abbrev S24x8x15x128 : Shape := ⟨4, ![24, 8, 15, 128]⟩
abbrev S24x8x1x128 : Shape := ⟨4, ![24, 8, 1, 128]⟩
abbrev S24x8x16x128 : Shape := ⟨4, ![24, 8, 16, 128]⟩
abbrev S3072x128 : Shape := ⟨2, ![3072, 128]⟩
abbrev S72x8 : Shape := ⟨2, ![72, 8]⟩
abbrev S3x24 : Shape := ⟨2, ![3, 24]⟩
abbrev S3x24x8 : Shape := ⟨3, ![3, 24, 8]⟩
abbrev S3x8x24 : Shape := ⟨3, ![3, 8, 24]⟩

abbrev nBuf : Space → Nat
  | .hbm => 170
  | .vmem => 0
  | .smem => 0
  | _ => 0

abbrev hbmTy0_0 (i : Nat) : BufTy := match i % 128 with
  | 0 => ⟨S24x3x5120, .bf16⟩
  | 1 => ⟨S5120, .f32⟩
  | 2 => ⟨S2560x7168, .i8⟩
  | 3 => ⟨S7168, .f32⟩
  | 4 => ⟨S7168, .f32⟩
  | 5 => ⟨S24x3x64, .f32⟩
  | 6 => ⟨S24x3x64, .f32⟩
  | 7 => ⟨S24x3x5120, .f32⟩
  | 8 => ⟨S3x24x5120, .f32⟩
  | 9 => ⟨S72x5120, .f32⟩
  | 10 => ⟨S3x24x64, .f32⟩
  | 11 => ⟨S72x64, .f32⟩
  | 12 => ⟨S3x24x64, .f32⟩
  | 13 => ⟨S72x64, .f32⟩
  | 14 => ⟨S72x5120, .f32⟩
  | 15 => ⟨S_, .f32⟩
  | 16 => ⟨S72, .f32⟩
  | 17 => ⟨S72x1, .f32⟩
  | 18 => ⟨S_, .f32⟩
  | 19 => ⟨S72x1, .f32⟩
  | 20 => ⟨S72x1, .f32⟩
  | 21 => ⟨S_, .f32⟩
  | 22 => ⟨S72x1, .f32⟩
  | 23 => ⟨S72x1, .f32⟩
  | 24 => ⟨S72x1, .f32⟩
  | 25 => ⟨S72x5120, .f32⟩
  | 26 => ⟨S72x5120, .f32⟩
  | 27 => ⟨S1x5120, .f32⟩
  | 28 => ⟨S72x5120, .f32⟩
  | 29 => ⟨S72x5120, .f32⟩
  | 30 => ⟨S72x5120, .f32⟩
  | 31 => ⟨S_, .f32⟩
  | 32 => ⟨S72, .f32⟩
  | 33 => ⟨S_, .f32⟩
  | 34 => ⟨S72, .f32⟩
  | 35 => ⟨S72, .i1⟩
  | 36 => ⟨S_, .f32⟩
  | 37 => ⟨S72, .f32⟩
  | 38 => ⟨S72, .f32⟩
  | 39 => ⟨S_, .f32⟩
  | 40 => ⟨S_, .f32⟩
  | 41 => ⟨S72, .f32⟩
  | 42 => ⟨S72, .f32⟩
  | 43 => ⟨S72x1, .f32⟩
  | 44 => ⟨S72x5120, .f32⟩
  | 45 => ⟨S72x5120, .f32⟩
  | 46 => ⟨S72x5120, .f32⟩
  | 47 => ⟨S_, .i32⟩
  | 48 => ⟨S_, .i32⟩
  | 49 => ⟨S_, .f32⟩
  | 50 => ⟨S72x5120, .f32⟩
  | 51 => ⟨S72x5120, .f32⟩
  | 52 => ⟨S_, .f32⟩
  | 53 => ⟨S72x5120, .f32⟩
  | 54 => ⟨S72x5120, .f32⟩
  | 55 => ⟨S72x5120, .i32⟩
  | 56 => ⟨S72x5120, .i8⟩
  | 57 => ⟨S2560x7168, .i32⟩
  | 58 => ⟨S_, .i32⟩
  | 59 => ⟨S2560x7168, .i32⟩
  | 60 => ⟨S2560x7168, .i32⟩
  | 61 => ⟨S2560x7168, .bf16⟩
  | 62 => ⟨S_, .i32⟩
  | 63 => ⟨S2560x7168, .i32⟩
  | 64 => ⟨S2560x7168, .i32⟩
  | 65 => ⟨S2560x7168, .bf16⟩
  | 66 => ⟨S72x5120, .i32⟩
  | 67 => ⟨S72x5120, .bf16⟩
  | 68 => ⟨S72x2560, .bf16⟩
  | 69 => ⟨S72x7168, .f32⟩
  | 70 => ⟨S72x2560, .bf16⟩
  | 71 => ⟨S72x7168, .f32⟩
  | 72 => ⟨S72x7168, .f32⟩
  | 73 => ⟨S72x5120, .f32⟩
  | 74 => ⟨S_, .f32⟩
  | 75 => ⟨S72, .f32⟩
  | 76 => ⟨S72x1, .f32⟩
  | 77 => ⟨S1x7168, .f32⟩
  | 78 => ⟨S72x7168, .f32⟩
  | 79 => ⟨S72x7168, .f32⟩
  | 80 => ⟨S72x7168, .f32⟩
  | 81 => ⟨S72x7168, .f32⟩
  | 82 => ⟨S72x1, .f32⟩
  | 83 => ⟨S72x7168, .f32⟩
  | 84 => ⟨S72x7168, .f32⟩
  | 85 => ⟨S1x7168, .f32⟩
  | 86 => ⟨S72x7168, .f32⟩
  | 87 => ⟨S72x7168, .f32⟩
  | 88 => ⟨S72x5120, .f32⟩
  | 89 => ⟨S72x40x128, .f32⟩
  | 90 => ⟨S72x40x64, .f32⟩
  | 91 => ⟨S72x40x64, .f32⟩
  | 92 => ⟨S72x1x64, .f32⟩
  | 93 => ⟨S72x40x64, .f32⟩
  | 94 => ⟨S72x40x64, .f32⟩
  | 95 => ⟨S72x1x64, .f32⟩
  | 96 => ⟨S72x40x64, .f32⟩
  | 97 => ⟨S72x40x64, .f32⟩
  | 98 => ⟨S72x40x64, .f32⟩
  | 99 => ⟨S72x1x64, .f32⟩
  | 100 => ⟨S72x40x64, .f32⟩
  | 101 => ⟨S72x40x64, .f32⟩
  | 102 => ⟨S72x1x64, .f32⟩
  | 103 => ⟨S72x40x64, .f32⟩
  | 104 => ⟨S72x40x64, .f32⟩
  | 105 => ⟨S72x40x64, .f32⟩
  | 106 => ⟨S72x40x128, .f32⟩
  | 107 => ⟨S72x1024, .f32⟩
  | 108 => ⟨S72x8x128, .f32⟩
  | 109 => ⟨S72x8x64, .f32⟩
  | 110 => ⟨S72x8x64, .f32⟩
  | 111 => ⟨S72x1x64, .f32⟩
  | 112 => ⟨S72x8x64, .f32⟩
  | 113 => ⟨S72x8x64, .f32⟩
  | 114 => ⟨S72x1x64, .f32⟩
  | 115 => ⟨S72x8x64, .f32⟩
  | 116 => ⟨S72x8x64, .f32⟩
  | 117 => ⟨S72x8x64, .f32⟩
  | 118 => ⟨S72x1x64, .f32⟩
  | 119 => ⟨S72x8x64, .f32⟩
  | 120 => ⟨S72x8x64, .f32⟩
  | 121 => ⟨S72x1x64, .f32⟩
  | 122 => ⟨S72x8x64, .f32⟩
  | 123 => ⟨S72x8x64, .f32⟩
  | 124 => ⟨S72x8x64, .f32⟩
  | 125 => ⟨S72x8x128, .f32⟩
  | 126 => ⟨S72x1024, .f32⟩
  | 127 => ⟨S72x8x128, .f32⟩
  | _ => ⟨S24x3x5120, .bf16⟩

abbrev hbmTy0_1 (i : Nat) : BufTy := match i % 128 with
  | 0 => ⟨S3x24x8x5x128, .f32⟩
  | 1 => ⟨S24x8x3x5x128, .f32⟩
  | 2 => ⟨S24x8x15x128, .f32⟩
  | 3 => ⟨S_, .f32⟩
  | 4 => ⟨S24x8x1x128, .f32⟩
  | 5 => ⟨S24x8x16x128, .f32⟩
  | 6 => ⟨S3072x128, .f32⟩
  | 7 => ⟨S_, .f32⟩
  | 8 => ⟨S72x8, .f32⟩
  | 9 => ⟨S_, .f32⟩
  | 10 => ⟨S72x8, .f32⟩
  | 11 => ⟨S72x8, .i1⟩
  | 12 => ⟨S72x8, .f32⟩
  | 13 => ⟨S_, .f32⟩
  | 14 => ⟨S72x8, .f32⟩
  | 15 => ⟨S72x8, .f32⟩
  | 16 => ⟨S_, .f32⟩
  | 17 => ⟨S_, .f32⟩
  | 18 => ⟨S72x8, .f32⟩
  | 19 => ⟨S72x8, .f32⟩
  | 20 => ⟨S_, .f32⟩
  | 21 => ⟨S72x8, .f32⟩
  | 22 => ⟨S_, .f32⟩
  | 23 => ⟨S72x8, .f32⟩
  | 24 => ⟨S72x8, .i1⟩
  | 25 => ⟨S72x8, .f32⟩
  | 26 => ⟨S_, .f32⟩
  | 27 => ⟨S72x8, .f32⟩
  | 28 => ⟨S72x8, .f32⟩
  | 29 => ⟨S_, .f32⟩
  | 30 => ⟨S_, .f32⟩
  | 31 => ⟨S72x8, .f32⟩
  | 32 => ⟨S72x8, .f32⟩
  | 33 => ⟨S3x24, .f32⟩
  | 34 => ⟨S3x24x8, .f32⟩
  | 35 => ⟨S3x8x24, .f32⟩
  | 36 => ⟨S3x24x8, .f32⟩
  | 37 => ⟨S3x8x24, .f32⟩
  | 38 => ⟨S3x24x8, .f32⟩
  | 39 => ⟨S3x8x24, .f32⟩
  | 40 => ⟨S3x24x8, .f32⟩
  | 41 => ⟨S3x8x24, .f32⟩
  | _ => ⟨S24x3x5120, .bf16⟩

abbrev hbmTy (i : Nat) : BufTy := match i / 128 with
  | 0 => hbmTy0_0 i
  | 1 => hbmTy0_1 i
  | _ => ⟨S24x3x5120, .bf16⟩

abbrev bufTy : (tb : Table) → Fin (tcTables nBuf tb) → BufTy
  | .hbm, ⟨i, _⟩ => hbmTy i
  | _, _ => ⟨S24x3x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c : Ref sig .tc := ⟨.hbm, 47, rfl⟩
abbrev main_c_6 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_10 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_11 : Ref sig .tc := ⟨.hbm, 135, rfl⟩
abbrev main_v108 : Ref sig .tc := ⟨.hbm, 136, rfl⟩
abbrev main_cst_12 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_cst_13 : Ref sig .tc := ⟨.hbm, 141, rfl⟩
abbrev main_v112 : Ref sig .tc := ⟨.hbm, 142, rfl⟩
abbrev main_v113 : Ref sig .tc := ⟨.hbm, 143, rfl⟩
abbrev main_cst_14 : Ref sig .tc := ⟨.hbm, 144, rfl⟩
abbrev main_call3_v0 : Ref sig .tc := ⟨.hbm, 145, rfl⟩
abbrev main_call3_v1 : Ref sig .tc := ⟨.hbm, 146, rfl⟩
abbrev main_v114 : Ref sig .tc := ⟨.hbm, 147, rfl⟩
abbrev main_cst_15 : Ref sig .tc := ⟨.hbm, 148, rfl⟩
abbrev main_v115 : Ref sig .tc := ⟨.hbm, 149, rfl⟩
abbrev main_cst_16 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_17 : Ref sig .tc := ⟨.hbm, 154, rfl⟩
abbrev main_v119 : Ref sig .tc := ⟨.hbm, 155, rfl⟩
abbrev main_v120 : Ref sig .tc := ⟨.hbm, 156, rfl⟩
abbrev main_cst_18 : Ref sig .tc := ⟨.hbm, 157, rfl⟩
abbrev main_call4_v0 : Ref sig .tc := ⟨.hbm, 158, rfl⟩
abbrev main_call4_v1 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩

abbrev nD : Nat := 1
abbrev τ : Topo := Topo.v7x

variable {F : FTy → Type} [FloatOps F]
-- ==== Proof.OProj.Values.lean ====
/- WHAT ONE CALL OF THE BODY COMPUTES, as functions of the contents of its input blocks. At the first grid point the body
    gathers the attention outputs into rows (`attnV`), quantises the rows (`codesV`, `scaleV`) and keeps the codes, their row
    sums and the scales in scratch (`abV`, `asumV`, `ascV`); at every grid point it multiplies the codes with one block of
    columns of the weights (`hidV`). -/
module

public import Idealize.ShloMosaic.Lib.Pointwise.Index
public import Idealize.ShloMosaic.Lib.Pipeline.ValueKit
public import Idealize.ShloMosaic.Lib.Pipeline.ReadBack
public import proofs.«01_k».proof.Proof.Gen.OProjIdeal.Frame
public import proofs.«01_k».proof.Proof.Gen.OProjIdeal.Skeleton

@[expose] public section

set_option maxRecDepth 16384

noncomputable section

namespace Cert.OProjIdeal.Hand

open Cert.OProjIdeal Cert.OProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of attention outputs: row `24 s + b`, column `128 h + d` is head `h` of sequence `b` at position `s`. Heads 0 to 29
    come from the first array (96 rows for each sequence), heads 30 to 39 from the second (32 rows for each sequence); five heads
    share one group of 16 rows, of which position `s` takes rows `5 s` to `5 s + 4`. -/
def attnV (x0 : Vec F S2304x128 .f32) (x1 : Vec F S768x128 .f32) : Vec F S72x5120 .f32 := fun j =>
  if h : (j 1).val / 128 < 30 then
    x0 (ix2 (n0 := 2304) (n1 := 128) ⟨(j 0).val % 24 * 96 + (j 1).val / 128 / 5 * 16 + (j 0).val / 24 * 5 + (j 1).val / 128 % 5, by
      have := (j 0).isLt; have h0 : (j 0).val < 72 := this; omega⟩ ⟨(j 1).val % 128, Nat.mod_lt _ (by decide)⟩)
  else
    x1 (ix2 (n0 := 768) (n1 := 128) ⟨(j 0).val % 24 * 32 + ((j 1).val / 128 / 5 - 6) * 16 + (j 0).val / 24 * 5 + (j 1).val / 128 % 5, by
      have := (j 0).isLt; have h0 : (j 0).val < 72 := this
      have := (j 1).isLt; have h1 : (j 1).val < 5120 := this; omega⟩ ⟨(j 1).val % 128, Nat.mod_lt _ (by decide)⟩)

/-- The int8 codes of the rows. -/
def codesV (a : Vec F S72x5120 .f32) : Vec F S72x5120 .i8 := k0_pay4 a
/-- The codes as the multiplication reads them. -/
def abV (a : Vec F S72x5120 .f32) : Vec F S72x5120 .bf16 := k0_pay5 a
/-- The scale of every row, in every lane. -/
def ascV (a : Vec F S72x5120 .f32) : Vec F S72x128 .f32 := k0_pay6 a
/-- The sum of the codes of every row, in every lane. -/
def asumV (a : Vec F S72x5120 .f32) : Vec F S72x128 .f32 := k0_pay7 a
/-- The scales laid out by position and sequence: row `s` is cut out of the transposed scales. -/
def scaleV (a : Vec F S72x5120 .f32) : Vec F S3x24 .f32 := fun j =>
  (if (j 0).val = 0 then k0_pay9 (ascV a) else if (j 0).val = 1 then k0_pay10 (ascV a) else k0_pay11 (ascV a))
    (ix2 (n0 := 1) (n1 := 24) 0 (j 1))
/-- One block of columns of the new hidden state, from the codes `ab`, their sums and scales, the block of the weights `w`, of
    their scales and zero points, and the block of the residual `x`. -/
def hidV (ab : Vec F S72x5120 .bf16) (asum asc : Vec F S72x128 .f32) (x : Vec F S72x512 .bf16) (w : Vec F S2560x512 .i8)
    (ws wz : Vec F S1x512 .f32) : Vec F S72x512 .bf16 :=
  k0_pay12 w (View.ld ab (Rect.unit (s := S72x5120) ![0, 0] S72x2560.size inb_S72x5120_S72x2560_0_0))
    (View.ld ab (Rect.unit (s := S72x5120) ![0, 2560] S72x2560.size inb_S72x5120_S72x2560_0_2560)) wz
    (View.ld asum (Rect.unit (s := S72x128) ![0, 0] S72x1.size inb_S72x128_S72x1_0_0))
    (View.ld asc (Rect.unit (s := S72x128) ![0, 0] S72x1.size inb_S72x128_S72x1_0_0)) ws x

/-- A strided load of the first array, stored at rows from `r` and columns from `c`, is that piece of the attention rows. -/
theorem piece_first {sp : Space} (v : View sig .tc sp S2304x128 .f32) (f : v.ty.Contents (Elt F)) (x0 : Vec F S2304x128 .f32)
    (x1 : Vec F S768x128 .f32) (hf : v.read (Elt F) f = x0) (r c o : Nat) (inb inbL)
    (h : r % 24 = 0 ∧ c % 128 = 0 ∧ c / 128 < 30 ∧ o = c / 128 / 5 * 16 + r / 24 * 5 + c / 128 % 5)
    (x : (Rect.unit (s := S72x5120) ![r, c] S24x128.size inb).shape.Idx) :
    v.readAt (Elt F) (⟨![o, 0], S24x128.size, ![96, 1], inbL⟩ : LoadRect S2304x128) f x
      = attnV x0 x1 ((Rect.unit (s := S72x5120) ![r, c] S24x128.size inb).emb x) := by
  obtain ⟨hr, hc, hh, ho⟩ := h
  have hx0 : (x 0).val < 24 := (x 0).isLt
  have hx1 : (x 1).val < 128 := (x 1).isLt
  have e0 : (((Rect.unit (s := S72x5120) ![r, c] S24x128.size inb).emb x) 0).val = r + (x 0).val := by
    show r + 1 * (x 0).val = _; omega
  have e1 : (((Rect.unit (s := S72x5120) ![r, c] S24x128.size inb).emb x) 1).val = c + (x 1).val := by
    show c + 1 * (x 1).val = _; omega
  subst hf
  have d1 : (c + (x 1).val) / 128 = c / 128 := by omega
  unfold attnV
  rw [dif_pos (by rw [e1, d1]; exact hh), View.readAt_apply]
  congr 1
  funext a
  apply Fin.ext
  match a with
  | ⟨0, _⟩ =>
    show o + 96 * (x 0).val = _
    simp only [ix2_0, Fin.zero_eta, e0, e1, d1]
    omega
  | ⟨1, _⟩ =>
    show 0 + 1 * (x 1).val = _
    simp only [ix2_1, Fin.mk_one, e1]
    omega

/-- A strided load of the second array, stored at rows from `r` and columns from `c`, is that piece of the attention rows. -/
theorem piece_second {sp : Space} (v : View sig .tc sp S768x128 .f32) (f : v.ty.Contents (Elt F)) (x0 : Vec F S2304x128 .f32)
    (x1 : Vec F S768x128 .f32) (hf : v.read (Elt F) f = x1) (r c o : Nat) (inb inbL)
    (h : r % 24 = 0 ∧ c % 128 = 0 ∧ 30 ≤ c / 128 ∧ o = (c / 128 / 5 - 6) * 16 + r / 24 * 5 + c / 128 % 5)
    (x : (Rect.unit (s := S72x5120) ![r, c] S24x128.size inb).shape.Idx) :
    v.readAt (Elt F) (⟨![o, 0], S24x128.size, ![32, 1], inbL⟩ : LoadRect S768x128) f x
      = attnV x0 x1 ((Rect.unit (s := S72x5120) ![r, c] S24x128.size inb).emb x) := by
  obtain ⟨hr, hc, hh, ho⟩ := h
  have hx0 : (x 0).val < 24 := (x 0).isLt
  have hx1 : (x 1).val < 128 := (x 1).isLt
  have e0 : (((Rect.unit (s := S72x5120) ![r, c] S24x128.size inb).emb x) 0).val = r + (x 0).val := by
    show r + 1 * (x 0).val = _; omega
  have e1 : (((Rect.unit (s := S72x5120) ![r, c] S24x128.size inb).emb x) 1).val = c + (x 1).val := by
    show c + 1 * (x 1).val = _; omega
  subst hf
  have d1 : (c + (x 1).val) / 128 = c / 128 := by omega
  unfold attnV
  rw [dif_neg (by rw [e1, d1]; omega), View.readAt_apply]
  congr 1
  funext a
  apply Fin.ext
  match a with
  | ⟨0, _⟩ =>
    show o + 32 * (x 0).val = _
    simp only [ix2_0, Fin.zero_eta, e0, e1, d1]
    omega
  | ⟨1, _⟩ =>
    show 0 + 1 * (x 1).val = _
    simp only [ix2_1, Fin.mk_one, e1]
    omega

/-- The row stored at position `s` is that row of the scales. -/
theorem row_scale (a : Vec F S72x5120 .f32) (s : Nat) (w : Vec F S1x24 .f32)
    (hw : (if s = 0 then k0_pay9 (ascV a) else if s = 1 then k0_pay10 (ascV a) else k0_pay11 (ascV a)) = w) (inb)
    (x : (Rect.unit (s := S3x24) ![s, 0] S1x24.size inb).shape.Idx) :
    w x = scaleV a ((Rect.unit (s := S3x24) ![s, 0] S1x24.size inb).emb x) := by
  have hx : (x 0).val < 1 := (x 0).isLt
  have e0 : (((Rect.unit (s := S3x24) ![s, 0] S1x24.size inb).emb x) 0).val = s := by
    show s + 1 * (x 0).val = _; omega
  unfold scaleV
  rw [e0, hw]
  congr 1
  funext b
  apply Fin.ext
  match b with
  | ⟨0, _⟩ => show (x 0).val = 0; omega
  | ⟨1, _⟩ => show (x 1).val = 0 + 1 * (x 1).val; omega

/-- The same, of the piece as the list of stores holds it. -/
theorem stored_first {sp : Space} (v : View sig .tc sp S2304x128 .f32) (f : v.ty.Contents (Elt F)) (x0 : Vec F S2304x128 .f32)
    (x1 : Vec F S768x128 .f32) (hf : v.read (Elt F) f = x0) (r c o : Nat) (inb inbL)
    (h : r % 24 = 0 ∧ c % 128 = 0 ∧ c / 128 < 30 ∧ o = c / 128 / 5 * 16 + r / 24 * 5 + c / 128 % 5) :
    ∀ x : (⟨Rect.unit (s := S72x5120) ![r, c] S24x128.size inb,
        v.readAt (Elt F) (⟨![o, 0], S24x128.size, ![96, 1], inbL⟩ : LoadRect S2304x128) f⟩ : View.Piece (Elt F) S72x5120 .f32).1.shape.Idx,
      (⟨Rect.unit (s := S72x5120) ![r, c] S24x128.size inb,
        v.readAt (Elt F) (⟨![o, 0], S24x128.size, ![96, 1], inbL⟩ : LoadRect S2304x128) f⟩ : View.Piece (Elt F) S72x5120 .f32).2 x
        = attnV x0 x1 ((⟨Rect.unit (s := S72x5120) ![r, c] S24x128.size inb,
        v.readAt (Elt F) (⟨![o, 0], S24x128.size, ![96, 1], inbL⟩ : LoadRect S2304x128) f⟩ : View.Piece (Elt F) S72x5120 .f32).1.emb x) :=
  fun x => piece_first v f x0 x1 hf r c o inb inbL h x

/-- The same, of the piece as the list of stores holds it. -/
theorem stored_second {sp : Space} (v : View sig .tc sp S768x128 .f32) (f : v.ty.Contents (Elt F)) (x0 : Vec F S2304x128 .f32)
    (x1 : Vec F S768x128 .f32) (hf : v.read (Elt F) f = x1) (r c o : Nat) (inb inbL)
    (h : r % 24 = 0 ∧ c % 128 = 0 ∧ 30 ≤ c / 128 ∧ o = (c / 128 / 5 - 6) * 16 + r / 24 * 5 + c / 128 % 5) :
    ∀ x : (⟨Rect.unit (s := S72x5120) ![r, c] S24x128.size inb,
        v.readAt (Elt F) (⟨![o, 0], S24x128.size, ![32, 1], inbL⟩ : LoadRect S768x128) f⟩ : View.Piece (Elt F) S72x5120 .f32).1.shape.Idx,
      (⟨Rect.unit (s := S72x5120) ![r, c] S24x128.size inb,
        v.readAt (Elt F) (⟨![o, 0], S24x128.size, ![32, 1], inbL⟩ : LoadRect S768x128) f⟩ : View.Piece (Elt F) S72x5120 .f32).2 x
        = attnV x0 x1 ((⟨Rect.unit (s := S72x5120) ![r, c] S24x128.size inb,
        v.readAt (Elt F) (⟨![o, 0], S24x128.size, ![32, 1], inbL⟩ : LoadRect S768x128) f⟩ : View.Piece (Elt F) S72x5120 .f32).1.emb x) :=
  fun x => piece_second v f x0 x1 hf r c o inb inbL h x

/-- Three rows stored one at a time are the scales by position and sequence. -/
theorem canon_scale (a : Vec F S72x5120 .f32) :
    View.canon ([⟨Rect.unit (s := S3x24) ![2, 0] S1x24.size inb_S3x24_S1x24_2_0, k0_pay11 (ascV a)⟩,
      ⟨Rect.unit (s := S3x24) ![1, 0] S1x24.size inb_S3x24_S1x24_1_0, k0_pay10 (ascV a)⟩,
      ⟨Rect.unit (s := S3x24) ![0, 0] S1x24.size inb_S3x24_S1x24_0_0, k0_pay9 (ascV a)⟩] : List (View.Piece (Elt F) S3x24 .f32))
      = scaleV a := by
  funext y
  refine View.canon_apply_of_pieces (scaleV a) _ (fun p hp => ?_) y
    (View.cover_of_tiled (s := S3x24) _ ![1, 24] rfl y)
  simp only [List.mem_cons, List.not_mem_nil, or_false] at hp
  rcases hp with rfl | rfl | rfl
  · exact row_scale a 2 (k0_pay11 (ascV a)) rfl inb_S3x24_S1x24_2_0
  · exact row_scale a 1 (k0_pay10 (ascV a)) rfl inb_S3x24_S1x24_1_0
  · exact row_scale a 0 (k0_pay9 (ascV a)) rfl inb_S3x24_S1x24_0_0

end Cert.OProjIdeal.Hand

end
-- ==== Proof.OProj.BodyA.lean ====
module

public import proofs.«01_k».proof.Proof.OProj.Values

@[expose] public section

set_option maxRecDepth 16384

noncomputable section

namespace Cert.OProjIdeal.Hand

open Cert.OProjIdeal Cert.OProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first grid point: from input blocks at their contents and everything else at anything, it leaves the
    attention rows, their codes and scales, the scratch the other grid points read, and the first block of the hidden state. -/
theorem run_A (c : Dev nD) (i : grid0.Coords) (arg1 : Memref sig .tc .vmem S2304x128 .f32) (harg1 : arg1.IsWhole) (arg2 : Memref sig .tc .vmem S768x128 .f32) (harg2 : arg2.IsWhole) (arg3 : Memref sig .tc .vmem S72x512 .bf16) (harg3 : arg3.IsWhole) (arg4 : Memref sig .tc .vmem S2560x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S72x512 .bf16) (harg7 : arg7.IsWhole) (arg8 : Memref sig .tc .vmem S72x5120 .f32) (harg8 : arg8.IsWhole) (arg9 : Memref sig .tc .vmem S72x5120 .i8) (harg9 : arg9.IsWhole) (arg10 : Memref sig .tc .vmem S3x24 .f32) (harg10 : arg10.IsWhole) (arg11 : Memref sig .tc .vmem S72x5120 .bf16) (harg11 : arg11.IsWhole) (arg12 : Memref sig .tc .vmem S72x128 .f32) (harg12 : arg12.IsWhole) (arg13 : Memref sig .tc .vmem S72x128 .f32) (harg13 : arg13.IsWhole) (hc0 : k0_cond1 i = 1#1)
    (x0 : Vec F S2304x128 .f32) (x1 : Vec F S768x128 .f32) (x2 : Vec F S72x512 .bf16) (x3 : Vec F S2560x512 .i8) (x4 : Vec F S1x512 .f32) (x5 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hidV (abV (attnV x0 x1)) (asumV (attnV x0 x1)) (ascV (attnV x0 x1)) x2 x3 x4 x5) ∗ owns (c : Thread nD τ) arg8 fullShare (attnV x0 x1) ∗ owns (c : Thread nD τ) arg9 fullShare (codesV (attnV x0 x1)) ∗ owns (c : Thread nD τ) arg10 fullShare (scaleV (attnV x0 x1)) ∗ owns (c : Thread nD τ) arg11 fullShare (abV (attnV x0 x1)) ∗ owns (c : Thread nD τ) arg12 fullShare (asumV (attnV x0 x1)) ∗ owns (c : Thread nD τ) arg13 fullShare (ascV (attnV x0 x1))) -∗ K ⟨⟩))
          ⊢ wp frame (wpE (defs₀ (F := F)) Variants.none c none) E (cc0_o_proj i arg1 harg1 arg2 harg2 arg3 harg3 arg4 harg4 arg5 harg5 arg6 harg6 arg7 harg7 arg8 harg8 arg9 harg9 arg10 harg10 arg11 harg11 arg12 harg12 arg13 harg13) K := by
    intro E K
    simp only [cc0_o_proj_eq_skeleton]; unfold cc0_o_proj_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    have hcov : ∀ y : S72x5120.Idx, ∃ p ∈ run_A.sl.H7_120 c arg1 harg1 arg2 harg2 x0 x1, y ∈ p.1.set :=
      View.cover_of_tiledL _ S24x128.size rfl
    have hcan : View.canon (run_A.sl.H7_120 c arg1 harg1 arg2 harg2 x0 x1) = attnV x0 x1 := by
      funext y
      refine View.canon_apply_of_pieces (attnV x0 x1) _ (View.PiecesOf.mem ?_) y (hcov y)
      clear hcov
      sl_unfold_words
      repeat' apply And.intro
      all_goals first
        | exact stored_first _ _ x0 x1 hf0 _ _ _ _ _ (by decide)
        | exact stored_second _ _ x0 x1 hf1 _ _ _ _ _ (by decide)
        | exact trivial
    have hv : run_A.sl.v276 c arg1 harg1 arg2 harg2 arg8 x0 x1 = attnV x0 x1 := by
      unfold run_A.sl.v276
      rw [View.readCov_eq_canon_ld _ _ _ hcov, hcan, View.ld_unit_lit _ _ (by decide)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (View.read_writes_eq_canon _ _ _ (View.cover_of_tiled_head _ _ _ rfl)).trans ?_
      rw [View.canon_cons_unit_lit _ _ _ (by decide)]
      unfold run_A.sl.r_8
      clear * - hv hf2 hf3 hf4 hf5
      have h11 : run_A.sl.v11 c arg1 harg1 arg2 harg2 arg8 arg11 x0 x1
          = View.ld (abV (attnV x0 x1)) (Rect.unit (s := S72x5120) ![0, 0] S72x2560.size inb_S72x5120_S72x2560_0_0) := by
        unfold run_A.sl.v11 run_A.sl.HS0_1
        rw [View.readCov_eq_canon_ld _ _ _ (View.cover_of_tiled_head _ _ _ rfl), View.canon_cons_unit_lit _ _ _ (by decide), hv]
        rfl
      have h13 : run_A.sl.v13 c arg1 harg1 arg2 harg2 arg8 arg11 x0 x1
          = View.ld (abV (attnV x0 x1)) (Rect.unit (s := S72x5120) ![0, 2560] S72x2560.size inb_S72x5120_S72x2560_0_2560) := by
        unfold run_A.sl.v13 run_A.sl.HS0_1
        rw [View.readCov_eq_canon_ld _ _ _ (View.cover_of_tiled_head _ _ _ rfl), View.canon_cons_unit_lit _ _ _ (by decide), hv]
        rfl
      have h18 : run_A.sl.v18 c arg1 harg1 arg2 harg2 arg8 arg12 x0 x1
          = View.ld (asumV (attnV x0 x1)) (Rect.unit (s := S72x128) ![0, 0] S72x1.size inb_S72x128_S72x1_0_0) := by
        unfold run_A.sl.v18 run_A.sl.HS1_1
        rw [View.readCov_eq_canon_ld _ _ _ (View.cover_of_tiled_head _ _ _ rfl), View.canon_cons_unit_lit _ _ _ (by decide), hv]
        rfl
      have h23 : run_A.sl.v23 c arg1 harg1 arg2 harg2 arg8 arg13 x0 x1
          = View.ld (ascV (attnV x0 x1)) (Rect.unit (s := S72x128) ![0, 0] S72x1.size inb_S72x128_S72x1_0_0) := by
        unfold run_A.sl.v23 run_A.sl.HS2_1
        rw [View.readCov_eq_canon_ld _ _ _ (View.cover_of_tiled_head _ _ _ rfl), View.canon_cons_unit_lit _ _ _ (by decide), hv]
        rfl
      rw [h11, h13, h18, h23]
      simp only [View.readAt_eq_ld, hf2, hf3, hf4, hf5]
      unfold hidV
      rw [View.ld_unit_lit _ x3 (by decide), View.ld_unit_lit _ x5 (by decide), View.ld_unit_lit _ x4 (by decide),
        View.ld_unit_lit _ x2 (by decide)]
    isplitl [H7]
    · iexists _; isplitr; swap; · iexact H7
      ipureintro
      rw [View.read_writes_eq_canon _ _ _ hcov, hcan]
    isplitl [H8]
    · iexists _; isplitr; swap; · iexact H8
      ipureintro
      rw [View.read_writes_eq_canon _ _ _ (View.cover_of_tiled_head _ _ _ rfl), View.canon_cons_unit_lit _ _ _ (by decide), hv]
      rfl
    isplitl [H9]
    · iexists _; isplitr; swap; · iexact H9
      ipureintro
      have hs : run_A.sl.v314 c arg1 harg1 arg2 harg2 arg8 arg13 x0 x1 = ascV (attnV x0 x1) := by
        unfold run_A.sl.v314
        rw [← hv]
        exact (View.readCov_unit_lit _ _ _ (by decide)).trans rfl
      rw [View.read_writes_eq_canon _ _ _ (View.cover_of_tiled_head _ _ _ rfl), hs]
      exact canon_scale _
    isplitl [HS0]
    · iexists _; isplitr; swap; · iexact HS0
      ipureintro
      unfold run_A.sl.HS0_1
      rw [View.read_writes_eq_canon _ _ _ (View.cover_of_tiled_head _ _ _ rfl), View.canon_cons_unit_lit _ _ _ (by decide), hv]
      rfl
    isplitl [HS1]
    · iexists _; isplitr; swap; · iexact HS1
      ipureintro
      unfold run_A.sl.HS1_1
      rw [View.read_writes_eq_canon _ _ _ (View.cover_of_tiled_head _ _ _ rfl), View.canon_cons_unit_lit _ _ _ (by decide), hv]
      rfl
    iexists _; isplitr; swap; · iexact HS2
    ipureintro
    unfold run_A.sl.HS2_1
    rw [View.read_writes_eq_canon _ _ _ (View.cover_of_tiled_head _ _ _ rfl), View.canon_cons_unit_lit _ _ _ (by decide), hv]
    rfl

end Cert.OProjIdeal.Hand

end
-- ==== Proof.OProj.BodyB.lean ====
module

public import proofs.«01_k».proof.Proof.OProj.Values

@[expose] public section

set_option maxRecDepth 16384

noncomputable section

namespace Cert.OProjIdeal.Hand

open Cert.OProjIdeal Cert.OProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a grid point other than the first: on whole staging buffers, it leaves everything as it was but the block of the
    hidden state, which it sets to `hidV` of the codes, sums and scales it finds in scratch. -/
theorem run_B (c : Dev nD) (i : grid0.Coords) (arg1 : Memref sig .tc .vmem S2304x128 .f32) (harg1 : arg1.IsWhole) (arg2 : Memref sig .tc .vmem S768x128 .f32) (harg2 : arg2.IsWhole) (arg3 : Memref sig .tc .vmem S72x512 .bf16) (harg3 : arg3.IsWhole) (arg4 : Memref sig .tc .vmem S2560x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S72x512 .bf16) (harg7 : arg7.IsWhole) (arg8 : Memref sig .tc .vmem S72x5120 .f32) (harg8 : arg8.IsWhole) (arg9 : Memref sig .tc .vmem S72x5120 .i8) (harg9 : arg9.IsWhole) (arg10 : Memref sig .tc .vmem S3x24 .f32) (harg10 : arg10.IsWhole) (arg11 : Memref sig .tc .vmem S72x5120 .bf16) (harg11 : arg11.IsWhole) (arg12 : Memref sig .tc .vmem S72x128 .f32) (harg12 : arg12.IsWhole) (arg13 : Memref sig .tc .vmem S72x128 .f32) (harg13 : arg13.IsWhole) (hc0 : ¬k0_cond1 i = 1#1)
    (x0 : Vec F S2304x128 .f32) (x1 : Vec F S768x128 .f32) (x2 : Vec F S72x512 .bf16) (x3 : Vec F S2560x512 .i8) (x4 : Vec F S1x512 .f32) (x5 : Vec F S1x512 .f32)
    (x7 : Vec F S72x5120 .f32) (x8 : Vec F S72x5120 .i8) (x9 : Vec F S3x24 .f32) (ab : Vec F S72x5120 .bf16) (asum asc : Vec F S72x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ owns (c : Thread nD τ) arg9 fullShare x8 ∗ owns (c : Thread nD τ) arg10 fullShare x9 ∗ owns (c : Thread nD τ) arg11 fullShare ab ∗ owns (c : Thread nD τ) arg12 fullShare asum ∗ owns (c : Thread nD τ) arg13 fullShare asc
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hidV ab asum asc x2 x3 x4 x5) ∗ owns (c : Thread nD τ) arg8 fullShare x7 ∗ owns (c : Thread nD τ) arg9 fullShare x8 ∗ owns (c : Thread nD τ) arg10 fullShare x9 ∗ owns (c : Thread nD τ) arg11 fullShare ab ∗ owns (c : Thread nD τ) arg12 fullShare asum ∗ owns (c : Thread nD τ) arg13 fullShare asc) -∗ K ⟨⟩))
          ⊢ wp frame (wpE (defs₀ (F := F)) Variants.none c none) E (cc0_o_proj i arg1 harg1 arg2 harg2 arg3 harg3 arg4 harg4 arg5 harg5 arg6 harg6 arg7 harg7 arg8 harg8 arg9 harg9 arg10 harg10 arg11 harg11 arg12 harg12 arg13 harg13) K := by
    intro E K
    simp only [cc0_o_proj_eq_skeleton]; unfold cc0_o_proj_skel
    simp only [k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hf7; obtain rfl := harg9.eq_unread hf8; obtain rfl := harg10.eq_unread hf9; obtain rfl := harg11.eq_unread hfs0; obtain rfl := harg12.eq_unread hfs1; obtain rfl := harg13.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (View.read_writes_eq_canon _ _ _ (View.cover_of_tiled_head _ _ _ rfl)).trans ?_
      rw [View.canon_cons_unit_lit _ _ _ (by decide)]
      sl_unfold_words
      simp only [View.readAt_eq_ld, hf2, hf3, hf4, hf5, hfs0, hfs1, hfs2]
      unfold hidV
      rw [View.ld_unit_lit _ x3 (by decide), View.ld_unit_lit _ x5 (by decide), View.ld_unit_lit _ x4 (by decide),
        View.ld_unit_lit _ x2 (by decide)]
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]
    · iexists _; isplitr; · ipureintro; exact harg11.read_unread _
      iexact HS0
    isplitl [HS1]
    · iexists _; isplitr; · ipureintro; exact harg12.read_unread _
      iexact HS1
    iexists _; isplitr; · ipureintro; exact harg13.read_unread _
    iexact HS2

end Cert.OProjIdeal.Hand

end
-- ==== Proof.OProj.Run.lean ====
/- THE RUN OF THE CALL with every output named. The attention rows, their codes and their scales are stored at the first grid
    point alone and written back after the last one: between the two the body leaves those three buffers as it found them, and
    what the first point stored stays there (`before_kept`). The scratch the first point fills is carried by name (`ΦS`). -/
module

public import proofs.«01_k».proof.Proof.OProj.BodyA
public import proofs.«01_k».proof.Proof.OProj.BodyB
public import Idealize.ShloMosaic.Lib.Pipeline.TableIdle
public import Idealize.ShloMosaic.Lib.Claim

@[expose] public section

set_option maxRecDepth 16384

noncomputable section

namespace Cert.OProjIdeal.Hand

open Cert.OProjIdeal Cert.OProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition holds at the first point only. -/
theorem cond_iff : ∀ t : Fin cfg0.N, k0_cond1 (grid0.coords t) = 1#1 ↔ t.val = 0 :=
  (fun t => by
    have ht : t.val < 10 := Nat.lt_of_lt_of_eq t.isLt N_0
    have e0 : (grid0.coords t 0).val = t.val / 1 % 10 := Pipeline.Grid.coords_val t 0 (by decide) rfl
    simp only [k0_cond1, e0]
    word_cmp
   : ∀ t : Fin grid0.N, k0_cond1 (grid0.coords t) = 1#1 ↔ t.val = 0)

abbrev ms0 (t : Fin cfg0.N) : Memref sig .tc .vmem S2304x128 .f32 := win0_0.stage (cfg0.slots t 0)
abbrev ms1 (t : Fin cfg0.N) : Memref sig .tc .vmem S768x128 .f32 := win0_1.stage (cfg0.slots t 1)
abbrev ms2 (t : Fin cfg0.N) : Memref sig .tc .vmem S72x512 .bf16 := win0_2.stage (cfg0.slots t 2)
abbrev ms3 (t : Fin cfg0.N) : Memref sig .tc .vmem S2560x512 .i8 := win0_3.stage (cfg0.slots t 3)
abbrev ms4 (t : Fin cfg0.N) : Memref sig .tc .vmem S1x512 .f32 := win0_4.stage (cfg0.slots t 4)
abbrev ms5 (t : Fin cfg0.N) : Memref sig .tc .vmem S1x512 .f32 := win0_5.stage (cfg0.slots t 5)
abbrev ms6 (t : Fin cfg0.N) : Memref sig .tc .vmem S72x512 .bf16 := win0_6.stage (cfg0.slots t 6)
abbrev ms7 (t : Fin cfg0.N) : Memref sig .tc .vmem S72x5120 .f32 := win0_7.stage (cfg0.slots t 7)
abbrev ms8 (t : Fin cfg0.N) : Memref sig .tc .vmem S72x5120 .i8 := win0_8.stage (cfg0.slots t 8)
abbrev ms9 (t : Fin cfg0.N) : Memref sig .tc .vmem S3x24 .f32 := win0_9.stage (cfg0.slots t 9)

/-- The scratch: the codes, their row sums, the scales. -/
abbrev sc0 : Memref sig .tc .vmem S72x5120 .bf16 := Memref.whole cc0_scratch0
abbrev sc1 : Memref sig .tc .vmem S72x128 .f32 := Memref.whole cc0_scratch1
abbrev sc2 : Memref sig .tc .vmem S72x128 .f32 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The first grid point. -/
def tz : Fin cfg0.N := t0_0

/-- The attention rows, from the blocks the first point reads. -/
def attn (c : Dev nD) : Vec F S72x5120 .f32 := attnV (iblk m c 0 tz) (iblk m c 1 tz)

/-- The block of the hidden state at point `t`. -/
def hid (c : Dev nD) (t : Fin cfg0.N) : Vec F S72x512 .bf16 :=
  hidV (abV (attn m c)) (asumV (attn m c)) (ascV (attn m c)) (iblk m c 2 t) (iblk m c 3 t) (iblk m c 4 t) (iblk m c 5 t)

/-- The invariant before point `n`: at the first point the scratch holds anything; after it the codes, their sums and the scales. -/
def ΦS (c : Dev nD) : ℕ → sProp 𝕄
  | 0 => Pipeline.ΦA spec0 c
  | _ + 1 => iprop(iprop(owns (c : Thread nD τ) sc0 fullShare (abV (attn m c)) ∗ owns (c : Thread nD τ) sc1 fullShare (asumV (attn m c)) ∗ owns (c : Thread nD τ) sc2 fullShare (ascV (attn m c))) ∗ (∃ r, prngReg c r))

theorem ΦS_pos (c : Dev nD) {n : ℕ} (h : n ≠ 0) :
    ΦS m c n = iprop(iprop(owns (c : Thread nD τ) sc0 fullShare (abV (attn m c)) ∗ owns (c : Thread nD τ) sc1 fullShare (asumV (attn m c)) ∗ owns (c : Thread nD τ) sc2 fullShare (ascV (attn m c))) ∗ (∃ r, prngReg c r)) := by
  obtain ⟨k, rfl⟩ := Nat.exists_eq_succ_of_ne_zero h; rfl

/-- The proof data: the arrays as the region finds them, what the body leaves in every window, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hid m c t
    | ⟨7, _⟩ => attn m c
    | ⟨8, _⟩ => codesV (attn m c)
    | ⟨9, _⟩ => scaleV (attn m c)
  Φ t := ΦS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = hid m c t := by dsimp only [dats]
theorem after_7 (c : Dev nD) (t : Fin cfg0.N) : (dats m 0 c).after 7 t = attn m c := by dsimp only [dats]
theorem after_8 (c : Dev nD) (t : Fin cfg0.N) : (dats m 0 c).after 8 t = codesV (attn m c) := by dsimp only [dats]
theorem after_9 (c : Dev nD) (t : Fin cfg0.N) : (dats m 0 c).after 9 t = scaleV (attn m c) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The buffers stored at the first point alone: idle after it, written back at the last point. -/
theorem fresh_step_7 : ∀ t : Fin cfg0.N, (t.val + 1 == 0 || t.val + 1 == 10)
    = ((cfg0.win 7).flush t || (cfg0.idle 7 (cfg0.grid.coords t) && (t.val == 0 || t.val == 10))) := by
  decide +kernel
theorem fresh_step_8 : ∀ t : Fin cfg0.N, (t.val + 1 == 0 || t.val + 1 == 10)
    = ((cfg0.win 8).flush t || (cfg0.idle 8 (cfg0.grid.coords t) && (t.val == 0 || t.val == 10))) := by
  decide +kernel
theorem fresh_step_9 : ∀ t : Fin cfg0.N, (t.val + 1 == 0 || t.val + 1 == 10)
    = ((cfg0.win 9).flush t || (cfg0.idle 9 (cfg0.grid.coords t) && (t.val == 0 || t.val == 10))) := by
  decide +kernel

/-- Before which points the three buffers stored at the first point alone hold nothing of the body's. -/
theorem fresh_out (w : Fin cfg0.W) (hw : w.val = 7 ∨ w.val = 8 ∨ w.val = 9) (t : Fin cfg0.N) :
    cfg0.fresh w t.val = (t.val == 0 || t.val == 10) := by
  refine cfg0.fresh_tab w (fun n => n == 0 || n == 10) rfl ?_ t.val (Nat.le_of_lt t.isLt)
  obtain ⟨w, hw'⟩ := w
  rcases hw with rfl | rfl | rfl
  · exact fresh_step_7
  · exact fresh_step_8
  · exact fresh_step_9

/-- After the first point each of those buffers holds, before the body, what the first point stored. -/
theorem before_kept (c : Dev nD) (w : Fin cfg0.W) (hw : w.val = 7 ∨ w.val = 8 ∨ w.val = 9) (t : Fin cfg0.N) (ht : t.val ≠ 0) (d) :
    (dats m 0 c).before w t d = (dats m 0 c).after w t := by
  have hN : t.val < 10 := Nat.lt_of_lt_of_eq t.isLt N_0
  have hf : (t.val == 0 || t.val == 10) = false := by
    rw [Bool.or_eq_false_iff]; exact ⟨beq_eq_false_iff_ne.mpr ht, beq_eq_false_iff_ne.mpr (by omega)⟩
  have hfr := fresh_out w hw t
  rw [hf] at hfr
  obtain ⟨w, hw'⟩ := w
  rcases hw with rfl | rfl | rfl
  · rw [(dats m 0 c).before_out_traj ⟨7, hw'⟩ rfl (fun _ _ => rfl) (fun t _ _ _ => rfl) t.val t rfl d, hfr, if_neg Bool.false_ne_true]; rfl
  · rw [(dats m 0 c).before_out_traj ⟨8, hw'⟩ rfl (fun _ _ => rfl) (fun t _ _ _ => rfl) t.val t rfl d, hfr, if_neg Bool.false_ne_true]; rfl
  · rw [(dats m 0 c).before_out_traj ⟨9, hw'⟩ rfl (fun _ _ => rfl) (fun t _ _ _ => rfl) t.val t rfl d, hfr, if_neg Bool.false_ne_true]; rfl

/-- A window left at what the proof data say, and found so at an idle point, is left as the body must leave it. -/
theorem leaves_of (c : Dev nD) (w : Fin cfg0.W) (t : Fin cfg0.N)
    (h : cfg0.idle w (cfg0.grid.coords t) = true → ∀ d, (dats m 0 c).before w t d = (dats m 0 c).after w t) :
    owns (c : Thread nD τ) ((cfg0.win w).stage (cfg0.slots t w)) fullShare ((dats m 0 c).after w t) ⊢ (dats m 0 c).leavesExact w t := by
  cases hi : cfg0.idle w (cfg0.grid.coords t)
  · unfold Dat.leavesExact; rw [hi]
  · cases hf : (cfg0.win w).flush t
    · rw [(dats m 0 c).leavesExact_idle w t hi hf]
      iintro H
      iexists ((dats m 0 c).after w t)
      rw [h hi]
      iexact H
    · unfold Dat.leavesExact; rw [hi, hf]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    show (dats m 0 c).Φ t.castSucc = ΦS m c t.val from rfl, show (dats m 0 c).Φ t.succ = ΦS m c (t.val + 1) from rfl,
    ΦS_pos m c (Nat.succ_ne_zero t.val)]
  by_cases h0 : t.val = 0
  · have hc := (cond_iff t).mpr h0
    have hidle : (!(k0_cond1 (cfg0.grid.coords t) == 1#1)) = false := by
      show (!(k0_cond1 (grid0.coords t) == 1#1)) = false
      rw [hc]; rfl
    have L0 := leaves_of m c 0 t (fun h => absurd (h) Bool.false_ne_true)
    have L1 := leaves_of m c 1 t (fun h => absurd (h) Bool.false_ne_true)
    have L2 := leaves_of m c 2 t (fun h => absurd (h) Bool.false_ne_true)
    have L3 := leaves_of m c 3 t (fun h => absurd (h) Bool.false_ne_true)
    have L4 := leaves_of m c 4 t (fun h => absurd (h) Bool.false_ne_true)
    have L5 := leaves_of m c 5 t (fun h => absurd (h) Bool.false_ne_true)
    have L6 := leaves_of m c 6 t (fun h => absurd (h) Bool.false_ne_true)
    have L7 := leaves_of m c 7 t (fun h => absurd (hidle.symm.trans h) Bool.false_ne_true)
    have L8 := leaves_of m c 8 t (fun h => absurd (hidle.symm.trans h) Bool.false_ne_true)
    have L9 := leaves_of m c 9 t (fun h => absurd (hidle.symm.trans h) Bool.false_ne_true)
    rw [after_0] at L0; rw [after_1] at L1; rw [after_2] at L2; rw [after_3] at L3; rw [after_4] at L4; rw [after_5] at L5
    rw [after_6] at L6; rw [after_7] at L7; rw [after_8] at L8; rw [after_9] at L9
    have et : t = tz := Fin.ext h0
    rw [show ΦS m c t.val = Pipeline.ΦA spec0 c by rw [h0]; rfl, PhiA_eq]
    have ea : attnV (iblk m c 0 t) (iblk m c 1 t) = attn m c := by rw [et]; rfl
    have R := run_A c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) sc0 (Memref.isWhole_whole _) sc1 (Memref.isWhole_whole _) sc2 (Memref.isWhole_whole _) hc (iblk m c 0 t) (iblk m c 1 t) (iblk m c 2 t) (iblk m c 3 t) (iblk m c 4 t) (iblk m c 5 t) Set.univ
    rw [ea] at R
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (R _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iapply L0; iexact H0
    isplitl [H1]; · iapply L1; iexact H1
    isplitl [H2]; · iapply L2; iexact H2
    isplitl [H3]; · iapply L3; iexact H3
    isplitl [H4]; · iapply L4; iexact H4
    isplitl [H5]; · iapply L5; iexact H5
    isplitl [H6]; · iapply L6; iexact H6
    isplitl [H7]; · iapply L7; iexact H7
    isplitl [H8]; · iapply L8; iexact H8
    iapply L9; iexact H9
  · have hc : ¬k0_cond1 (grid0.coords t) = 1#1 := fun h => h0 ((cond_iff t).mp h)
    have L0 := leaves_of m c 0 t (fun h => absurd h Bool.false_ne_true)
    have L1 := leaves_of m c 1 t (fun h => absurd h Bool.false_ne_true)
    have L2 := leaves_of m c 2 t (fun h => absurd h Bool.false_ne_true)
    have L3 := leaves_of m c 3 t (fun h => absurd h Bool.false_ne_true)
    have L4 := leaves_of m c 4 t (fun h => absurd h Bool.false_ne_true)
    have L5 := leaves_of m c 5 t (fun h => absurd h Bool.false_ne_true)
    have L6 := leaves_of m c 6 t (fun h => absurd h Bool.false_ne_true)
    have L7 := leaves_of m c 7 t (fun _ d => before_kept m c 7 (by decide) t h0 d)
    have L8 := leaves_of m c 8 t (fun _ d => before_kept m c 8 (by decide) t h0 d)
    have L9 := leaves_of m c 9 t (fun _ d => before_kept m c 9 (by decide) t h0 d)
    rw [after_0] at L0; rw [after_1] at L1; rw [after_2] at L2; rw [after_3] at L3; rw [after_4] at L4; rw [after_5] at L5
    rw [after_6] at L6; rw [after_7] at L7; rw [after_8] at L8; rw [after_9] at L9
    rw [ΦS_pos m c h0]
    simp only [before_kept m c 7 (by decide) t h0, before_kept m c 8 (by decide) t h0, before_kept m c 9 (by decide) t h0, after_7, after_8, after_9]
    have R := run_B c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) sc0 (Memref.isWhole_whole _) sc1 (Memref.isWhole_whole _) sc2 (Memref.isWhole_whole _) hc (iblk m c 0 t) (iblk m c 1 t) (iblk m c 2 t) (iblk m c 3 t) (iblk m c 4 t) (iblk m c 5 t) (attn m c) (codesV (attn m c)) (scaleV (attn m c)) (abV (attn m c)) (asumV (attn m c)) (ascV (attn m c)) Set.univ
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (R _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iapply L0; iexact H0
    isplitl [H1]; · iapply L1; iexact H1
    isplitl [H2]; · iapply L2; iexact H2
    isplitl [H3]; · iapply L3; iexact H3
    isplitl [H4]; · iapply L4; iexact H4
    isplitl [H5]; · iapply L5; iexact H5
    isplitl [H6]; · iapply L6; iexact H6
    isplitl [H7]; · iapply L7; iexact H7
    isplitl [H8]; · iapply L8; iexact H8
    iapply L9; iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- After the last point the invariant gives the scratch back. -/
theorem phi_out (c : Dev nD) : (dats (F := F) m 0 c).Φ (Fin.last cfg0.N) ⊢ Pipeline.ΦA spec0 c := by
  rw [show (dats m 0 c).Φ (Fin.last cfg0.N) = ΦS m c cfg0.N from rfl, ΦS_pos m c (by decide), PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every execution terminates with every array of the call at what the proof data say and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := phi_out m)

/-- The argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.OProjIdeal.Hand

end
-- ==== Proof.OProj.Arrays.lean ====
/- WHAT THE ARRAYS HOLD AFTER THE CALL, as functions of the argument arrays. The grid walks the columns of the weights in ten
    blocks of 512: the hidden state is one block of columns at every point (`hidG`), the attention rows, the codes and the
    scales are whole arrays written back after the last point. -/
module

public import proofs.«01_k».proof.Proof.OProj.Run
public import Idealize.ShloMosaic.Lib.Pipeline.Value
public import Idealize.ShloMosaic.Lib.Pipeline.ValueKit

@[expose] public section

noncomputable section

namespace Cert.OProjIdeal.Hand

open Cert.OProjIdeal Cert.OProjIdeal.Gen
open Idealize.ShloMosaic Idealize.ShloMosaic.TcCoe Idealize.ShloMosaic.Tactic Idealize.SL.Sem

variable {F : FTy → Type} [FloatOps F]

/-- Block `t` of 512 columns of an array of 5120 columns. -/
def colsOf {α : Type} (n : Nat) (X : (⟨2, ![n, 5120]⟩ : Shape).Idx → α) (t : Fin 10) : (⟨2, ![n, 512]⟩ : Shape).Idx → α := fun j =>
  X (ix2 (n0 := n) (n1 := 5120) (j 0) ⟨t.val * 512 + (j 1).val, by
    have h1 : (j 1).val < 512 := (j 1).isLt
    omega⟩)

/-- The new hidden state: column `k` is computed in block `k / 512`. -/
def hidG (a : Vec F S72x5120 .f32) (x : Vec F S72x5120 .bf16) (w : Vec F S2560x5120 .i8) (ws wz : Vec F S1x5120 .f32) :
    Vec F S72x5120 .bf16 := fun j =>
  have hj : (j 1).val < 5120 := (j 1).isLt
  have t : Fin 10 := ⟨(j 1).val / 512, by omega⟩
  hidV (abV a) (asumV a) (ascV a) (colsOf 72 x t) (colsOf 2560 w t) (colsOf 1 ws t) (colsOf 1 wz t)
    (ix2 (n0 := 72) (n1 := 512) (j 0) ⟨(j 1).val % 512, Nat.mod_lt _ (by decide)⟩)

variable (m : (ℓ : Loc nD τ sig) → Buf (Elt F) ℓ) (ρ : Dev nD → PrngReg)

theorem idx_0 : ∀ t : Fin cfg0.N, win0_0.index t (0 : Fin 2) = 0 ∧ win0_0.index t (1 : Fin 2) = 0 := (by decide +kernel : ∀ t : Fin grid0.N, _)
theorem idx_1 : ∀ t : Fin cfg0.N, win0_1.index t (0 : Fin 2) = 0 ∧ win0_1.index t (1 : Fin 2) = 0 := (by decide +kernel : ∀ t : Fin grid0.N, _)
theorem idx_2 : ∀ t : Fin cfg0.N, win0_2.index t (0 : Fin 2) = 0 ∧ win0_2.index t (1 : Fin 2) = t.val := (by decide +kernel : ∀ t : Fin grid0.N, _)
theorem idx_3 : ∀ t : Fin cfg0.N, win0_3.index t (0 : Fin 2) = 0 ∧ win0_3.index t (1 : Fin 2) = t.val := (by decide +kernel : ∀ t : Fin grid0.N, _)
theorem idx_4 : ∀ t : Fin cfg0.N, win0_4.index t (0 : Fin 2) = 0 ∧ win0_4.index t (1 : Fin 2) = t.val := (by decide +kernel : ∀ t : Fin grid0.N, _)
theorem idx_5 : ∀ t : Fin cfg0.N, win0_5.index t (0 : Fin 2) = 0 ∧ win0_5.index t (1 : Fin 2) = t.val := (by decide +kernel : ∀ t : Fin grid0.N, _)
theorem idx_6 : ∀ t : Fin cfg0.N, win0_6.index t (0 : Fin 2) = 0 ∧ win0_6.index t (1 : Fin 2) = t.val := (by decide +kernel : ∀ t : Fin grid0.N, _)
theorem idx_7 : ∀ t : Fin cfg0.N, win0_7.index t (0 : Fin 2) = 0 ∧ win0_7.index t (1 : Fin 2) = 0 := (by decide +kernel : ∀ t : Fin grid0.N, _)
theorem idx_8 : ∀ t : Fin cfg0.N, win0_8.index t (0 : Fin 2) = 0 ∧ win0_8.index t (1 : Fin 2) = 0 := (by decide +kernel : ∀ t : Fin grid0.N, _)
theorem idx_9 : ∀ t : Fin cfg0.N, win0_9.index t (0 : Fin 2) = 0 ∧ win0_9.index t (1 : Fin 2) = 0 := (by decide +kernel : ∀ t : Fin grid0.N, _)

/-- A point's place in the list of column blocks. -/
def pt (t : Fin cfg0.N) : Fin 10 := ⟨t.val, Nat.lt_of_lt_of_eq t.isLt N_0⟩

/-! A window that is its whole array reads that array; a window of columns reads its block of columns. -/

theorem iblk_0 (c : Dev nD) (t : Fin cfg0.N) : iblk m c 0 t = V m c main_arg0 := by
  obtain ⟨e0, e1⟩ := idx_0 t
  funext j; show V m c main_arg0 (((cfg0.win 0).blk t).view.emb j) = V m c main_arg0 j
  refine congrArg _ (funext fun a => Fin.ext ?_)
  match a with
  | ⟨0, _⟩ => show win0_0.index t (0 : Fin 2) * 2304 + 1 * (j 0).val = (j 0).val; omega
  | ⟨1, _⟩ => show win0_0.index t (1 : Fin 2) * 128 + 1 * (j 1).val = (j 1).val; omega

theorem iblk_1 (c : Dev nD) (t : Fin cfg0.N) : iblk m c 1 t = V m c main_arg1 := by
  obtain ⟨e0, e1⟩ := idx_1 t
  funext j; show V m c main_arg1 (((cfg0.win 1).blk t).view.emb j) = V m c main_arg1 j
  refine congrArg _ (funext fun a => Fin.ext ?_)
  match a with
  | ⟨0, _⟩ => show win0_1.index t (0 : Fin 2) * 768 + 1 * (j 0).val = (j 0).val; omega
  | ⟨1, _⟩ => show win0_1.index t (1 : Fin 2) * 128 + 1 * (j 1).val = (j 1).val; omega

theorem iblk_2 (c : Dev nD) (t : Fin cfg0.N) : iblk m c 2 t = colsOf 72 (V m c main_v1) (pt t) := by
  obtain ⟨e0, e1⟩ := idx_2 t
  funext j; show V m c main_v1 (((cfg0.win 2).blk t).view.emb j) = _
  refine congrArg (V m c main_v1) (funext fun a => Fin.ext ?_)
  match a with
  | ⟨0, _⟩ => show win0_2.index t (0 : Fin 2) * 72 + 1 * (j 0).val = (j 0).val; omega
  | ⟨1, _⟩ => show win0_2.index t (1 : Fin 2) * 512 + 1 * (j 1).val = t.val * 512 + (j 1).val; omega

theorem iblk_3 (c : Dev nD) (t : Fin cfg0.N) : iblk m c 3 t = colsOf 2560 (V m c main_arg3) (pt t) := by
  obtain ⟨e0, e1⟩ := idx_3 t
  funext j; show V m c main_arg3 (((cfg0.win 3).blk t).view.emb j) = _
  refine congrArg (V m c main_arg3) (funext fun a => Fin.ext ?_)
  match a with
  | ⟨0, _⟩ => show win0_3.index t (0 : Fin 2) * 2560 + 1 * (j 0).val = (j 0).val; omega
  | ⟨1, _⟩ => show win0_3.index t (1 : Fin 2) * 512 + 1 * (j 1).val = t.val * 512 + (j 1).val; omega

theorem iblk_4 (c : Dev nD) (t : Fin cfg0.N) : iblk m c 4 t = colsOf 1 (V m c main_v2) (pt t) := by
  obtain ⟨e0, e1⟩ := idx_4 t
  funext j; show V m c main_v2 (((cfg0.win 4).blk t).view.emb j) = _
  refine congrArg (V m c main_v2) (funext fun a => Fin.ext ?_)
  match a with
  | ⟨0, _⟩ => show win0_4.index t (0 : Fin 2) * 1 + 1 * (j 0).val = (j 0).val; omega
  | ⟨1, _⟩ => show win0_4.index t (1 : Fin 2) * 512 + 1 * (j 1).val = t.val * 512 + (j 1).val; omega

theorem iblk_5 (c : Dev nD) (t : Fin cfg0.N) : iblk m c 5 t = colsOf 1 (V m c main_v3) (pt t) := by
  obtain ⟨e0, e1⟩ := idx_5 t
  funext j; show V m c main_v3 (((cfg0.win 5).blk t).view.emb j) = _
  refine congrArg (V m c main_v3) (funext fun a => Fin.ext ?_)
  match a with
  | ⟨0, _⟩ => show win0_5.index t (0 : Fin 2) * 1 + 1 * (j 0).val = (j 0).val; omega
  | ⟨1, _⟩ => show win0_5.index t (1 : Fin 2) * 512 + 1 * (j 1).val = t.val * 512 + (j 1).val; omega

/-! What the host operations before the call leave: the residual by rows, the scales and zero points as one row. -/

theorem V_v1 (c : Dev nD) : V m c main_v1 = shapeCast S72x5120 (transpose S3x24x5120 [1, 0, 2] (m ((c : Thread nD τ).loc main_arg2)) transposes_S24x3x5120_S3x24x5120_1_0_2) shapeCasts_S3x24x5120_S72x5120 := by
  show StableHlo.after hostOps0 _ _ = _
  simp only [hostOps0]
  after_results_simp <;> rfl
theorem V_v2 (c : Dev nD) : V m c main_v2 = shapeCast S1x5120 (m ((c : Thread nD τ).loc main_arg4)) shapeCasts_S5120_S1x5120 := by
  show StableHlo.after hostOps0 _ _ = _
  simp only [hostOps0]
  after_results_simp <;> rfl
theorem V_v3 (c : Dev nD) : V m c main_v3 = shapeCast S1x5120 (m ((c : Thread nD τ).loc main_arg5)) shapeCasts_S5120_S1x5120 := by
  show StableHlo.after hostOps0 _ _ = _
  simp only [hostOps0]
  after_results_simp <;> rfl

/-- The attention rows, from the arguments as launched. -/
def attnG (c : Dev nD) : Vec F S72x5120 .f32 := attnV (m ((c : Thread nD τ).loc main_arg0)) (m ((c : Thread nD τ).loc main_arg1))

theorem attn_eq (c : Dev nD) : attn m c = attnG m c := by
  unfold attn attnG; rw [iblk_0, iblk_1, V_main_arg0, V_main_arg1]

/-- The hidden state, from the arguments as launched. -/
def hiddenG (c : Dev nD) : Vec F S72x5120 .bf16 :=
  hidG (attnG m c)
    (shapeCast S72x5120 (transpose S3x24x5120 [1, 0, 2] (m ((c : Thread nD τ).loc main_arg2)) transposes_S24x3x5120_S3x24x5120_1_0_2) shapeCasts_S3x24x5120_S72x5120)
    (m ((c : Thread nD τ).loc main_arg3))
    (shapeCast S1x5120 (m ((c : Thread nD τ).loc main_arg4)) shapeCasts_S5120_S1x5120)
    (shapeCast S1x5120 (m ((c : Thread nD τ).loc main_arg5)) shapeCasts_S5120_S1x5120)

/-- Block `t` of the hidden state, at its own columns. -/
theorem hid_eq (c : Dev nD) (t : Fin cfg0.N) (y : S72x512.Idx) (i : S72x5120.Idx) (h0 : (i 0).val = (y 0).val)
    (h1 : (i 1).val = t.val * 512 + (y 1).val) : hid m c t y = hiddenG m c i := by
  have hy : (y 1).val < 512 := (y 1).isLt
  unfold hid hiddenG hidG
  rw [attn_eq, iblk_2, iblk_3, iblk_4, iblk_5, V_v1, V_main_arg3, V_v2, V_v3]
  have e : (⟨(i 1).val / 512, by have := (i 1).isLt; have h : (i 1).val < 5120 := this; omega⟩ : Fin 10) = pt t := Fin.ext (by
    show (i 1).val / 512 = t.val; omega)
  have ey : ix2 (n0 := 72) (n1 := 512) (i 0) ⟨(i 1).val % 512, Nat.mod_lt _ (by decide)⟩ = y := by
    funext a; apply Fin.ext
    match a with
    | ⟨0, _⟩ => exact h0
    | ⟨1, _⟩ => show (i 1).val % 512 = (y 1).val; omega
  dsimp only
  rw [e, ey]

/-- The hidden array after the call. -/
theorem final_6 (c : Dev nD) : (dats m 0 c).arrAt 6 cfg0.N = hiddenG m c := by
  refine (dats m 0 c).arrAt_eq_of_covers 6 _ (by decide +kernel) fun t hf y => ?_
  obtain ⟨e0, e1⟩ := idx_6 t
  show (dats m 0 c).after 6 t y = _
  rw [after_6]
  refine hid_eq m c t y _ ?_ ?_
  · show win0_6.index t (0 : Fin 2) * 72 + 1 * (y 0).val = (y 0).val; omega
  · show win0_6.index t (1 : Fin 2) * 512 + 1 * (y 1).val = t.val * 512 + (y 1).val; omega

/-- The array of attention rows. -/
theorem final_7 (c : Dev nD) : (dats m 0 c).arrAt 7 cfg0.N = attnG m c := by
  refine (dats m 0 c).arrAt_eq_of_covers 7 _ (by decide +kernel) fun t hf y => ?_
  obtain ⟨e0, e1⟩ := idx_7 t
  show (dats m 0 c).after 7 t y = _
  rw [after_7, attn_eq]
  refine congrArg _ (funext fun a => Fin.ext ?_)
  match a with
  | ⟨0, _⟩ => show (y 0).val = win0_7.index t (0 : Fin 2) * 72 + 1 * (y 0).val; omega
  | ⟨1, _⟩ => show (y 1).val = win0_7.index t (1 : Fin 2) * 5120 + 1 * (y 1).val; omega

/-- The array of codes. -/
theorem final_8 (c : Dev nD) : (dats m 0 c).arrAt 8 cfg0.N = codesV (attnG m c) := by
  refine (dats m 0 c).arrAt_eq_of_covers 8 _ (by decide +kernel) fun t hf y => ?_
  obtain ⟨e0, e1⟩ := idx_8 t
  show (dats m 0 c).after 8 t y = _
  rw [after_8, attn_eq]
  refine congrArg _ (funext fun a => Fin.ext ?_)
  match a with
  | ⟨0, _⟩ => show (y 0).val = win0_8.index t (0 : Fin 2) * 72 + 1 * (y 0).val; omega
  | ⟨1, _⟩ => show (y 1).val = win0_8.index t (1 : Fin 2) * 5120 + 1 * (y 1).val; omega

/-- The array of scales. -/
theorem final_9 (c : Dev nD) : (dats m 0 c).arrAt 9 cfg0.N = scaleV (attnG m c) := by
  refine (dats m 0 c).arrAt_eq_of_covers 9 _ (by decide +kernel) fun t hf y => ?_
  obtain ⟨e0, e1⟩ := idx_9 t
  show (dats m 0 c).after 9 t y = _
  rw [after_9, attn_eq]
  refine congrArg _ (funext fun a => Fin.ext ?_)
  match a with
  | ⟨0, _⟩ => show (y 0).val = win0_9.index t (0 : Fin 2) * 3 + 1 * (y 0).val; omega
  | ⟨1, _⟩ => show (y 1).val = win0_9.index t (1 : Fin 2) * 24 + 1 * (y 1).val; omega

/-- Every execution terminates with the four results as these functions of the arguments, and the arguments unchanged. -/
theorem run : θ_run defs (onTc (τ := τ) (main (F := F))) ⟨m, fun _ => 0, ρ⟩ (fun r => ∀ c : Dev nD,
      r.2.mem ((c.tc : Thread nD τ).loc main_v4_0) = hiddenG m c
      ∧ r.2.mem ((c.tc : Thread nD τ).loc main_v4_1) = attnG m c
      ∧ r.2.mem ((c.tc : Thread nD τ).loc main_v4_2) = codesV (attnG m c)
      ∧ r.2.mem ((c.tc : Thread nD τ).loc main_v4_3) = scaleV (attnG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1.1 c).1 6).trans (final_6 m c), ((h.1.1 c).1 7).trans (final_7 m c),
    ((h.1.1 c).1 8).trans (final_8 m c), ((h.1.1 c).1 9).trans (final_9 m c), h.2.1 c⟩)
    (θ_run_and (run_main_quiescent m ρ) (frame m ρ))

end Cert.OProjIdeal.Hand

end
-- ==== Proof.OProj.Block.lean ====
/- ONE BLOCK OF COLUMNS OF THE NEW HIDDEN STATE, over the extended reals: the residual plus the product of the codes with the two
    halves of the bytes of the weights, less zero point times row sum, times the two scales. -/
module

public import proofs.«01_k».proof.Proof.OProj.Values
public import Idealize.ShloMosaic.Lib.Pointwise
public import Idealize.ShloMosaic.Lib.ValueIdx

@[expose] public section

noncomputable section

namespace Cert.OProjIdeal.Hand

open Cert.OProjIdeal Cert.OProjIdeal.Gen
open Idealize.ShloMosaic Idealize.ShloMosaic.TcCoe Idealize.ShloMosaic.Tactic

/-- The low half of a byte of weights. -/
def loE (w : BitVec 8) : EReal := (((w &&& 15#8).toNat : ℝ) : EReal)
/-- The high half of a byte of weights. -/
def hiE (w : BitVec 8) : EReal := (((IntOp.shrsi .vector (w.setWidth 32) 4#32).toInt : ℝ) : EReal)

/-- One element of the block. -/
theorem hidV_apply (ab : Vec Ideal S72x5120 .bf16) (asum asc : Vec Ideal S72x128 .f32) (x : Vec Ideal S72x512 .bf16)
    (w : Vec Ideal S2560x512 .i8) (ws wz : Vec Ideal S1x512 .f32) (p : Fin 72) (q : Fin 512) :
    hidV ab asum asc x w ws wz (ix2 (n0 := 72) (n1 := 512) p q)
      = x (ix2 (n0 := 72) (n1 := 512) p q)
        + (((∑ k : Fin 2560, ab (ix2 (n0 := 72) (n1 := 5120) p ⟨k.val, by omega⟩) * loE (w (ix2 (n0 := 2560) (n1 := 512) k q)))
            + ∑ k : Fin 2560, ab (ix2 (n0 := 72) (n1 := 5120) p ⟨2560 + k.val, by omega⟩) * hiE (w (ix2 (n0 := 2560) (n1 := 512) k q)))
          - wz (ix2 (n0 := 1) (n1 := 512) 0 q) * asum (ix2 (n0 := 72) (n1 := 128) p 0))
          * asc (ix2 (n0 := 72) (n1 := 128) p 0) * ws (ix2 (n0 := 1) (n1 := 512) 0 q) := by
  unfold hidV k0_pay12 loE hiE
  pointwise
  rfl

end Cert.OProjIdeal.Hand

end
-- ==== Proof.OProj.Clip.lean ====
/- FACTS ABOUT ONE CODE: the quotient rounded to the nearest integer and clipped to −127…127 is such an integer, whatever the
    quotient; so converting it to int8 and back changes nothing, and the two ways of writing the conversion agree. Also the
    two halves of a byte of weights. -/
module

public import Idealize.ShloMosaic.PureOps.Ideal.Laws
public import Idealize.ShloMosaic.PureOps.Vector

@[expose] public section

noncomputable section

namespace Cert.OProjIdeal.Hand

open Idealize.ShloMosaic

/-- One code, as a number: the quotient rounded to the nearest integer, ties to even, and clipped to −127…127. -/
def clipE (x : EReal) : EReal := min ((127 : ℝ) : EReal) (max ((-127 : ℝ) : EReal) (Ideal.liftRound Ideal.roundHalfEven x))

/-- The clipped rounded quotient is an integer from −127 to 127. -/
theorem clipE_int (x : EReal) : ∃ n : ℤ, -127 ≤ n ∧ n ≤ 127 ∧ clipE x = ((n : ℝ) : EReal) := by
  unfold clipE
  induction x using EReal.rec with
  | bot => exact ⟨-127, by omega, by omega, by
      rw [Ideal.liftRound_bot, max_bot_right, min_eq_right (EReal.coe_le_coe_iff.2 (by norm_num))]; norm_num⟩
  | top => exact ⟨127, by omega, by omega, by rw [Ideal.liftRound_top, max_top_right, min_top_right]; norm_num⟩
  | coe r =>
    refine ⟨min 127 (max (-127) (Ideal.roundHalfEven r)), by omega, by omega, ?_⟩
    rw [Ideal.liftRound_coe, ← EReal.coe_strictMono.monotone.map_max, ← EReal.coe_strictMono.monotone.map_min]
    push_cast
    rfl

/-- Converting an integer in range to a signed integer of `w` bits. -/
theorem fptosi_int (w : Nat) (n : ℤ) (h1 : -((2 ^ (w - 1) : Nat) : ℤ) ≤ n) (h2 : n ≤ ((2 ^ (w - 1) : Nat) : ℤ) - 1) :
    Ideal.fptosi w ((n : ℝ) : EReal) = BitVec.ofInt w n := by
  unfold Ideal.fptosi
  rw [Ideal.toIntClamped_coe, Int.floor_intCast, Int.ceil_intCast, ite_self, min_eq_right h2, max_eq_right h1]

theorem byte_facts : ∀ k : Fin 255, (BitVec.ofInt 32 ((k.val : ℤ) - 127)).setWidth 8 = BitVec.ofInt 8 ((k.val : ℤ) - 127)
    ∧ ((BitVec.ofInt 8 ((k.val : ℤ) - 127)).signExtend 32).toInt = (k.val : ℤ) - 127 := by decide +kernel

/-- A code converted to int32 and cut to int8 is the code converted to int8. -/
theorem code_trunc (x : EReal) : (Ideal.fptosi 32 (clipE x)).setWidth 8 = Ideal.fptosi 8 (clipE x) := by
  obtain ⟨n, h1, h2, e⟩ := clipE_int x
  have hk := (byte_facts ⟨(n + 127).toNat, by omega⟩).1
  have hn : (((n + 127).toNat : Nat) : ℤ) - 127 = n := by omega
  rw [e, fptosi_int 32 n (by norm_num; omega) (by norm_num; omega), fptosi_int 8 n (by norm_num; omega) (by norm_num; omega)]
  simpa only [hn] using hk

/-- A code converted to int8 and back is the code. -/
theorem code_back (x : EReal) : ((((Ideal.fptosi 8 (clipE x)).signExtend 32).toInt : ℝ) : EReal) = clipE x := by
  obtain ⟨n, h1, h2, e⟩ := clipE_int x
  have hk := (byte_facts ⟨(n + 127).toNat, by omega⟩).2
  have hn : (((n + 127).toNat : Nat) : ℤ) - 127 = n := by omega
  simp only [hn] at hk
  rw [e, fptosi_int 8 n (by norm_num; omega) (by norm_num; omega), hk]

/-- The low half of a byte, masked as a byte or as a word. -/
theorem low_nibble (w : BitVec 8) : ((w &&& 15#8).toNat : ℤ) = ((w.setWidth 32) &&& 15#32).toInt := by
  revert w; decide +kernel

end Cert.OProjIdeal.Hand

end
-- ==== Proof.OProj.Quant.lean ====
/- THE QUANTISER OF THE CALL, over the extended reals: one scale for every row of attention outputs
    (`scaleE`, the largest magnitude over 127, or 1 for a row of zeros), and the codes (`codeE`, the quotient rounded and
    clipped). This module reads them off the call. -/
module

public import proofs.«01_k».proof.Proof.OProj.Values
public import proofs.«01_k».proof.Proof.OProj.Clip
public import Idealize.ShloMosaic.Lib.Pointwise

@[expose] public section

noncomputable section

namespace Cert.OProjIdeal.Hand

open Cert.OProjIdeal Cert.OProjIdeal.Gen
open Idealize.ShloMosaic Idealize.ShloMosaic.TcCoe Idealize.ShloMosaic.Tactic

/-- The largest magnitude of a row. -/
def maxE (a : Vec Ideal S72x5120 .f32) (r : Fin 72) : EReal :=
  (Finset.univ : Finset (Fin 5120)).fold max (FloatOps.ofBits (F := Ideal) .f32 0xFF800000#32)
    (fun k => max (a (ix2 (n0 := 72) (n1 := 5120) r k)) (-a (ix2 (n0 := 72) (n1 := 5120) r k)))

/-- The scale of a row. -/
def scaleE (a : Vec Ideal S72x5120 .f32) (r : Fin 72) : EReal :=
  Scalar.select (FloatOps.cmpf (F := Ideal) (φ := .f32) .ogt (maxE a r) (FloatOps.ofBits (F := Ideal) .f32 0x00000000#32))
    (Ideal.div (maxE a r) (FloatOps.ofBits (F := Ideal) .f32 0x42FE0000#32)) (FloatOps.ofBits (F := Ideal) .f32 0x3F800000#32)

/-- The code of an element, as a number. -/
def codeE (a : Vec Ideal S72x5120 .f32) (r : Fin 72) (k : Fin 5120) : EReal :=
  clipE (Ideal.div (a (ix2 (n0 := 72) (n1 := 5120) r k)) (scaleE a r))

/-- The call's scale of a row. -/
theorem pay2_apply (a : Vec Ideal S72x5120 .f32) (i : S72x1.Idx) : k0_pay2 a i = scaleE a (i 0) := by
  unfold k0_pay2 k0_pay1 scaleE maxE
  idx_vars i
  pointwise
  rfl

/-- The call's codes, as numbers. -/
theorem pay3_apply (a : Vec Ideal S72x5120 .f32) (j : S72x5120.Idx) : k0_pay3 a j = codeE a (j 0) (j 1) := by
  have h := pay2_apply a (ix2 (n0 := 72) (n1 := 1) (j 0) 0)
  unfold k0_pay3 k0_pay1 codeE clipE
  generalize k0_pay2 a = s at h ⊢
  idx_vars j
  pointwise
  rw [h]
  have e1 : (((127#32).toInt : ℝ) : EReal) = ((127 : ℝ) : EReal) := by
    rw [show (127#32).toInt = 127 by decide]; norm_num
  have e2 : (((4294967169#32).toInt : ℝ) : EReal) = ((-127 : ℝ) : EReal) := by
    rw [show (4294967169#32).toInt = -127 by decide]; norm_num
  rw [e1, e2]

/-- The call's sum of the codes of a row. -/
theorem pay7_apply (a : Vec Ideal S72x5120 .f32) (j : S72x128.Idx) : k0_pay7 a j = ∑ k : Fin 5120, codeE a (j 0) k := by
  have h := pay3_apply a
  unfold k0_pay7
  generalize k0_pay3 a = s at h ⊢
  idx_vars j
  pointwise
  exact Finset.sum_congr rfl fun k _ => h (ix2 j0 k)

/-- The call's scale of a row, in every lane. -/
theorem pay6_apply (a : Vec Ideal S72x5120 .f32) (j : S72x128.Idx) : k0_pay6 a j = scaleE a (j 0) := by
  have h := pay2_apply a
  unfold k0_pay6
  generalize k0_pay2 a = s at h ⊢
  idx_vars j
  pointwise
  exact h (ix2 j0 0)

end Cert.OProjIdeal.Hand

end
-- ==== Proof.OProj.Attn.lean ====
/- THE ATTENTION ROWS OF THE REFERENCE are the rows the call gathers: the reference cuts the two arrays into groups of 16 rows,
    drops the unused row of each group, joins the groups and transposes; the call reads the same elements with strided loads. -/
module

public import proofs.«01_k».proof.Proof.OProj.Values
public import proofs.«01_k».proof.Proof.Gen.OProjRefIdeal.Read

@[expose] public section

noncomputable section

namespace Cert.OProjIdeal.Hand

open Idealize.ShloMosaic Idealize.ShloMosaic.TcCoe
open Cert.OProjRefIdeal.Read

variable {F : FTy → Type} [FloatOps F]

/-- An element of the joined groups: sequence, group, row of the group, lane. -/
def headIdx (b : Fin 24) (c : Fin 8) (r : Fin 15) (l : Fin 128) : Cert.OProjRefIdeal.S24x8x15x128.Idx := fun a => match a with
  | ⟨0, _⟩ => b
  | ⟨1, _⟩ => c
  | ⟨2, _⟩ => r
  | ⟨3, _⟩ => l

/-- The joined groups below group 6 are the first array's. -/
theorem ref_heads_first (x0 : Vec F Cert.OProjIdeal.S2304x128 .f32) (x1 : Vec F Cert.OProjIdeal.S768x128 .f32)
    (b : Fin 24) (c : Fin 8) (r : Fin 15) (l : Fin 128) (h : c.val < 6) :
    val_main_v4 (F := F) x0 x1 (headIdx b c r l)
      = x0 (ix2 (n0 := 2304) (n1 := 128) ⟨b.val * 96 + c.val * 16 + r.val, by omega⟩ l) := by
  refine (concatenate_pair_apply_left (t := Cert.OProjRefIdeal.S24x8x15x128) (s₁ := Cert.OProjRefIdeal.S24x6x15x128)
      (s₂ := Cert.OProjRefIdeal.S24x2x15x128) 1 (val_main_v1 (F := F) x0) (val_main_v3 (F := F) x1)
      Cert.OProjRefIdeal.Gen.concatenates_S24x6x15x128_S24x2x15x128_S24x8x15x128_d1 (headIdx b c r l) rfl (fun a => match a with
      | ⟨0, _⟩ => b
      | ⟨1, _⟩ => ⟨c.val, h⟩
      | ⟨2, _⟩ => r
      | ⟨3, _⟩ => l) (fun a => match a with
      | ⟨0, _⟩ => rfl
      | ⟨1, _⟩ => rfl
      | ⟨2, _⟩ => rfl
      | ⟨3, _⟩ => rfl)).trans (((val_main_v1_apply x0 _).trans (val_main_v0_apply x0 _)).trans
        (congrArg x0 (funext fun a => Fin.ext ?_)))
  match a with
  | ⟨0, _⟩ =>
    show (((b.val * 6 + c.val) * 16 + r.val) * 128 + l.val) / 128 = b.val * 96 + c.val * 16 + r.val
    omega
  | ⟨1, _⟩ =>
    show (((b.val * 6 + c.val) * 16 + r.val) * 128 + l.val) % 128 = l.val
    omega

/-- The joined groups from group 6 on are the second array's. -/
theorem ref_heads_second (x0 : Vec F Cert.OProjIdeal.S2304x128 .f32) (x1 : Vec F Cert.OProjIdeal.S768x128 .f32)
    (b : Fin 24) (c : Fin 8) (r : Fin 15) (l : Fin 128) (h : 6 ≤ c.val) :
    val_main_v4 (F := F) x0 x1 (headIdx b c r l)
      = x1 (ix2 (n0 := 768) (n1 := 128) ⟨b.val * 32 + (c.val - 6) * 16 + r.val, by omega⟩ l) := by
  refine (concatenate_pair_apply_right (t := Cert.OProjRefIdeal.S24x8x15x128) (s₁ := Cert.OProjRefIdeal.S24x6x15x128)
      (s₂ := Cert.OProjRefIdeal.S24x2x15x128) 1 (val_main_v1 (F := F) x0) (val_main_v3 (F := F) x1)
      Cert.OProjRefIdeal.Gen.concatenates_S24x6x15x128_S24x2x15x128_S24x8x15x128_d1 (headIdx b c r l) rfl rfl (fun a => match a with
      | ⟨0, _⟩ => b
      | ⟨1, _⟩ => ⟨c.val - 6, by show c.val - 6 < 2; omega⟩
      | ⟨2, _⟩ => r
      | ⟨3, _⟩ => l) (fun a ha => match a, ha with
      | ⟨0, _⟩, _ => rfl
      | ⟨1, _⟩, ha => absurd rfl ha
      | ⟨2, _⟩, _ => rfl
      | ⟨3, _⟩, _ => rfl) (by show c.val - 6 + 6 = c.val; omega)).trans (((val_main_v3_apply x1 _).trans (val_main_v2_apply x1 _)).trans
        (congrArg x1 (funext fun a => Fin.ext ?_)))
  match a with
  | ⟨0, _⟩ =>
    show (((b.val * 2 + (c.val - 6)) * 16 + r.val) * 128 + l.val) / 128 = b.val * 32 + (c.val - 6) * 16 + r.val
    omega
  | ⟨1, _⟩ =>
    show (((b.val * 2 + (c.val - 6)) * 16 + r.val) * 128 + l.val) % 128 = l.val
    omega

/-- The reference's reshapes and transpose take it there. -/
theorem ref_attn_head (x0 : Vec F Cert.OProjIdeal.S2304x128 .f32) (x1 : Vec F Cert.OProjIdeal.S768x128 .f32)
    (j : Cert.OProjRefIdeal.S72x5120.Idx) :
    val_main_v7 (F := F) x0 x1 j = val_main_v4 (F := F) x0 x1 (headIdx ⟨(j 0).val % 24, by omega⟩
      ⟨(j 1).val / 128 / 5, by have h1 : (j 1).val < 5120 := (j 1).isLt; omega⟩
      ⟨(j 0).val / 24 * 5 + (j 1).val / 128 % 5, by have h0 : (j 0).val < 72 := (j 0).isLt; omega⟩ ⟨(j 1).val % 128, by omega⟩) := by
  have h0 : (j 0).val < 72 := (j 0).isLt
  have h1 : (j 1).val < 5120 := (j 1).isLt
  have e : idx_main_v6 (idx_main_v7 j) = (fun a => match a with
      | ⟨0, _⟩ => ⟨(j 0).val % 24, by show (j 0).val % 24 < 24; omega⟩
      | ⟨1, _⟩ => ⟨(j 1).val / 640, by show (j 1).val / 640 < 8; omega⟩
      | ⟨2, _⟩ => ⟨(j 0).val / 24, by show (j 0).val / 24 < 3; omega⟩
      | ⟨3, _⟩ => ⟨(j 1).val / 128 % 5, by show (j 1).val / 128 % 5 < 5; omega⟩
      | ⟨4, _⟩ => ⟨(j 1).val % 128, by show (j 1).val % 128 < 128; omega⟩) := by
    funext a
    apply Fin.ext
    match a with
    | ⟨0, _⟩ => show ((j 0).val * 5120 + (j 1).val) / 5120 % 24 = (j 0).val % 24; omega
    | ⟨1, _⟩ => show ((j 0).val * 5120 + (j 1).val) / 640 % 8 = (j 1).val / 640; omega
    | ⟨2, _⟩ => show ((j 0).val * 5120 + (j 1).val) / 122880 = (j 0).val / 24; omega
    | ⟨3, _⟩ => show ((j 0).val * 5120 + (j 1).val) / 128 % 5 = (j 1).val / 128 % 5; omega
    | ⟨4, _⟩ => show ((j 0).val * 5120 + (j 1).val) % 128 = (j 1).val % 128; omega
  rw [val_main_v7_apply, val_main_v6_apply, val_main_v5_apply, e]
  congr 1
  have q : ∀ b c s g l : Nat, b < 24 → c < 8 → s < 3 → g < 5 → l < 128 →
      ((((b * 8 + c) * 3 + s) * 5 + g) * 128 + l) / 15360 = b ∧ ((((b * 8 + c) * 3 + s) * 5 + g) * 128 + l) / 1920 % 8 = c ∧
      ((((b * 8 + c) * 3 + s) * 5 + g) * 128 + l) / 128 % 15 = s * 5 + g ∧ ((((b * 8 + c) * 3 + s) * 5 + g) * 128 + l) % 128 = l := by
    intro b c s g l hb hc hs hg hl
    omega
  obtain ⟨q0, q1, q2, q3⟩ := q ((j 0).val % 24) ((j 1).val / 640) ((j 0).val / 24) ((j 1).val / 128 % 5) ((j 1).val % 128)
    (by omega) (by omega) (by omega) (by omega) (by omega)
  funext a
  apply Fin.ext
  match a with
  | ⟨0, _⟩ => exact q0
  | ⟨1, _⟩ => exact q1.trans (by show (j 1).val / 640 = (j 1).val / 128 / 5; omega)
  | ⟨2, _⟩ => exact q2
  | ⟨3, _⟩ => exact q3

/-- The reference's attention rows are the rows the call gathers. -/
theorem ref_attn (x0 : Vec F Cert.OProjIdeal.S2304x128 .f32) (x1 : Vec F Cert.OProjIdeal.S768x128 .f32) :
    val_main_v7 (F := F) x0 x1 = attnV x0 x1 := by
  funext j
  have h1 : (j 1).val < 5120 := (j 1).isLt
  rw [ref_attn_head]
  unfold attnV
  by_cases h : (j 1).val / 128 < 30
  · rw [dif_pos h]
    exact ref_heads_first x0 x1 _ _ _ _ (by show (j 1).val / 128 / 5 < 6; omega) |>.trans (congrArg x0 (funext fun a => Fin.ext (match a with
      | ⟨0, _⟩ => (Nat.add_assoc _ _ _).symm
      | ⟨1, _⟩ => rfl)))
  · rw [dif_neg h]
    exact ref_heads_second x0 x1 _ _ _ _ (by show 6 ≤ (j 1).val / 128 / 5; omega) |>.trans (congrArg x1 (funext fun a => Fin.ext (match a with
      | ⟨0, _⟩ => (Nat.add_assoc _ _ _).symm
      | ⟨1, _⟩ => rfl)))

end Cert.OProjIdeal.Hand

end
-- ==== Proof.OProj.RefQuant.lean ====
/- THE QUANTISER OF THE REFERENCE: its scales and its codes are the same two functions of the attention rows, `scaleE` and
    `codeE`; reading the int8 codes back gives the numbers they came from. -/
module

public import proofs.«01_k».proof.Proof.OProj.Quant
public import proofs.«01_k».proof.Proof.OProj.Attn

@[expose] public section

noncomputable section

namespace Cert.OProjIdeal.Hand

open Cert.OProjIdeal Cert.OProjIdeal.Gen
open Idealize.ShloMosaic Idealize.ShloMosaic.TcCoe

section Reference

open Cert.OProjRefIdeal.Read

variable (x0 : Vec Ideal S2304x128 .f32) (x1 : Vec Ideal S768x128 .f32)

/-- The reference's largest magnitude of a row. -/
theorem ref_max (i : Cert.OProjRefIdeal.S72.Idx) : val_main_v9 (F := Ideal) x0 x1 i = maxE (attnV x0 x1) (i 0) := by
  unfold val_main_v9 maxE
  rw [Host.reduce_eq_fold_single (FloatOps.maximumf (F := Ideal) (φ := .f32)) _ _ _ reduces_S72x5120_S72]
  refine congrArg₂ (fun z f => (Finset.univ : Finset (Fin 5120)).fold max z f) rfl (funext fun k => ?_)
  have e : reduces_S72x5120_S72.lift i k = ix2 (n0 := 72) (n1 := 5120) (i 0) k := by
    funext a
    apply Fin.ext
    match a with
    | ⟨0, _⟩ => rfl
    | ⟨1, _⟩ => rfl
  show val_main_v8 (F := Ideal) x0 x1 (reduces_S72x5120_S72.lift i k) = _
  rw [e, val_main_v8_apply, ref_attn]
  rfl

/-- The reference's scale of a row. -/
theorem ref_scale (i : Cert.OProjRefIdeal.S72.Idx) : val_main_v14 (F := Ideal) x0 x1 i = scaleE (attnV x0 x1) (i 0) := by
  rw [val_main_v14_apply, val_main_v11_apply, val_main_v13_apply, ref_max, val_main_v10_apply, val_main_v12_apply]
  rfl

/-- The reference's clipped rounded quotients. -/
theorem ref_quot (j : Cert.OProjRefIdeal.S72x5120.Idx) :
    val_main_v19 (F := Ideal) x0 x1 j = codeE (attnV x0 x1) (j 0) (j 1) := by
  have ej : j = ix2 (n0 := 72) (n1 := 5120) (j 0) (j 1) := eq_ix2 j
  have e1 : (FloatOps.sitofp (F := Ideal) .f32 127#32 : EReal) = ((127 : ℝ) : EReal) := by
    show (((127#32).toInt : ℝ) : EReal) = ((127 : ℝ) : EReal)
    rw [show (127#32).toInt = 127 by decide]; norm_num
  have e2 : (FloatOps.sitofp (F := Ideal) .f32 4294967169#32 : EReal) = ((-127 : ℝ) : EReal) := by
    show (((4294967169#32).toInt : ℝ) : EReal) = ((-127 : ℝ) : EReal)
    rw [show (4294967169#32).toInt = -127 by decide]; norm_num
  rw [val_main_v19_apply, val_main_call2_v4_apply, val_main_call2_v3_apply, val_main_call2_v2_apply, val_main_call2_v1_apply,
    val_main_call2_v0_apply, val_main_v18_apply, val_main_v17_apply, val_main_v16_apply, val_main_v15_apply, ref_scale, ref_attn,
    val_main_c_apply, val_main_c_3_apply]
  simp only [Ideal.minimumf_def, Ideal.maximumf_def, Ideal.hostUnary_roundeven_def, Ideal.hostDivf_def]
  rw [e1, e2]
  exact congrArg (fun y => clipE (Ideal.div (attnV x0 x1 y) (scaleE (attnV x0 x1) (j 0)))) ej

/-- The reference's int8 codes. -/
theorem ref_int8 (j : Cert.OProjRefIdeal.S72x5120.Idx) :
    val_main_v21 (F := Ideal) x0 x1 j = Ideal.fptosi 8 (codeE (attnV x0 x1) (j 0) (j 1)) := by
  rw [val_main_v21_apply, val_main_v20_apply, ref_quot]
  exact code_trunc _

/-- The reference's int8 codes are the call's. -/
theorem ref_codes : val_main_v21 (F := Ideal) x0 x1 = codesV (attnV x0 x1) := by
  funext j
  rw [ref_int8, ← pay3_apply]
  rfl

/-- The reference's codes read back from int8 for the product. -/
theorem ref_code_product (j : Cert.OProjRefIdeal.S72x5120.Idx) :
    val_main_v30 (F := Ideal) x0 x1 j = codeE (attnV x0 x1) (j 0) (j 1) := by
  rw [val_main_v30_apply, val_main_v29_apply, ref_int8]
  exact code_back _

/-- The reference's codes read back from int8 for the row sums. -/
theorem ref_code_sum (j : Cert.OProjRefIdeal.S72x5120.Idx) :
    val_main_v36 (F := Ideal) x0 x1 j = codeE (attnV x0 x1) (j 0) (j 1) := by
  rw [val_main_v36_apply, val_main_v29_apply, ref_int8]
  exact code_back _

end Reference

end Cert.OProjIdeal.Hand

end
-- ==== Proof.OProj.Hidden.lean ====
/- THE NEW HIDDEN STATE: the reference's is the call's. Both add to the residual the product of the same codes with the same halves
    of the bytes of the weights, corrected by zero point times row sum, and scaled. -/
module

public import proofs.«01_k».proof.Proof.OProj.Arrays
public import proofs.«01_k».proof.Proof.OProj.Block
public import proofs.«01_k».proof.Proof.OProj.RefQuant

@[expose] public section

noncomputable section

namespace Cert.OProjIdeal.Hand

open Cert.OProjIdeal Cert.OProjIdeal.Gen
open Idealize.ShloMosaic Idealize.ShloMosaic.TcCoe Idealize.ShloMosaic.Tactic
open Cert.OProjRefIdeal.Read

/-- Column `k` lies in block `k / 512` at offset `k % 512`. -/
theorem colsOf_at {α : Type} (n : Nat) (X : (⟨2, ![n, 5120]⟩ : Shape).Idx → α) (k : Fin 5120) (p : Fin n) (hb hq) :
    colsOf n X ⟨k.val / 512, hb⟩ (ix2 (n0 := n) (n1 := 512) p ⟨k.val % 512, hq⟩) = X (ix2 (n0 := n) (n1 := 5120) p k) := by
  unfold colsOf
  exact congrArg (fun y => X (ix2 (n0 := n) (n1 := 5120) p y)) (Fin.ext (by show k.val / 512 * 512 + k.val % 512 = k.val; omega))

/-- One element of the new hidden state, from the codes and scales of the attention rows. -/
def hiddenE (a : Vec Ideal S72x5120 .f32) (w : Vec Ideal S2560x5120 .i8) (x ws wz : EReal) (p : Fin 72) (q : Fin 5120) : EReal :=
  x + (((∑ k : Fin 2560, codeE a p ⟨k.val, by omega⟩ * loE (w (ix2 (n0 := 2560) (n1 := 5120) k q)))
      + ∑ k : Fin 2560, codeE a p ⟨2560 + k.val, by omega⟩ * hiE (w (ix2 (n0 := 2560) (n1 := 5120) k q)))
    - wz * ∑ k : Fin 5120, codeE a p k) * scaleE a p * ws

/-- The call's new hidden state. -/
theorem hidG_apply (a : Vec Ideal S72x5120 .f32) (x : Vec Ideal S72x5120 .bf16) (w : Vec Ideal S2560x5120 .i8)
    (ws wz : Vec Ideal S1x5120 .f32) (p : Fin 72) (q : Fin 5120) :
    hidG a x w ws wz (ix2 (n0 := 72) (n1 := 5120) p q)
      = hiddenE a w (x (ix2 (n0 := 72) (n1 := 5120) p q)) (ws (ix2 (n0 := 1) (n1 := 5120) 0 q)) (wz (ix2 (n0 := 1) (n1 := 5120) 0 q)) p q := by
  have hb : q.val / 512 < 10 := by omega
  have hq : q.val % 512 < 512 := by omega
  have hab : ∀ j : S72x5120.Idx, abV a j = codeE a (j 0) (j 1) := fun j => by
    rw [← pay3_apply]; unfold abV k0_pay5; rw [shapeCast_self]; rfl
  refine (hidV_apply (abV a) (asumV a) (ascV a) (colsOf 72 x ⟨q.val / 512, hb⟩) (colsOf 2560 w ⟨q.val / 512, hb⟩)
    (colsOf 1 ws ⟨q.val / 512, hb⟩) (colsOf 1 wz ⟨q.val / 512, hb⟩) p ⟨q.val % 512, hq⟩).trans ?_
  unfold hiddenE asumV ascV
  simp only [colsOf_at, hab, pay6_apply, pay7_apply]
  rfl

/-- The reference's low halves. -/
theorem ref_lo (x3 : Vec Ideal S2560x5120 .i8) (i : Cert.OProjRefIdeal.S2560x5120.Idx) :
    val_main_v25 (F := Ideal) x3 i = loE (x3 i) := by
  rw [val_main_v25_apply, val_main_v24_apply, val_main_v22_apply, val_main_v23_apply, val_main_c_4_apply]
  show (((((x3 i).setWidth 32) &&& 15#32).toInt : ℝ) : EReal) = _
  rw [← low_nibble]
  unfold loE
  norm_num

/-- The reference's high halves. -/
theorem ref_hi (x3 : Vec Ideal S2560x5120 .i8) (i : Cert.OProjRefIdeal.S2560x5120.Idx) :
    val_main_v28 (F := Ideal) x3 i = hiE (x3 i) := by
  rw [val_main_v28_apply, val_main_v27_apply, val_main_v22_apply, val_main_v26_apply, val_main_c_5_apply]
  rfl

/-- The reference's residual is the call's. -/
theorem ref_residual (x2 : Vec Ideal S24x3x5120 .bf16) :
    val_main_v52 (F := Ideal) x2
      = shapeCast S72x5120 (transpose S3x24x5120 [1, 0, 2] x2 transposes_S24x3x5120_S3x24x5120_1_0_2) shapeCasts_S3x24x5120_S72x5120 := by
  rfl

/-- A vector of 5120 seen as one row. -/
theorem row_apply (v : Vec Ideal S5120 .f32) (q : Fin 5120) :
    shapeCast S1x5120 v shapeCasts_S5120_S1x5120 (ix2 (n0 := 1) (n1 := 5120) 0 q) = v (ix1 (n0 := 5120) q) := by
  refine shapeCast_apply v shapeCasts_S5120_S1x5120 _ (ix1 (n0 := 5120) q) ?_
  rw [Shape.rowMajor_val_two, Shape.rowMajor_val_one]
  show q.val = 0 * 5120 + q.val
  omega

/-- The reference's new hidden state. -/
theorem ref_hidden_apply (x0 : Vec Ideal S2304x128 .f32) (x1 : Vec Ideal S768x128 .f32) (x2 : Vec Ideal S24x3x5120 .bf16)
    (x3 : Vec Ideal S2560x5120 .i8) (x4 x5 : Vec Ideal S5120 .f32) (p : Fin 72) (q : Fin 5120) :
    val_main_v54 (F := Ideal) x0 x1 x2 x3 x4 x5 (ix2 (n0 := 72) (n1 := 5120) p q)
      = hiddenE (attnV x0 x1) x3 (val_main_v52 (F := Ideal) x2 (ix2 (n0 := 72) (n1 := 5120) p q)) (x4 (ix1 (n0 := 5120) q)) (x5 (ix1 (n0 := 5120) q)) p q := by
  have z : FloatOps.ofBits (F := Ideal) .f32 0x00000000#32 = (0 : EReal) := by simp [Ideal.ofBits, Ideal.ieee]
  have r : ∀ (i : Cert.OProjRefIdeal.S72x5120.Idx) (k : Fin 2560),
      ridx_main_v32 i k = ix2 (n0 := 2560) (n1 := 5120) k (i 1) := fun i k => funext fun a => match a with
    | ⟨0, _⟩ => rfl
    | ⟨1, _⟩ => rfl
  have r' : ∀ (i : Cert.OProjRefIdeal.S72x5120.Idx) (k : Fin 2560),
      ridx_main_v34 i k = ix2 (n0 := 2560) (n1 := 5120) k (i 1) := fun i k => funext fun a => match a with
    | ⟨0, _⟩ => rfl
    | ⟨1, _⟩ => rfl
  have e4 : ∀ i : Cert.OProjRefIdeal.S72x5120.Idx, val_main_v48 (F := Ideal) x4 i = x4 (ix1 (n0 := 5120) (i 1)) := fun i => by
    rw [val_main_v48_apply, val_main_v47_apply]
    exact congrArg x4 (funext fun a => match a with | ⟨0, _⟩ => rfl)
  have e5 : ∀ i : Cert.OProjRefIdeal.S72x5120.Idx, val_main_v40 (F := Ideal) x5 i = x5 (ix1 (n0 := 5120) (i 1)) := fun i => by
    rw [val_main_v40_apply, val_main_v39_apply]
    exact congrArg x5 (funext fun a => match a with | ⟨0, _⟩ => rfl)
  rw [val_main_v54_apply, val_main_v53_apply, val_main_v49_apply, val_main_v46_apply, val_main_v43_apply, val_main_v42_apply,
    val_main_v35_apply, val_main_v32_apply, val_main_v34_apply, val_main_v45_apply, val_main_v44_apply, val_main_v41_apply,
    val_main_v38_apply, val_main_v37_apply, val_main_cst_6_apply, z, zero_add, ref_scale, e4, e5]
  simp only [val_main_v31_apply, val_main_v33_apply, ref_code_product, ref_code_sum, ref_lo, ref_hi, r, r']
  rfl

/-- The reference's new hidden state is the call's. -/
theorem ref_hidden (x0 : Vec Ideal S2304x128 .f32) (x1 : Vec Ideal S768x128 .f32) (x2 : Vec Ideal S24x3x5120 .bf16)
    (x3 : Vec Ideal S2560x5120 .i8) (x4 x5 : Vec Ideal S5120 .f32) :
    val_main_v54 (F := Ideal) x0 x1 x2 x3 x4 x5
      = hidG (attnV x0 x1)
          (shapeCast S72x5120 (transpose S3x24x5120 [1, 0, 2] x2 transposes_S24x3x5120_S3x24x5120_1_0_2) shapeCasts_S3x24x5120_S72x5120)
          x3 (shapeCast S1x5120 x4 shapeCasts_S5120_S1x5120) (shapeCast S1x5120 x5 shapeCasts_S5120_S1x5120) := by
  have h : ∀ (p : Fin 72) (q : Fin 5120), val_main_v54 (F := Ideal) x0 x1 x2 x3 x4 x5 (ix2 (n0 := 72) (n1 := 5120) p q)
      = hidG (attnV x0 x1)
          (shapeCast S72x5120 (transpose S3x24x5120 [1, 0, 2] x2 transposes_S24x3x5120_S3x24x5120_1_0_2) shapeCasts_S3x24x5120_S72x5120)
          x3 (shapeCast S1x5120 x4 shapeCasts_S5120_S1x5120) (shapeCast S1x5120 x5 shapeCasts_S5120_S1x5120) (ix2 (n0 := 72) (n1 := 5120) p q) :=
    fun p q => by
      rw [hidG_apply, row_apply, row_apply, ← ref_residual]
      exact ref_hidden_apply x0 x1 x2 x3 x4 x5 p q
  funext j
  have hj : j = ix2 (n0 := 72) (n1 := 5120) (j 0) (j 1) := eq_ix2 j
  rw [hj]
  exact h (j 0) (j 1)

end Cert.OProjIdeal.Hand

end
-- ==== Proof.OProj.Scale.lean ====
/- THE SCALES BY POSITION AND SEQUENCE: the call transposes the scales into lanes, rotates them and cuts out 24 lanes for every
    position; the reference reshapes the 72 scales. Both arrays hold the scale of row `24 s + b` at position `s`, sequence `b`. -/
module

public import proofs.«01_k».proof.Proof.OProj.RefQuant
public import Idealize.ShloMosaic.Lib.Pipeline.Value

@[expose] public section

noncomputable section

namespace Cert.OProjIdeal.Hand

open Cert.OProjIdeal Cert.OProjIdeal.Gen
open Idealize.ShloMosaic Idealize.ShloMosaic.TcCoe Idealize.ShloMosaic.Tactic
open Cert.OProjRefIdeal.Read

/-- Lane `l` below 72 of the transposed scales is the scale of row `l`. -/
theorem lane_scale (v : Vec Ideal S72x128 .f32) (p : Fin 128) (l : Fin 72) :
    k0_pay8 v (ix2 (n0 := 128) (n1 := 128) p ⟨l.val, by omega⟩) = v (ix2 (n0 := 72) (n1 := 128) l p) := by
  unfold k0_pay8
  dsimp only
  refine (transpose_apply [1, 0] _ transposes_S128x128_p1_0_S128x128 _ (ix2 (n0 := 128) (n1 := 128) ⟨l.val, by omega⟩ p)
    (fun b => match b with | ⟨0, _⟩ => rfl | ⟨1, _⟩ => rfl)).trans ?_
  exact concatenate_pair_apply_left (t := S128x128) (s₁ := S72x128) (s₂ := S56x128) 0 v _
    concatenates_S72x128_S56x128_S128x128_d0 (ix2 (n0 := 128) (n1 := 128) ⟨l.val, by omega⟩ p) rfl (ix2 (n0 := 72) (n1 := 128) l p)
    (fun b => match b with | ⟨0, _⟩ => rfl | ⟨1, _⟩ => rfl)

/-- 24 lanes cut out of the transposed scales rotated by `128 - o`: the scales from row `o` on. -/
theorem cut_scale (v : Vec Ideal S72x128 .f32) (r : BitVec 32) (o : Nat) (ho : o + 24 ≤ 72) (hr : (128 - r.toNat % 128) % 128 = o) (i : S1x24.Idx) :
    extractStridedSlice S1x24 ![0, 0] (dynamicRotate 1 r none (k0_pay8 v) rotates_S128x128_d1) slices_S128x128_o0_0_S1x24 i
      = v (ix2 (n0 := 72) (n1 := 128) ⟨o + (i 1).val, by have : (i 1).val < 24 := (i 1).isLt; omega⟩ 0) := by
  have h1 : (i 1).val < 24 := (i 1).isLt
  rw [← lane_scale v 0 ⟨o + (i 1).val, by omega⟩]
  generalize k0_pay8 v = y
  idx_vars i
  pointwise
  have hi : i1.val < 24 := i1.isLt
  exact congrArg (fun q => y (ix2 (n0 := 128) (n1 := 128) 0 q))
    (Fin.ext (by show (i1.val + 128 - r.toNat % 128) % 128 = o + i1.val; omega))

/-- The scales the call writes. -/
theorem scaleV_apply (a : Vec Ideal S72x5120 .f32) (j : S3x24.Idx) :
    scaleV a j = scaleE a ⟨(j 0).val * 24 + (j 1).val, by
      have h0 : (j 0).val < 3 := (j 0).isLt
      have h1 : (j 1).val < 24 := (j 1).isLt
      omega⟩ := by
  have h0 : (j 0).val < 3 := (j 0).isLt
  have h1 : (j 1).val < 24 := (j 1).isLt
  unfold scaleV ascV
  split_ifs with c0 c1
  · unfold k0_pay9; dsimp only
    rw [cut_scale _ 0#32 0 (by omega) (by decide), pay6_apply]
    exact congrArg (scaleE a) (Fin.ext (by show 0 + (j 1).val = _; simp only; omega))
  · unfold k0_pay10; dsimp only
    rw [cut_scale _ 104#32 24 (by omega) (by decide), pay6_apply]
    exact congrArg (scaleE a) (Fin.ext (by show 24 + (j 1).val = _; simp only; omega))
  · unfold k0_pay11; dsimp only
    rw [cut_scale _ 80#32 48 (by omega) (by decide), pay6_apply]
    exact congrArg (scaleE a) (Fin.ext (by show 48 + (j 1).val = _; simp only; omega))

/-- The reference's scales are the call's. -/
theorem ref_scales (x0 : Vec Ideal S2304x128 .f32) (x1 : Vec Ideal S768x128 .f32) :
    val_main_v55 (F := Ideal) x0 x1 = scaleV (attnV x0 x1) := by
  funext j
  rw [val_main_v55_apply, ref_scale, scaleV_apply]
  rfl

end Cert.OProjIdeal.Hand

end
-- ==== Proof.OProj.Words.lean ====
/- THE CALL ON WORDS: the printed program and the one read over the extended reals are the same text, so the run proved for any
    reading of the floats is also a run of the printed program. -/
module

public import proofs.«01_k».proof.Defs
public import proofs.«01_k».proof.Proof.OProj.Run
public import proofs.«01_k».proof.Proof.Gen.OProj

@[expose] public section

set_option maxRecDepth 65536

noncomputable section

namespace Cert.OProj.Words

open Idealize.ShloMosaic Idealize.ShloMosaic.TcCoe Idealize.SL.Sem

/-- The two programs have the same text of @main. -/
theorem main_eq : Cert.OProj.main (F := Bits) = Cert.OProjIdeal.main (F := Bits) := rfl

/-- The two programs have the same pipelines. -/
theorem pcfgs_eq : Cert.OProj.pcfgs (F := Bits) = Cert.OProjIdeal.pcfgs (F := Bits) := rfl

/-- The two programs have the same bodies. -/
theorem bodies_eq : Cert.OProj.defs₀ (F := Bits) = Cert.OProjIdeal.defs₀ (F := Bits) := by
  unfold Cert.OProj.defs₀ Cert.OProjIdeal.defs₀
  refine congrArg (Defs.onTc (nD := Cert.OProj.nD) (τ := Cert.OProj.τ) (sig := Cert.OProj.sig) (Λ := Cert.OProj.Λ₀)) ?_
  funext ℓ
  match ℓ with
  | 0 => funext a; rfl

/-- The two programs have the same table of bodies and pipelines. -/
theorem defs_eq : Cert.OProj.defs (F := Bits) = Cert.OProjIdeal.defs (F := Bits) :=
  congrArg (Pipeline.defs (Cert.OProj.pcfgs (F := Bits))) bodies_eq

/-- The printed program terminates without fault on words, changes no argument and leaves every semaphore at zero. -/
theorem frame : Cert.quiescent_OProj (hOProj := Cert.OProj.Gen.facts) := by
  intro m ρ _
  have h := Cert.OProjIdeal.Hand.frame (F := Bits) m ρ
  rw [← main_eq, ← defs_eq] at h
  exact h

end Cert.OProj.Words

end
-- ==== Proof.Qkv.Values.lean ====
/- WHAT ONE CALL OF THE BODY COMPUTES, as functions of the contents of its input blocks and of its scratch. At the first grid
    point the rows are normalised and quantised; at every grid point the codes are multiplied with one block of 512 columns of
    the weights, which are four heads (`headV`). The heads of the first ten points are queries: they are rotated by the position
    (`ropeV`) and stored in the query array (`qStep`). The heads of the next two points are rotated keys, those of the last two
    are values: of each the scale and the minimum of every row are kept in scratch (`kStats`, `vStats`). -/
module

public import Idealize.ShloMosaic.Lib.Pointwise.Index
public import Idealize.ShloMosaic.Lib.Pipeline.ValueKit
public import Idealize.ShloMosaic.Lib.Pipeline.ReadBack
public import proofs.«01_k».proof.Proof.Gen.QkvIdeal.Frame
public import proofs.«01_k».proof.Proof.Gen.QkvIdeal.Skeleton

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The int8 codes of the normalised rows. -/
def codesV (x : Vec F S72x5120 .bf16) (g : Vec F S1x5120 .f32) : Vec F S72x5120 .i8 := k0_pay12 x g
/-- The codes as the multiplication reads them. -/
def abV (x : Vec F S72x5120 .bf16) (g : Vec F S1x5120 .f32) : Vec F S72x5120 .bf16 := k0_pay13 x g
/-- The scale of every row, in every lane. -/
def ascV (x : Vec F S72x5120 .bf16) (g : Vec F S1x5120 .f32) : Vec F S72x128 .f32 := k0_pay14 (k0_pay10 x g)
/-- The sum of the codes of every row, in every lane. -/
def asumV (x : Vec F S72x5120 .bf16) (g : Vec F S1x5120 .f32) : Vec F S72x128 .f32 := k0_pay15 (k0_pay11 x g)
/-- The lane number. -/
def laneV : IVec S72x128 32 := iota .tc S72x128 32 [1] iota_S72x128_d1_w32
/-- The statistics before any head: the scale of every row in lane 32, zero in the others. -/
def stat0V (x : Vec F S72x5120 .bf16) (g : Vec F S1x5120 .f32) : Vec F S72x128 .f32 := k0_pay16 (F := F) laneV (k0_pay10 x g)
/-- The cosines, twice side by side. -/
def ccV (co : Vec F S72x64 .f32) : Vec F S72x128 .f32 := k0_pay17 co
/-- The negated sines beside the sines. -/
def ssV (si : Vec F S72x64 .f32) : Vec F S72x128 .f32 := k0_pay18 si

/-- One block of columns of the product: the integer product less the zero points' share, scaled. -/
def yV (ab : Vec F S72x5120 .bf16) (asum asc : Vec F S72x128 .f32) (w : Vec F S2560x512 .i8) (ws wz : Vec F S1x512 .f32) :
    Vec F S72x512 .f32 :=
  k0_pay370 w (View.ld ab (Rect.unit (s := S72x5120) ![0, 0] S72x2560.size inb_S72x5120_S72x2560_0_0))
    (View.ld ab (Rect.unit (s := S72x5120) ![0, 2560] S72x2560.size inb_S72x5120_S72x2560_0_2560)) wz
    (View.ld asum (Rect.unit (s := S72x128) ![0, 0] S72x1.size inb_S72x128_S72x1_0_0))
    (View.ld asc (Rect.unit (s := S72x128) ![0, 0] S72x1.size inb_S72x128_S72x1_0_0)) ws

/-- The four heads of a block. -/
def headV (y : Vec F S72x512 .f32) (e : Fin 4) : Vec F S72x128 .f32 :=
  match e with
  | 0 => extractStridedSlice S72x128 ![0, 0] y slices_S72x512_o0_0_S72x128
  | 1 => extractStridedSlice S72x128 ![0, 128] y slices_S72x512_o0_128_S72x128
  | 2 => extractStridedSlice S72x128 ![0, 256] y slices_S72x512_o0_256_S72x128
  | 3 => extractStridedSlice S72x128 ![0, 384] y slices_S72x512_o0_384_S72x128

/-- A head rotated by the position. -/
def ropeV (h cc ss : Vec F S72x128 .f32) : Vec F S72x128 .f32 := k0_pay20 h cc ss

/-- The rows of the query array that the grid point `i` writes: sequence `b`, group `c`, position `s` and head `g` of the group lie
    in row `128 b + 16 c + 5 s + g`; the head counted over all groups is `5 c + g`, and the point `i` has the heads `4 i` to `4 i + 3`. -/
def qHead (n : ℕ) : ℕ := 5 * (n % 128 / 16) + n % 16 % 5
/-- What the point `i` stores at a row, from its four rotated heads. -/
def qNew (R : Fin 4 → Vec F S72x128 .f32) : Vec F S3072x128 .f32 := fun y =>
  R ⟨qHead (y 0).val % 4, Nat.mod_lt _ (by decide)⟩
    (ix2 (n0 := 72) (n1 := 128) ⟨((y 0).val % 16 / 5 * 24 + (y 0).val / 128) % 72, Nat.mod_lt _ (by decide)⟩ (y 1))
/-- The query array after the point `i`. -/
def qStep (i : ℕ) (R : Fin 4 → Vec F S72x128 .f32) (Y : Vec F S3072x128 .f32) : Vec F S3072x128 .f32 := fun y =>
  if (y 0).val % 16 < 15 ∧ qHead (y 0).val / 4 = i then qNew R y else Y y

/-- The statistics after a point with four heads of keys. -/
def kStats (i : grid0.Coords) (h : Fin 4 → Vec F S72x128 .f32) (cc ss st : Vec F S72x128 .f32) : Vec F S72x128 .f32 :=
  k0_pay6 (k0_pay86
    (k0_pay83 laneV (k0_pay37 (h 3) cc ss) (Scalar.subi (Scalar.muli (BitVec.ofNat 32 (i 0).val) 4#32) 40#32)
      (k0_pay70 laneV (k0_pay36 (h 2) cc ss) (Scalar.subi (Scalar.muli (BitVec.ofNat 32 (i 0).val) 4#32) 40#32)
        (k0_pay57 laneV (k0_pay35 (h 1) cc ss) (Scalar.subi (Scalar.muli (BitVec.ofNat 32 (i 0).val) 4#32) 40#32)
          (k0_pay44 laneV st (Scalar.addi (Scalar.subi (Scalar.muli (BitVec.ofNat 32 (i 0).val) 4#32) 40#32) 0#32)
            (k0_pay38 (h 0) cc ss) (k0_pay40 (h 0) cc ss) (k0_pay41 (h 0) cc ss) (Scalar.ofBits .f32 0x41700000#32)) 1#32)))
    (k0_pay84 laneV (Scalar.subi (Scalar.muli (BitVec.ofNat 32 (i 0).val) 4#32) 40#32)) (k0_pay85 (k0_pay37 (h 3) cc ss)))

/-- The statistics after a point with four heads of values. -/
def vStats (i : grid0.Coords) (h : Fin 4 → Vec F S72x128 .f32) (st : Vec F S72x128 .f32) : Vec F S72x128 .f32 :=
  k0_pay149 (k0_pay139 laneV
    (k0_pay124 laneV
      (k0_pay110 laneV (h 1) (Scalar.subi (Scalar.subi (Scalar.muli (BitVec.ofNat 32 (i 0).val) 4#32) 40#32) 8#32)
        (k0_pay96 laneV (h 0) (Scalar.muli (BitVec.ofNat 32 (i 0).val) 4#32) st))
      (Scalar.addi (Scalar.subi (Scalar.subi (Scalar.muli (BitVec.ofNat 32 (i 0).val) 4#32) 40#32) 8#32) 2#32)
      (k0_pay120 (h 2)) (k0_pay121 (h 2))
      (k0_pay123 laneV (Scalar.subi (Scalar.subi (Scalar.muli (BitVec.ofNat 32 (i 0).val) 4#32) 40#32) 8#32)))
    (Scalar.addi (Scalar.subi (Scalar.subi (Scalar.muli (BitVec.ofNat 32 (i 0).val) 4#32) 40#32) 8#32) 3#32)
    (k0_pay135 (h 3)) (k0_pay136 (h 3)))

/-- One statistic of eight heads, laid out by position: from row `o` of the transposed statistics. -/
def statsOut0 (st : Vec F S72x128 .f32) : Vec F S3x8x24 .f32 := fun j =>
  (if (j 0).val = 0 then k0_pay152 st else if (j 0).val = 1 then k0_pay158 st else k0_pay165 (k0_pay150 st))
    (ix3 (n0 := 1) (n1 := 8) (n2 := 24) 0 (j 1) (j 2))
def statsOut1 (st : Vec F S72x128 .f32) : Vec F S3x8x24 .f32 := fun j =>
  (if (j 0).val = 0 then k0_pay153 st else if (j 0).val = 1 then k0_pay160 (k0_pay159 st) else k0_pay166 (k0_pay150 st))
    (ix3 (n0 := 1) (n1 := 8) (n2 := 24) 0 (j 1) (j 2))
def statsOut2 (st : Vec F S72x128 .f32) : Vec F S3x8x24 .f32 := fun j =>
  (if (j 0).val = 0 then k0_pay154 st else if (j 0).val = 1 then k0_pay161 (k0_pay157 st) else k0_pay167 (k0_pay150 st))
    (ix3 (n0 := 1) (n1 := 8) (n2 := 24) 0 (j 1) (j 2))
def statsOut3 (st : Vec F S72x128 .f32) : Vec F S3x8x24 .f32 := fun j =>
  (if (j 0).val = 0 then k0_pay155 st else if (j 0).val = 1 then k0_pay162 (k0_pay157 st) else k0_pay168 (k0_pay150 st))
    (ix3 (n0 := 1) (n1 := 8) (n2 := 24) 0 (j 1) (j 2))
/-- The scales of the rows, laid out by position. -/
def scaleOut (st : Vec F S72x128 .f32) : Vec F S3x24 .f32 := fun j =>
  (if (j 0).val = 0 then k0_pay156 st else if (j 0).val = 1 then k0_pay163 (k0_pay157 st) else k0_pay169 (k0_pay150 st))
    (ix2 (n0 := 1) (n1 := 24) 0 (j 1))

/-- Where the point `i` stores position `s` of its head `e`. -/
theorem off1_val : ∀ i : grid0.Coords, (i 0).val < 10 → ∀ e : Fin 4, ∀ s : Fin 3,
    k0_off1 i (BitVec.ofNat 32 e.val) (BitVec.ofNat 32 e.val) (BitVec.ofNat 32 (5 * s.val)) 0
      = (4 * (i 0).val + e.val) / 5 * 16 + (4 * (i 0).val + e.val) % 5 + 5 * s.val
    ∧ k0_off1 i (BitVec.ofNat 32 e.val) (BitVec.ofNat 32 e.val) (BitVec.ofNat 32 (5 * s.val)) 1 = 0 := by decide +kernel

/-- The head, the position and the sequence of a row. -/
theorem qHead_of (n m s x : ℕ) (hm : m < 40) (hs : s < 3) (h : n = m / 5 * 16 + m % 5 + 5 * s + 128 * x) :
    qHead n = m ∧ n % 16 / 5 = s ∧ n / 128 = x := by
  have h5 : m % 5 < 5 := Nat.mod_lt _ (by decide)
  have h8 : m / 5 < 8 := by omega
  have e0 : n % 128 = m / 5 * 16 + m % 5 + 5 * s := by omega
  have e1 : n % 16 = m % 5 + 5 * s := by omega
  have e2 : n % 128 / 16 = m / 5 := by omega
  unfold qHead
  rw [e2, e1]
  refine ⟨?_, ?_, ?_⟩ <;> omega

/-- A piece that the point `i` stores for position `s` of its head `e` is its part of `qNew`. -/
theorem qPiece_agree (i : grid0.Coords) (hi : (i 0).val < 10) (R : Fin 4 → Vec F S72x128 .f32) (e : Fin 4) (s : Fin 3) (inb) (pos) (h)
    (x : S24x128.Idx) :
    extractStridedSlice S24x128 ![24 * s.val, 0] (R e) h x
      = qNew R ((⟨(⟨k0_off1 i (BitVec.ofNat 32 e.val) (BitVec.ofNat 32 e.val) (BitVec.ofNat 32 (5 * s.val)), S24x128.size, ![128, 1], inb⟩ : LoadRect S3072x128), pos⟩ : Rect S3072x128).emb x) := by
  obtain ⟨e0, e1⟩ := off1_val i hi e s
  have hx0 : (x 0).val < 24 := (x 0).isLt
  have he := e.isLt
  have hs := s.isLt
  have w0 : (((⟨(⟨k0_off1 i (BitVec.ofNat 32 e.val) (BitVec.ofNat 32 e.val) (BitVec.ofNat 32 (5 * s.val)), S24x128.size, ![128, 1], inb⟩ : LoadRect S3072x128), pos⟩ : Rect S3072x128).emb x) 0).val
      = (4 * (i 0).val + e.val) / 5 * 16 + (4 * (i 0).val + e.val) % 5 + 5 * s.val + 128 * (x 0).val := by
    show k0_off1 i (BitVec.ofNat 32 e.val) (BitVec.ofNat 32 e.val) (BitVec.ofNat 32 (5 * s.val)) 0 + 128 * (x 0).val = _
    rw [e0]
  have w1 : (((⟨(⟨k0_off1 i (BitVec.ofNat 32 e.val) (BitVec.ofNat 32 e.val) (BitVec.ofNat 32 (5 * s.val)), S24x128.size, ![128, 1], inb⟩ : LoadRect S3072x128), pos⟩ : Rect S3072x128).emb x) 1).val
      = (x 1).val := by
    show k0_off1 i (BitVec.ofNat 32 e.val) (BitVec.ofNat 32 e.val) (BitVec.ofNat 32 (5 * s.val)) 1 + 1 * (x 1).val = _
    rw [e1]; omega
  generalize (⟨(⟨k0_off1 i (BitVec.ofNat 32 e.val) (BitVec.ofNat 32 e.val) (BitVec.ofNat 32 (5 * s.val)), S24x128.size, ![128, 1], inb⟩ : LoadRect S3072x128), pos⟩ : Rect S3072x128).emb x = y at w0 w1
  obtain ⟨hq, hr, hb⟩ := qHead_of (y 0).val _ s.val (x 0).val (by omega) hs w0
  unfold qNew
  have hE : (⟨qHead (y 0).val % 4, Nat.mod_lt _ (by decide)⟩ : Fin 4) = e := by
    apply Fin.ext; show qHead (y 0).val % 4 = e.val; rw [hq]; omega
  rw [hE]
  show R e _ = _
  congr 1
  funext a
  apply Fin.ext
  match a with
  | ⟨0, _⟩ =>
    show 24 * s.val + (x 0).val = ((y 0).val % 16 / 5 * 24 + (y 0).val / 128) % 72
    rw [hr, hb]; omega
  | ⟨1, _⟩ =>
    show 0 + (x 1).val = (y 1).val
    omega

/-- Which rows that piece holds. -/
theorem qPiece_mem (i : grid0.Coords) (hi : (i 0).val < 10) (e : Fin 4) (s : Fin 3) (inb) (pos) (y : S3072x128.Idx) :
    y ∈ (⟨(⟨k0_off1 i (BitVec.ofNat 32 e.val) (BitVec.ofNat 32 e.val) (BitVec.ofNat 32 (5 * s.val)), S24x128.size, ![128, 1], inb⟩ : LoadRect S3072x128), pos⟩ : Rect S3072x128).set
      ↔ (y 0).val % 128 = (4 * (i 0).val + e.val) / 5 * 16 + (4 * (i 0).val + e.val) % 5 + 5 * s.val := by
  obtain ⟨e0, e1⟩ := off1_val i hi e s
  have hy0 : (y 0).val < 3072 := (y 0).isLt
  have hy1 : (y 1).val < 128 := (y 1).isLt
  have he := e.isLt
  have hs := s.isLt
  refine Iff.trans (LoadRect.mem_set _) ?_
  constructor
  · intro h
    obtain ⟨j, hj, hy⟩ := h 0
    have hy' : (y 0).val = k0_off1 i (BitVec.ofNat 32 e.val) (BitVec.ofNat 32 e.val) (BitVec.ofNat 32 (5 * s.val)) 0 + 128 * j := hy
    rw [e0] at hy'
    omega
  · intro h a
    match a with
    | ⟨0, _⟩ =>
      refine ⟨(y 0).val / 128, ?_, ?_⟩
      · show (y 0).val / 128 < 24; omega
      · show (y 0).val = k0_off1 i (BitVec.ofNat 32 e.val) (BitVec.ofNat 32 e.val) (BitVec.ofNat 32 (5 * s.val)) 0 + 128 * ((y 0).val / 128)
        rw [e0]; omega
    | ⟨1, _⟩ =>
      refine ⟨(y 1).val, hy1, ?_⟩
      show (y 1).val = k0_off1 i (BitVec.ofNat 32 e.val) (BitVec.ofNat 32 e.val) (BitVec.ofNat 32 (5 * s.val)) 1 + 1 * (y 1).val
      rw [e1]; omega

/-- A list of stores whose pieces all agree with `qNew`, and which hold exactly the rows of the point `i`, leaves `qStep`. -/
theorem q_writes {sp : Space} (v : View sig .tc sp S3072x128 .f32) (f : v.ty.Contents (Elt F)) (i : ℕ) (R : Fin 4 → Vec F S72x128 .f32)
    (L : List (View.Piece (Elt F) S3072x128 .f32)) (hL : ∀ p ∈ L, ∀ x : p.1.shape.Idx, p.2 x = qNew R (p.1.emb x))
    (hM : ∀ y, (∃ p ∈ L, y ∈ p.1.set) ↔ ((y 0).val % 16 < 15 ∧ qHead (y 0).val / 4 = i)) :
    v.read (Elt F) (v.writes (Elt F) f L) = qStep i R (v.read (Elt F) f) := by
  funext y
  unfold qStep
  by_cases h : (y 0).val % 16 < 15 ∧ qHead (y 0).val / 4 = i
  · rw [if_pos h]
    exact View.read_writes_apply_of_pieces v f (qNew R) L hL y ((hM y).mpr h)
  · rw [if_neg h]
    exact View.read_writes_apply_of_forall_not_mem v f y L fun p hp hy => h ((hM y).mp ⟨p, hp, hy⟩)

/-- The row of a query lies in the piece of its head and position. -/
theorem qRow_iff (n i : ℕ) (hn : n < 3072) (hi : i < 10) :
    (∃ e : Fin 4, ∃ s : Fin 3, n % 128 = (4 * i + e.val) / 5 * 16 + (4 * i + e.val) % 5 + 5 * s.val)
      ↔ (n % 16 < 15 ∧ qHead n / 4 = i) := by
  unfold qHead
  constructor
  · rintro ⟨e, s, h⟩
    have he := e.isLt
    have hs := s.isLt
    generalize hm : 4 * i + e.val = m at h
    generalize s.val = s at h hs
    have h5 : m % 5 < 5 := Nat.mod_lt _ (by decide)
    have e1 : n % 16 = m % 5 + 5 * s := by omega
    have e2 : n % 128 / 16 = m / 5 := by omega
    rw [e1, e2]
    have e3 : (m % 5 + 5 * s) % 5 = m % 5 := by omega
    rw [e3]
    omega
  · rintro ⟨h1, h2⟩
    refine ⟨⟨(5 * (n % 128 / 16) + n % 16 % 5) % 4, Nat.mod_lt _ (by decide)⟩, ⟨n % 16 / 5, by omega⟩, ?_⟩
    show n % 128 = (4 * i + (5 * (n % 128 / 16) + n % 16 % 5) % 4) / 5 * 16 + (4 * i + (5 * (n % 128 / 16) + n % 16 % 5) % 4) % 5 + 5 * (n % 16 / 5)
    have : 4 * i + (5 * (n % 128 / 16) + n % 16 % 5) % 4 = 5 * (n % 128 / 16) + n % 16 % 5 := by omega
    rw [this]; omega

/-- The twelve pieces of a point leave `qStep`. -/
theorem q_writes12 {sp : Space} (v : View sig .tc sp S3072x128 .f32) (f : v.ty.Contents (Elt F)) (i : grid0.Coords)
    (hi : (i 0).val < 10) (k0_h2 : k0_cond2 i = 1#1) (h : Fin 4 → Vec F S72x128 .f32) (cc ss : Vec F S72x128 .f32) :
    v.read (Elt F) (v.writes (Elt F) f
      [⟨⟨(⟨k0_off1 i 3#32 3#32 10#32, S24x128.size, ![128, 1], (k0_off1_inb i k0_h2 11)⟩ : LoadRect S3072x128), spos_128_1⟩, k0_pay2 (k0_pay32 (h 3) cc ss)⟩,
       ⟨⟨(⟨k0_off1 i 3#32 3#32 5#32, S24x128.size, ![128, 1], (k0_off1_inb i k0_h2 10)⟩ : LoadRect S3072x128), spos_128_1⟩, k0_pay1 (k0_pay32 (h 3) cc ss)⟩,
       ⟨⟨(⟨k0_off1 i 3#32 3#32 0#32, S24x128.size, ![128, 1], (k0_off1_inb i k0_h2 9)⟩ : LoadRect S3072x128), spos_128_1⟩, k0_pay33 (h 3) cc ss⟩,
       ⟨⟨(⟨k0_off1 i 2#32 2#32 10#32, S24x128.size, ![128, 1], (k0_off1_inb i k0_h2 8)⟩ : LoadRect S3072x128), spos_128_1⟩, k0_pay31 (k0_pay28 (h 2) cc ss)⟩,
       ⟨⟨(⟨k0_off1 i 2#32 2#32 5#32, S24x128.size, ![128, 1], (k0_off1_inb i k0_h2 7)⟩ : LoadRect S3072x128), spos_128_1⟩, k0_pay30 (k0_pay28 (h 2) cc ss)⟩,
       ⟨⟨(⟨k0_off1 i 2#32 2#32 0#32, S24x128.size, ![128, 1], (k0_off1_inb i k0_h2 6)⟩ : LoadRect S3072x128), spos_128_1⟩, k0_pay29 (k0_pay28 (h 2) cc ss)⟩,
       ⟨⟨(⟨k0_off1 i 1#32 1#32 10#32, S24x128.size, ![128, 1], (k0_off1_inb i k0_h2 5)⟩ : LoadRect S3072x128), spos_128_1⟩, k0_pay27 (k0_pay24 (h 1) cc ss)⟩,
       ⟨⟨(⟨k0_off1 i 1#32 1#32 5#32, S24x128.size, ![128, 1], (k0_off1_inb i k0_h2 4)⟩ : LoadRect S3072x128), spos_128_1⟩, k0_pay26 (k0_pay24 (h 1) cc ss)⟩,
       ⟨⟨(⟨k0_off1 i 1#32 1#32 0#32, S24x128.size, ![128, 1], (k0_off1_inb i k0_h2 3)⟩ : LoadRect S3072x128), spos_128_1⟩, k0_pay25 (k0_pay24 (h 1) cc ss)⟩,
       ⟨⟨(⟨k0_off1 i 0#32 0#32 10#32, S24x128.size, ![128, 1], (k0_off1_inb i k0_h2 2)⟩ : LoadRect S3072x128), spos_128_1⟩, k0_pay23 (k0_pay20 (h 0) cc ss)⟩,
       ⟨⟨(⟨k0_off1 i 0#32 0#32 5#32, S24x128.size, ![128, 1], (k0_off1_inb i k0_h2 1)⟩ : LoadRect S3072x128), spos_128_1⟩, k0_pay22 (k0_pay20 (h 0) cc ss)⟩,
       ⟨⟨(⟨k0_off1 i 0#32 0#32 0#32, S24x128.size, ![128, 1], (k0_off1_inb i k0_h2 0)⟩ : LoadRect S3072x128), spos_128_1⟩, k0_pay21 (h 0) cc ss⟩])
      = qStep (i 0).val (fun e => ropeV (h e) cc ss) (v.read (Elt F) f) := by
  refine q_writes v f (i 0).val (fun e => ropeV (h e) cc ss) _ ?_ ?_
  · simp only [List.forall_mem_cons, List.not_mem_nil, false_imp_iff, implies_true, and_true]
    exact ⟨fun x => qPiece_agree i hi (fun e => ropeV (h e) cc ss) 3 2 _ spos_128_1 slices_S72x128_o48_0_S24x128 x,
      fun x => qPiece_agree i hi (fun e => ropeV (h e) cc ss) 3 1 _ spos_128_1 slices_S72x128_o24_0_S24x128 x,
      fun x => qPiece_agree i hi (fun e => ropeV (h e) cc ss) 3 0 _ spos_128_1 slices_S72x128_o0_0_S24x128 x,
      fun x => qPiece_agree i hi (fun e => ropeV (h e) cc ss) 2 2 _ spos_128_1 slices_S72x128_o48_0_S24x128 x,
      fun x => qPiece_agree i hi (fun e => ropeV (h e) cc ss) 2 1 _ spos_128_1 slices_S72x128_o24_0_S24x128 x,
      fun x => qPiece_agree i hi (fun e => ropeV (h e) cc ss) 2 0 _ spos_128_1 slices_S72x128_o0_0_S24x128 x,
      fun x => qPiece_agree i hi (fun e => ropeV (h e) cc ss) 1 2 _ spos_128_1 slices_S72x128_o48_0_S24x128 x,
      fun x => qPiece_agree i hi (fun e => ropeV (h e) cc ss) 1 1 _ spos_128_1 slices_S72x128_o24_0_S24x128 x,
      fun x => qPiece_agree i hi (fun e => ropeV (h e) cc ss) 1 0 _ spos_128_1 slices_S72x128_o0_0_S24x128 x,
      fun x => qPiece_agree i hi (fun e => ropeV (h e) cc ss) 0 2 _ spos_128_1 slices_S72x128_o48_0_S24x128 x,
      fun x => qPiece_agree i hi (fun e => ropeV (h e) cc ss) 0 1 _ spos_128_1 slices_S72x128_o24_0_S24x128 x,
      fun x => qPiece_agree i hi (fun e => ropeV (h e) cc ss) 0 0 _ spos_128_1 slices_S72x128_o0_0_S24x128 x⟩
  · intro y
    rw [← qRow_iff (y 0).val (i 0).val (y 0).isLt hi]
    simp only [List.exists_mem_cons_iff, List.not_mem_nil, _root_.false_and, exists_false, _root_.or_false]
    constructor
    · rintro (H | H | H | H | H | H | H | H | H | H | H | H)
      · exact ⟨3, 2, (qPiece_mem i hi 3 2 _ spos_128_1 y).mp H⟩
      · exact ⟨3, 1, (qPiece_mem i hi 3 1 _ spos_128_1 y).mp H⟩
      · exact ⟨3, 0, (qPiece_mem i hi 3 0 _ spos_128_1 y).mp H⟩
      · exact ⟨2, 2, (qPiece_mem i hi 2 2 _ spos_128_1 y).mp H⟩
      · exact ⟨2, 1, (qPiece_mem i hi 2 1 _ spos_128_1 y).mp H⟩
      · exact ⟨2, 0, (qPiece_mem i hi 2 0 _ spos_128_1 y).mp H⟩
      · exact ⟨1, 2, (qPiece_mem i hi 1 2 _ spos_128_1 y).mp H⟩
      · exact ⟨1, 1, (qPiece_mem i hi 1 1 _ spos_128_1 y).mp H⟩
      · exact ⟨1, 0, (qPiece_mem i hi 1 0 _ spos_128_1 y).mp H⟩
      · exact ⟨0, 2, (qPiece_mem i hi 0 2 _ spos_128_1 y).mp H⟩
      · exact ⟨0, 1, (qPiece_mem i hi 0 1 _ spos_128_1 y).mp H⟩
      · exact ⟨0, 0, (qPiece_mem i hi 0 0 _ spos_128_1 y).mp H⟩
    · rintro ⟨e, s, hes⟩
      have H := fun inb pos => (qPiece_mem i hi e s inb pos y).mpr hes
      clear hes
      fin_cases e <;> fin_cases s
      · exact .inr (.inr (.inr (.inr (.inr (.inr (.inr (.inr (.inr (.inr (.inr (H _ spos_128_1)))))))))))
      · exact .inr (.inr (.inr (.inr (.inr (.inr (.inr (.inr (.inr (.inr (.inl (H _ spos_128_1)))))))))))
      · exact .inr (.inr (.inr (.inr (.inr (.inr (.inr (.inr (.inr (.inl (H _ spos_128_1))))))))))
      · exact .inr (.inr (.inr (.inr (.inr (.inr (.inr (.inr (.inl (H _ spos_128_1)))))))))
      · exact .inr (.inr (.inr (.inr (.inr (.inr (.inr (.inl (H _ spos_128_1))))))))
      · exact .inr (.inr (.inr (.inr (.inr (.inr (.inl (H _ spos_128_1)))))))
      · exact .inr (.inr (.inr (.inr (.inr (.inl (H _ spos_128_1))))))
      · exact .inr (.inr (.inr (.inr (.inl (H _ spos_128_1)))))
      · exact .inr (.inr (.inr (.inl (H _ spos_128_1))))
      · exact .inr (.inr (.inl (H _ spos_128_1)))
      · exact .inr (.inl (H _ spos_128_1))
      · exact .inl (H _ spos_128_1)

end Cert.QkvIdeal.Hand

end
-- ==== Proof.Qkv.BodyA.lean ====
module

public import proofs.«01_k».proof.Proof.Qkv.Values

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store of the whole buffer covers it. -/
theorem covers {e : EltTy} (n0 n1 : ℕ) (inb) (p : Vec F ⟨2, ![n0, n1]⟩ e) :
    ∀ y : (⟨2, ![n0, n1]⟩ : Shape).Idx, ∃ q ∈ [(⟨Rect.unit (s := ⟨2, ![n0, n1]⟩) ![0, 0] ![n0, n1] inb, p⟩ : View.Piece (Elt F) ⟨2, ![n0, n1]⟩ e)], y ∈ q.1.set := fun y => by
  refine ⟨(⟨Rect.unit (s := ⟨2, ![n0, n1]⟩) ![0, 0] ![n0, n1] inb, p⟩ : View.Piece (Elt F) ⟨2, ![n0, n1]⟩ e), List.mem_singleton_self _, ?_⟩
  show y ∈ (Rect.unit (s := ⟨2, ![n0, n1]⟩) ![0, 0] ![n0, n1] inb).set
  rw [Rect.mem_set_unit]
  intro a
  have h := (y a).isLt
  match a with
  | ⟨0, _⟩ => exact ⟨Nat.zero_le _, lt_of_lt_of_eq h (Nat.zero_add _).symm⟩
  | ⟨1, _⟩ => exact ⟨Nat.zero_le _, lt_of_lt_of_eq h (Nat.zero_add _).symm⟩

/-- A load, after one store of the whole buffer, of part of what was stored. -/
theorem cov_rows (v : View sig .tc .vmem S72x5120 .bf16) (inb) (p : Vec F S72x5120 .bf16) (r : Rect S72x5120) :
    v.readCov [(⟨Rect.unit (s := S72x5120) ![0, 0] ![72, 5120] inb, p⟩ : View.Piece (Elt F) S72x5120 .bf16)] r.toLoadRect = View.ld p r := by
  rw [View.readCov_eq_canon_ld _ _ _ (covers 72 5120 inb p), View.canon_cons_unit_lit _ _ _ (by decide)]

/-- The same for the buffers of 128 lanes. -/
theorem cov_lanes (v : View sig .tc .vmem S72x128 .f32) (inb) (p : Vec F S72x128 .f32) (r : Rect S72x128) :
    v.readCov [(⟨Rect.unit (s := S72x128) ![0, 0] ![72, 128] inb, p⟩ : View.Piece (Elt F) S72x128 .f32)] r.toLoadRect = View.ld p r := by
  rw [View.readCov_eq_canon_ld _ _ _ (covers 72 128 inb p), View.canon_cons_unit_lit _ _ _ (by decide)]

/-- A load of all that was stored. -/
theorem cov_all (v : View sig .tc .vmem S72x128 .f32) (inb inb') (p : Vec F S72x128 .f32) :
    v.readCov [(⟨Rect.unit (s := S72x128) ![0, 0] ![72, 128] inb, p⟩ : View.Piece (Elt F) S72x128 .f32)]
      (Rect.unit (s := S72x128) ![0, 0] ![72, 128] inb').toLoadRect = p := by
  rw [cov_lanes]
  exact View.ld_unit_lit (Val := Elt F) (S := S72x128) (e := .f32) _ p (by decide)

/-- The twelve pieces of a point over an array filled before leave `qStep` of what it was filled with. -/
theorem q_writes13 {sp : Space} (v : View sig .tc sp S3072x128 .f32) (f : v.ty.Contents (Elt F)) (i : grid0.Coords) (inb) (p : Vec F S3072x128 .f32)
    (hi : (i 0).val < 10) (k0_h2 : k0_cond2 i = 1#1) (h : Fin 4 → Vec F S72x128 .f32) (cc ss : Vec F S72x128 .f32) :
    v.read (Elt F) (v.writes (Elt F) f
      [⟨⟨(⟨k0_off1 i 3#32 3#32 10#32, S24x128.size, ![128, 1], (k0_off1_inb i k0_h2 11)⟩ : LoadRect S3072x128), spos_128_1⟩, k0_pay2 (k0_pay32 (h 3) cc ss)⟩,
       ⟨⟨(⟨k0_off1 i 3#32 3#32 5#32, S24x128.size, ![128, 1], (k0_off1_inb i k0_h2 10)⟩ : LoadRect S3072x128), spos_128_1⟩, k0_pay1 (k0_pay32 (h 3) cc ss)⟩,
       ⟨⟨(⟨k0_off1 i 3#32 3#32 0#32, S24x128.size, ![128, 1], (k0_off1_inb i k0_h2 9)⟩ : LoadRect S3072x128), spos_128_1⟩, k0_pay33 (h 3) cc ss⟩,
       ⟨⟨(⟨k0_off1 i 2#32 2#32 10#32, S24x128.size, ![128, 1], (k0_off1_inb i k0_h2 8)⟩ : LoadRect S3072x128), spos_128_1⟩, k0_pay31 (k0_pay28 (h 2) cc ss)⟩,
       ⟨⟨(⟨k0_off1 i 2#32 2#32 5#32, S24x128.size, ![128, 1], (k0_off1_inb i k0_h2 7)⟩ : LoadRect S3072x128), spos_128_1⟩, k0_pay30 (k0_pay28 (h 2) cc ss)⟩,
       ⟨⟨(⟨k0_off1 i 2#32 2#32 0#32, S24x128.size, ![128, 1], (k0_off1_inb i k0_h2 6)⟩ : LoadRect S3072x128), spos_128_1⟩, k0_pay29 (k0_pay28 (h 2) cc ss)⟩,
       ⟨⟨(⟨k0_off1 i 1#32 1#32 10#32, S24x128.size, ![128, 1], (k0_off1_inb i k0_h2 5)⟩ : LoadRect S3072x128), spos_128_1⟩, k0_pay27 (k0_pay24 (h 1) cc ss)⟩,
       ⟨⟨(⟨k0_off1 i 1#32 1#32 5#32, S24x128.size, ![128, 1], (k0_off1_inb i k0_h2 4)⟩ : LoadRect S3072x128), spos_128_1⟩, k0_pay26 (k0_pay24 (h 1) cc ss)⟩,
       ⟨⟨(⟨k0_off1 i 1#32 1#32 0#32, S24x128.size, ![128, 1], (k0_off1_inb i k0_h2 3)⟩ : LoadRect S3072x128), spos_128_1⟩, k0_pay25 (k0_pay24 (h 1) cc ss)⟩,
       ⟨⟨(⟨k0_off1 i 0#32 0#32 10#32, S24x128.size, ![128, 1], (k0_off1_inb i k0_h2 2)⟩ : LoadRect S3072x128), spos_128_1⟩, k0_pay23 (k0_pay20 (h 0) cc ss)⟩,
       ⟨⟨(⟨k0_off1 i 0#32 0#32 5#32, S24x128.size, ![128, 1], (k0_off1_inb i k0_h2 1)⟩ : LoadRect S3072x128), spos_128_1⟩, k0_pay22 (k0_pay20 (h 0) cc ss)⟩,
       ⟨⟨(⟨k0_off1 i 0#32 0#32 0#32, S24x128.size, ![128, 1], (k0_off1_inb i k0_h2 0)⟩ : LoadRect S3072x128), spos_128_1⟩, k0_pay21 (h 0) cc ss⟩,
       ⟨Rect.unit ![0, 0] S3072x128.size inb, p⟩])
      = qStep (i 0).val (fun e => ropeV (h e) cc ss) p := by
  have H := q_writes12 v (v.writes (Elt F) f [⟨Rect.unit ![0, 0] S3072x128.size inb, p⟩]) i hi k0_h2 h cc ss
  have E : v.read (Elt F) (v.writes (Elt F) f [⟨Rect.unit ![0, 0] S3072x128.size inb, p⟩]) = p := by
    rw [View.read_writes_eq_canon _ _ _ (covers 3072 128 inb p), View.canon_cons_unit_lit _ _ _ (by decide)]
  rw [E] at H
  rw [← H]
  simp only [View.writes_cons, View.writes_nil]

set_option maxHeartbeats 4000000 in
/-- The body at the first grid point: it normalises and quantises the rows, fills its scratch, clears the query array and stores the first four rotated heads of queries. -/
theorem run_A (c : Dev nD) (i : grid0.Coords) (arg1 : Memref sig .tc .vmem S72x5120 .bf16) (harg1 : arg1.IsWhole) (arg2 : Memref sig .tc .vmem S1x5120 .f32) (harg2 : arg2.IsWhole) (arg3 : Memref sig .tc .vmem S2560x512 .i8) (harg3 : arg3.IsWhole) (arg4 : Memref sig .tc .vmem S1x512 .f32) (harg4 : arg4.IsWhole) (arg5 : Memref sig .tc .vmem S1x512 .f32) (harg5 : arg5.IsWhole) (arg6 : Memref sig .tc .vmem S72x64 .f32) (harg6 : arg6.IsWhole) (arg7 : Memref sig .tc .vmem S72x64 .f32) (harg7 : arg7.IsWhole) (arg8 : Memref sig .tc .vmem S72x5120 .i8) (harg8 : arg8.IsWhole) (arg9 : Memref sig .tc .vmem S3x24 .f32) (harg9 : arg9.IsWhole) (arg10 : Memref sig .tc .vmem S3072x128 .f32) (harg10 : arg10.IsWhole) (arg11 : Memref sig .tc .vmem S4608x128 .f32) (harg11 : arg11.IsWhole) (arg12 : Memref sig .tc .vmem S72x8x64 .i8) (harg12 : arg12.IsWhole) (arg13 : Memref sig .tc .vmem S3x8x24 .f32) (harg13 : arg13.IsWhole) (arg14 : Memref sig .tc .vmem S3x8x24 .f32) (harg14 : arg14.IsWhole) (arg15 : Memref sig .tc .vmem S72x8x64 .i8) (harg15 : arg15.IsWhole) (arg16 : Memref sig .tc .vmem S3x8x24 .f32) (harg16 : arg16.IsWhole) (arg17 : Memref sig .tc .vmem S3x8x24 .f32) (harg17 : arg17.IsWhole) (arg18 : Memref sig .tc .vmem S72x5120 .bf16) (harg18 : arg18.IsWhole) (arg19 : Memref sig .tc .vmem S72x128 .f32) (harg19 : arg19.IsWhole) (arg20 : Memref sig .tc .vmem S72x128 .f32) (harg20 : arg20.IsWhole) (arg21 : Memref sig .tc .vmem S72x128 .f32) (harg21 : arg21.IsWhole) (arg22 : Memref sig .tc .vmem S72x128 .f32) (harg22 : arg22.IsWhole) (arg23 : Memref sig .tc .vmem S72x128 .f32) (harg23 : arg23.IsWhole) (hc1 : k0_cond1 i = 1#1) (hc2 : k0_cond2 i = 1#1) (hc3 : ¬k0_cond3 i = 1#1) (hc4 : ¬k0_cond4 i = 1#1) (hc5 : ¬k0_cond5 i = 1#1) (hi : (i 0).val < 10)
    (x : Vec F S72x5120 .bf16) (g : Vec F S1x5120 .f32) (w : Vec F S2560x512 .i8) (ws : Vec F S1x512 .f32) (wz : Vec F S1x512 .f32) (co : Vec F S72x64 .f32) (si : Vec F S72x64 .f32) (xsc : Vec F S3x24 .f32) (n : Vec F S4608x128 .f32) (kc : Vec F S72x8x64 .i8) (ks : Vec F S3x8x24 .f32) (kz : Vec F S3x8x24 .f32) (vc : Vec F S72x8x64 .i8) (vs : Vec F S3x8x24 .f32) (vz : Vec F S3x8x24 .f32) :
      ∀ (E : Set ℕ) (K : PUnit → sProp 𝕄),
        iprop(owns (c : Thread nD τ) arg1 fullShare x ∗ owns (c : Thread nD τ) arg2 fullShare g ∗ owns (c : Thread nD τ) arg3 fullShare w ∗ owns (c : Thread nD τ) arg4 fullShare ws ∗ owns (c : Thread nD τ) arg5 fullShare wz ∗ owns (c : Thread nD τ) arg6 fullShare co ∗ owns (c : Thread nD τ) arg7 fullShare si ∗ (∃ d, owns (c : Thread nD τ) arg8 fullShare d) ∗ owns (c : Thread nD τ) arg9 fullShare xsc ∗ (∃ d, owns (c : Thread nD τ) arg10 fullShare d) ∗ owns (c : Thread nD τ) arg11 fullShare n ∗ owns (c : Thread nD τ) arg12 fullShare kc ∗ owns (c : Thread nD τ) arg13 fullShare ks ∗ owns (c : Thread nD τ) arg14 fullShare kz ∗ owns (c : Thread nD τ) arg15 fullShare vc ∗ owns (c : Thread nD τ) arg16 fullShare vs ∗ owns (c : Thread nD τ) arg17 fullShare vz ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x ∗ owns (c : Thread nD τ) arg2 fullShare g ∗ owns (c : Thread nD τ) arg3 fullShare w ∗ owns (c : Thread nD τ) arg4 fullShare ws ∗ owns (c : Thread nD τ) arg5 fullShare wz ∗ owns (c : Thread nD τ) arg6 fullShare co ∗ owns (c : Thread nD τ) arg7 fullShare si ∗ owns (c : Thread nD τ) arg8 fullShare (codesV x g) ∗ owns (c : Thread nD τ) arg9 fullShare xsc ∗ owns (c : Thread nD τ) arg10 fullShare (qStep (i 0).val (fun e => ropeV (headV (yV (abV x g) (asumV x g) (ascV x g) w ws wz) e) (ccV co) (ssV si)) (k0_pay19 (F := F))) ∗ owns (c : Thread nD τ) arg11 fullShare n ∗ owns (c : Thread nD τ) arg12 fullShare kc ∗ owns (c : Thread nD τ) arg13 fullShare ks ∗ owns (c : Thread nD τ) arg14 fullShare kz ∗ owns (c : Thread nD τ) arg15 fullShare vc ∗ owns (c : Thread nD τ) arg16 fullShare vs ∗ owns (c : Thread nD τ) arg17 fullShare vz ∗ owns (c : Thread nD τ) arg18 fullShare (abV x g) ∗ owns (c : Thread nD τ) arg19 fullShare (asumV x g) ∗ owns (c : Thread nD τ) arg20 fullShare (ascV x g) ∗ owns (c : Thread nD τ) arg21 fullShare (ccV co) ∗ owns (c : Thread nD τ) arg22 fullShare (ssV si) ∗ owns (c : Thread nD τ) arg23 fullShare (stat0V x g)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_qkv_eq_skeleton]; unfold cc0_qkv_skel
    simp only [k0_part74_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec (disch := first | sl_exact hc1 | sl_exact hc2 | sl_exact hc3 | sl_exact hc4 | sl_exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      refine (View.read_writes_eq_canon _ _ _ (View.cover_of_tiled_head _ _ _ rfl)).trans ?_
      rw [View.canon_cons_unit_lit _ _ _ (by decide)]
      sl_unfold_words
      simp only [View.readAt_eq_ld, hf1, hf2, hf3, hf4, hf5, hf6, hf7]
      rw [View.ld_unit_lit _ x (by decide), View.ld_unit_lit _ g (by decide)]
      rfl
    isplitl [H9]
    · iexists _; isplitr; · ipureintro; exact harg9.read_unread _
      iexact H9
    isplitl [H10]
    · iexists _; isplitr; swap; · iexact H10
      ipureintro
      sl_unfold_words
      simp only [View.readAt_eq_ld, hf1, hf2, hf3, hf4, hf5, hf6, hf7, cov_all, cov_rows]
      simp only [cov_lanes]
      rw [View.ld_unit_lit _ x (by decide), View.ld_unit_lit _ g (by decide), View.ld_unit_lit _ w (by decide), View.ld_unit_lit _ ws (by decide), View.ld_unit_lit _ wz (by decide), View.ld_unit_lit _ co (by decide), View.ld_unit_lit _ si (by decide)]
      exact q_writes13 _ _ i _ _ hi hc2 (headV (yV (abV x g) (asumV x g) (ascV x g) w ws wz)) (ccV co) (ssV si)
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; swap; · iexact H18
      ipureintro
      refine (View.read_writes_eq_canon _ _ _ (View.cover_of_tiled_head _ _ _ rfl)).trans ?_
      rw [View.canon_cons_unit_lit _ _ _ (by decide)]
      sl_unfold_words
      simp only [View.readAt_eq_ld, hf1, hf2, hf3, hf4, hf5, hf6, hf7]
      rw [View.ld_unit_lit _ x (by decide), View.ld_unit_lit _ g (by decide)]
      rfl
    isplitl [H19]
    · iexists _; isplitr; swap; · iexact H19
      ipureintro
      refine (View.read_writes_eq_canon _ _ _ (View.cover_of_tiled_head _ _ _ rfl)).trans ?_
      rw [View.canon_cons_unit_lit _ _ _ (by decide)]
      sl_unfold_words
      simp only [View.readAt_eq_ld, hf1, hf2, hf3, hf4, hf5, hf6, hf7]
      rw [View.ld_unit_lit _ x (by decide), View.ld_unit_lit _ g (by decide)]
      rfl
    isplitl [H20]
    · iexists _; isplitr; swap; · iexact H20
      ipureintro
      refine (View.read_writes_eq_canon _ _ _ (View.cover_of_tiled_head _ _ _ rfl)).trans ?_
      rw [View.canon_cons_unit_lit _ _ _ (by decide)]
      sl_unfold_words
      simp only [View.readAt_eq_ld, hf1, hf2, hf3, hf4, hf5, hf6, hf7]
      rw [View.ld_unit_lit _ x (by decide), View.ld_unit_lit _ g (by decide)]
      rfl
    isplitl [H21]
    · iexists _; isplitr; swap; · iexact H21
      ipureintro
      refine (View.read_writes_eq_canon _ _ _ (View.cover_of_tiled_head _ _ _ rfl)).trans ?_
      rw [View.canon_cons_unit_lit _ _ _ (by decide)]
      sl_unfold_words
      simp only [View.readAt_eq_ld, hf1, hf2, hf3, hf4, hf5, hf6, hf7]
      rw [View.ld_unit_lit _ co (by decide)]
      rfl
    isplitl [H22]
    · iexists _; isplitr; swap; · iexact H22
      ipureintro
      refine (View.read_writes_eq_canon _ _ _ (View.cover_of_tiled_head _ _ _ rfl)).trans ?_
      rw [View.canon_cons_unit_lit _ _ _ (by decide)]
      sl_unfold_words
      simp only [View.readAt_eq_ld, hf1, hf2, hf3, hf4, hf5, hf6, hf7]
      rw [View.ld_unit_lit _ si (by decide)]
      rfl
    iexists _; isplitr; swap; · iexact H23
    ipureintro
    refine (View.read_writes_eq_canon _ _ _ (View.cover_of_tiled_head _ _ _ rfl)).trans ?_
    rw [View.canon_cons_unit_lit _ _ _ (by decide)]
    sl_unfold_words
    simp only [View.readAt_eq_ld, hf1, hf2, hf3, hf4, hf5, hf6, hf7]
    rw [View.ld_unit_lit _ x (by decide), View.ld_unit_lit _ g (by decide)]
    rfl

end Cert.QkvIdeal.Hand

end
-- ==== Proof.Qkv.BodyB.lean ====
module

public import proofs.«01_k».proof.Proof.Qkv.Values

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a grid point from 1 to 9: it stores the four rotated heads of queries and leaves everything else as it was. -/
theorem run_B (c : Dev nD) (i : grid0.Coords) (arg1 : Memref sig .tc .vmem S72x5120 .bf16) (harg1 : arg1.IsWhole) (arg2 : Memref sig .tc .vmem S1x5120 .f32) (harg2 : arg2.IsWhole) (arg3 : Memref sig .tc .vmem S2560x512 .i8) (harg3 : arg3.IsWhole) (arg4 : Memref sig .tc .vmem S1x512 .f32) (harg4 : arg4.IsWhole) (arg5 : Memref sig .tc .vmem S1x512 .f32) (harg5 : arg5.IsWhole) (arg6 : Memref sig .tc .vmem S72x64 .f32) (harg6 : arg6.IsWhole) (arg7 : Memref sig .tc .vmem S72x64 .f32) (harg7 : arg7.IsWhole) (arg8 : Memref sig .tc .vmem S72x5120 .i8) (harg8 : arg8.IsWhole) (arg9 : Memref sig .tc .vmem S3x24 .f32) (harg9 : arg9.IsWhole) (arg10 : Memref sig .tc .vmem S3072x128 .f32) (harg10 : arg10.IsWhole) (arg11 : Memref sig .tc .vmem S4608x128 .f32) (harg11 : arg11.IsWhole) (arg12 : Memref sig .tc .vmem S72x8x64 .i8) (harg12 : arg12.IsWhole) (arg13 : Memref sig .tc .vmem S3x8x24 .f32) (harg13 : arg13.IsWhole) (arg14 : Memref sig .tc .vmem S3x8x24 .f32) (harg14 : arg14.IsWhole) (arg15 : Memref sig .tc .vmem S72x8x64 .i8) (harg15 : arg15.IsWhole) (arg16 : Memref sig .tc .vmem S3x8x24 .f32) (harg16 : arg16.IsWhole) (arg17 : Memref sig .tc .vmem S3x8x24 .f32) (harg17 : arg17.IsWhole) (arg18 : Memref sig .tc .vmem S72x5120 .bf16) (harg18 : arg18.IsWhole) (arg19 : Memref sig .tc .vmem S72x128 .f32) (harg19 : arg19.IsWhole) (arg20 : Memref sig .tc .vmem S72x128 .f32) (harg20 : arg20.IsWhole) (arg21 : Memref sig .tc .vmem S72x128 .f32) (harg21 : arg21.IsWhole) (arg22 : Memref sig .tc .vmem S72x128 .f32) (harg22 : arg22.IsWhole) (arg23 : Memref sig .tc .vmem S72x128 .f32) (harg23 : arg23.IsWhole) (hc1 : ¬k0_cond1 i = 1#1) (hc2 : k0_cond2 i = 1#1) (hc3 : ¬k0_cond3 i = 1#1) (hc4 : ¬k0_cond4 i = 1#1) (hc5 : ¬k0_cond5 i = 1#1) (hi : (i 0).val < 10)
    (x : Vec F S72x5120 .bf16) (g : Vec F S1x5120 .f32) (w : Vec F S2560x512 .i8) (ws : Vec F S1x512 .f32) (wz : Vec F S1x512 .f32) (co : Vec F S72x64 .f32) (si : Vec F S72x64 .f32) (xc : Vec F S72x5120 .i8) (xsc : Vec F S3x24 .f32) (q : Vec F S3072x128 .f32) (n : Vec F S4608x128 .f32) (kc : Vec F S72x8x64 .i8) (ks : Vec F S3x8x24 .f32) (kz : Vec F S3x8x24 .f32) (vc : Vec F S72x8x64 .i8) (vs : Vec F S3x8x24 .f32) (vz : Vec F S3x8x24 .f32) (ab : Vec F S72x5120 .bf16) (asum : Vec F S72x128 .f32) (asc : Vec F S72x128 .f32) (cc : Vec F S72x128 .f32) (ss : Vec F S72x128 .f32) (st : Vec F S72x128 .f32) :
      ∀ (E : Set ℕ) (K : PUnit → sProp 𝕄),
        iprop(owns (c : Thread nD τ) arg1 fullShare x ∗ owns (c : Thread nD τ) arg2 fullShare g ∗ owns (c : Thread nD τ) arg3 fullShare w ∗ owns (c : Thread nD τ) arg4 fullShare ws ∗ owns (c : Thread nD τ) arg5 fullShare wz ∗ owns (c : Thread nD τ) arg6 fullShare co ∗ owns (c : Thread nD τ) arg7 fullShare si ∗ owns (c : Thread nD τ) arg8 fullShare xc ∗ owns (c : Thread nD τ) arg9 fullShare xsc ∗ owns (c : Thread nD τ) arg10 fullShare q ∗ owns (c : Thread nD τ) arg11 fullShare n ∗ owns (c : Thread nD τ) arg12 fullShare kc ∗ owns (c : Thread nD τ) arg13 fullShare ks ∗ owns (c : Thread nD τ) arg14 fullShare kz ∗ owns (c : Thread nD τ) arg15 fullShare vc ∗ owns (c : Thread nD τ) arg16 fullShare vs ∗ owns (c : Thread nD τ) arg17 fullShare vz ∗ owns (c : Thread nD τ) arg18 fullShare ab ∗ owns (c : Thread nD τ) arg19 fullShare asum ∗ owns (c : Thread nD τ) arg20 fullShare asc ∗ owns (c : Thread nD τ) arg21 fullShare cc ∗ owns (c : Thread nD τ) arg22 fullShare ss ∗ owns (c : Thread nD τ) arg23 fullShare st
            ∗ (iprop(owns (c : Thread nD τ) arg1 fullShare x ∗ owns (c : Thread nD τ) arg2 fullShare g ∗ owns (c : Thread nD τ) arg3 fullShare w ∗ owns (c : Thread nD τ) arg4 fullShare ws ∗ owns (c : Thread nD τ) arg5 fullShare wz ∗ owns (c : Thread nD τ) arg6 fullShare co ∗ owns (c : Thread nD τ) arg7 fullShare si ∗ owns (c : Thread nD τ) arg8 fullShare xc ∗ owns (c : Thread nD τ) arg9 fullShare xsc ∗ owns (c : Thread nD τ) arg10 fullShare (qStep (i 0).val (fun e => ropeV (headV (yV ab asum asc w ws wz) e) cc ss) q) ∗ owns (c : Thread nD τ) arg11 fullShare n ∗ owns (c : Thread nD τ) arg12 fullShare kc ∗ owns (c : Thread nD τ) arg13 fullShare ks ∗ owns (c : Thread nD τ) arg14 fullShare kz ∗ owns (c : Thread nD τ) arg15 fullShare vc ∗ owns (c : Thread nD τ) arg16 fullShare vs ∗ owns (c : Thread nD τ) arg17 fullShare vz ∗ owns (c : Thread nD τ) arg18 fullShare ab ∗ owns (c : Thread nD τ) arg19 fullShare asum ∗ owns (c : Thread nD τ) arg20 fullShare asc ∗ owns (c : Thread nD τ) arg21 fullShare cc ∗ owns (c : Thread nD τ) arg22 fullShare ss ∗ owns (c : Thread nD τ) arg23 fullShare st) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_qkv_eq_skeleton]; unfold cc0_qkv_skel
    simp only [k0_part74_eq_skeleton, k0_part3_eq_skeleton, k0_part4_eq_skeleton, k0_part5_eq_skeleton, k0_part6_eq_skeleton, k0_part7_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    obtain rfl := harg16.eq_unread hf16
    obtain rfl := harg17.eq_unread hf17
    obtain rfl := harg18.eq_unread hf18
    obtain rfl := harg19.eq_unread hf19
    obtain rfl := harg20.eq_unread hf20
    obtain rfl := harg21.eq_unread hf21
    obtain rfl := harg22.eq_unread hf22
    obtain rfl := harg23.eq_unread hf23
    sl_exec (disch := first | sl_exact hc1 | sl_exact hc2 | sl_exact hc3 | sl_exact hc4 | sl_exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro
      sl_unfold_words
      simp only [View.readAt_eq_ld, hf3, hf4, hf5, hf18, hf19, hf20, hf21, hf22]
      rw [View.ld_unit_lit _ w (by decide), View.ld_unit_lit _ ws (by decide), View.ld_unit_lit _ wz (by decide), View.ld_unit_lit _ cc (by decide), View.ld_unit_lit _ ss (by decide)]
      refine (q_writes12 _ _ i hi hc2 (headV (yV ab asum asc w ws wz)) cc ss).trans ?_
      rw [harg10.read_unread]
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    iexists _; isplitr; · ipureintro; exact harg23.read_unread _
    iexact H23

end Cert.QkvIdeal.Hand

end
-- ==== Proof.Qkv.BodyC.lean ====
module

public import proofs.«01_k».proof.Proof.Qkv.Values

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a grid point with heads of keys: it keeps their scales and minima in scratch; what it stores in the array of new rows is not said. -/
theorem run_C (c : Dev nD) (i : grid0.Coords) (arg1 : Memref sig .tc .vmem S72x5120 .bf16) (harg1 : arg1.IsWhole) (arg2 : Memref sig .tc .vmem S1x5120 .f32) (harg2 : arg2.IsWhole) (arg3 : Memref sig .tc .vmem S2560x512 .i8) (harg3 : arg3.IsWhole) (arg4 : Memref sig .tc .vmem S1x512 .f32) (harg4 : arg4.IsWhole) (arg5 : Memref sig .tc .vmem S1x512 .f32) (harg5 : arg5.IsWhole) (arg6 : Memref sig .tc .vmem S72x64 .f32) (harg6 : arg6.IsWhole) (arg7 : Memref sig .tc .vmem S72x64 .f32) (harg7 : arg7.IsWhole) (arg8 : Memref sig .tc .vmem S72x5120 .i8) (harg8 : arg8.IsWhole) (arg9 : Memref sig .tc .vmem S3x24 .f32) (harg9 : arg9.IsWhole) (arg10 : Memref sig .tc .vmem S3072x128 .f32) (harg10 : arg10.IsWhole) (arg11 : Memref sig .tc .vmem S4608x128 .f32) (harg11 : arg11.IsWhole) (arg12 : Memref sig .tc .vmem S72x8x64 .i8) (harg12 : arg12.IsWhole) (arg13 : Memref sig .tc .vmem S3x8x24 .f32) (harg13 : arg13.IsWhole) (arg14 : Memref sig .tc .vmem S3x8x24 .f32) (harg14 : arg14.IsWhole) (arg15 : Memref sig .tc .vmem S72x8x64 .i8) (harg15 : arg15.IsWhole) (arg16 : Memref sig .tc .vmem S3x8x24 .f32) (harg16 : arg16.IsWhole) (arg17 : Memref sig .tc .vmem S3x8x24 .f32) (harg17 : arg17.IsWhole) (arg18 : Memref sig .tc .vmem S72x5120 .bf16) (harg18 : arg18.IsWhole) (arg19 : Memref sig .tc .vmem S72x128 .f32) (harg19 : arg19.IsWhole) (arg20 : Memref sig .tc .vmem S72x128 .f32) (harg20 : arg20.IsWhole) (arg21 : Memref sig .tc .vmem S72x128 .f32) (harg21 : arg21.IsWhole) (arg22 : Memref sig .tc .vmem S72x128 .f32) (harg22 : arg22.IsWhole) (arg23 : Memref sig .tc .vmem S72x128 .f32) (harg23 : arg23.IsWhole) (hc1 : ¬k0_cond1 i = 1#1) (hc2 : ¬k0_cond2 i = 1#1) (hc3 : k0_cond3 i = 1#1) (hc4 : ¬k0_cond4 i = 1#1) (hc5 : ¬k0_cond5 i = 1#1)
    (x : Vec F S72x5120 .bf16) (g : Vec F S1x5120 .f32) (w : Vec F S2560x512 .i8) (ws : Vec F S1x512 .f32) (wz : Vec F S1x512 .f32) (co : Vec F S72x64 .f32) (si : Vec F S72x64 .f32) (xc : Vec F S72x5120 .i8) (xsc : Vec F S3x24 .f32) (q : Vec F S3072x128 .f32) (kc : Vec F S72x8x64 .i8) (ks : Vec F S3x8x24 .f32) (kz : Vec F S3x8x24 .f32) (vc : Vec F S72x8x64 .i8) (vs : Vec F S3x8x24 .f32) (vz : Vec F S3x8x24 .f32) (ab : Vec F S72x5120 .bf16) (asum : Vec F S72x128 .f32) (asc : Vec F S72x128 .f32) (cc : Vec F S72x128 .f32) (ss : Vec F S72x128 .f32) (st : Vec F S72x128 .f32) :
      ∀ (E : Set ℕ) (K : PUnit → sProp 𝕄),
        iprop(owns (c : Thread nD τ) arg1 fullShare x ∗ owns (c : Thread nD τ) arg2 fullShare g ∗ owns (c : Thread nD τ) arg3 fullShare w ∗ owns (c : Thread nD τ) arg4 fullShare ws ∗ owns (c : Thread nD τ) arg5 fullShare wz ∗ owns (c : Thread nD τ) arg6 fullShare co ∗ owns (c : Thread nD τ) arg7 fullShare si ∗ owns (c : Thread nD τ) arg8 fullShare xc ∗ owns (c : Thread nD τ) arg9 fullShare xsc ∗ owns (c : Thread nD τ) arg10 fullShare q ∗ (∃ d, owns (c : Thread nD τ) arg11 fullShare d) ∗ owns (c : Thread nD τ) arg12 fullShare kc ∗ owns (c : Thread nD τ) arg13 fullShare ks ∗ owns (c : Thread nD τ) arg14 fullShare kz ∗ owns (c : Thread nD τ) arg15 fullShare vc ∗ owns (c : Thread nD τ) arg16 fullShare vs ∗ owns (c : Thread nD τ) arg17 fullShare vz ∗ owns (c : Thread nD τ) arg18 fullShare ab ∗ owns (c : Thread nD τ) arg19 fullShare asum ∗ owns (c : Thread nD τ) arg20 fullShare asc ∗ owns (c : Thread nD τ) arg21 fullShare cc ∗ owns (c : Thread nD τ) arg22 fullShare ss ∗ owns (c : Thread nD τ) arg23 fullShare st
            ∗ (iprop(owns (c : Thread nD τ) arg1 fullShare x ∗ owns (c : Thread nD τ) arg2 fullShare g ∗ owns (c : Thread nD τ) arg3 fullShare w ∗ owns (c : Thread nD τ) arg4 fullShare ws ∗ owns (c : Thread nD τ) arg5 fullShare wz ∗ owns (c : Thread nD τ) arg6 fullShare co ∗ owns (c : Thread nD τ) arg7 fullShare si ∗ owns (c : Thread nD τ) arg8 fullShare xc ∗ owns (c : Thread nD τ) arg9 fullShare xsc ∗ owns (c : Thread nD τ) arg10 fullShare q ∗ (∃ d, owns (c : Thread nD τ) arg11 fullShare d) ∗ owns (c : Thread nD τ) arg12 fullShare kc ∗ owns (c : Thread nD τ) arg13 fullShare ks ∗ owns (c : Thread nD τ) arg14 fullShare kz ∗ owns (c : Thread nD τ) arg15 fullShare vc ∗ owns (c : Thread nD τ) arg16 fullShare vs ∗ owns (c : Thread nD τ) arg17 fullShare vz ∗ owns (c : Thread nD τ) arg18 fullShare ab ∗ owns (c : Thread nD τ) arg19 fullShare asum ∗ owns (c : Thread nD τ) arg20 fullShare asc ∗ owns (c : Thread nD τ) arg21 fullShare cc ∗ owns (c : Thread nD τ) arg22 fullShare ss ∗ owns (c : Thread nD τ) arg23 fullShare (kStats i (headV (yV ab asum asc w ws wz)) cc ss st)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_qkv_eq_skeleton]; unfold cc0_qkv_skel
    simp only [k0_part74_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
    sl_exec (disch := first | sl_exact hc1 | sl_exact hc2 | sl_exact hc3 | sl_exact hc4 | sl_exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexists _; isplitr; swap; · iexact H11
      ipureintro; rfl
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    iexists _; isplitr; swap; · iexact H23
    ipureintro
    refine (View.read_writes_eq_canon _ _ _ (View.cover_of_tiled_head _ _ _ rfl)).trans ?_
    rw [View.canon_cons_unit_lit _ _ _ (by decide)]
    sl_unfold_words
    simp only [View.readAt_eq_ld, hf3, hf4, hf5, hf18, hf19, hf20, hf21, hf22, hf23]
    rw [View.ld_unit_lit _ w (by decide), View.ld_unit_lit _ ws (by decide), View.ld_unit_lit _ wz (by decide)]
    rw [View.ld_unit_lit _ cc (by decide), View.ld_unit_lit _ ss (by decide), View.ld_unit_lit _ st (by decide)]
    rfl

end Cert.QkvIdeal.Hand

end
-- ==== Proof.Qkv.BodyD.lean ====
module

public import proofs.«01_k».proof.Proof.Qkv.Values

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a grid point with heads of values, the last one apart: it keeps their scales and minima in scratch; what it stores in the array of new rows is not said. -/
theorem run_D (c : Dev nD) (i : grid0.Coords) (arg1 : Memref sig .tc .vmem S72x5120 .bf16) (harg1 : arg1.IsWhole) (arg2 : Memref sig .tc .vmem S1x5120 .f32) (harg2 : arg2.IsWhole) (arg3 : Memref sig .tc .vmem S2560x512 .i8) (harg3 : arg3.IsWhole) (arg4 : Memref sig .tc .vmem S1x512 .f32) (harg4 : arg4.IsWhole) (arg5 : Memref sig .tc .vmem S1x512 .f32) (harg5 : arg5.IsWhole) (arg6 : Memref sig .tc .vmem S72x64 .f32) (harg6 : arg6.IsWhole) (arg7 : Memref sig .tc .vmem S72x64 .f32) (harg7 : arg7.IsWhole) (arg8 : Memref sig .tc .vmem S72x5120 .i8) (harg8 : arg8.IsWhole) (arg9 : Memref sig .tc .vmem S3x24 .f32) (harg9 : arg9.IsWhole) (arg10 : Memref sig .tc .vmem S3072x128 .f32) (harg10 : arg10.IsWhole) (arg11 : Memref sig .tc .vmem S4608x128 .f32) (harg11 : arg11.IsWhole) (arg12 : Memref sig .tc .vmem S72x8x64 .i8) (harg12 : arg12.IsWhole) (arg13 : Memref sig .tc .vmem S3x8x24 .f32) (harg13 : arg13.IsWhole) (arg14 : Memref sig .tc .vmem S3x8x24 .f32) (harg14 : arg14.IsWhole) (arg15 : Memref sig .tc .vmem S72x8x64 .i8) (harg15 : arg15.IsWhole) (arg16 : Memref sig .tc .vmem S3x8x24 .f32) (harg16 : arg16.IsWhole) (arg17 : Memref sig .tc .vmem S3x8x24 .f32) (harg17 : arg17.IsWhole) (arg18 : Memref sig .tc .vmem S72x5120 .bf16) (harg18 : arg18.IsWhole) (arg19 : Memref sig .tc .vmem S72x128 .f32) (harg19 : arg19.IsWhole) (arg20 : Memref sig .tc .vmem S72x128 .f32) (harg20 : arg20.IsWhole) (arg21 : Memref sig .tc .vmem S72x128 .f32) (harg21 : arg21.IsWhole) (arg22 : Memref sig .tc .vmem S72x128 .f32) (harg22 : arg22.IsWhole) (arg23 : Memref sig .tc .vmem S72x128 .f32) (harg23 : arg23.IsWhole) (hc1 : ¬k0_cond1 i = 1#1) (hc2 : ¬k0_cond2 i = 1#1) (hc3 : ¬k0_cond3 i = 1#1) (hc4 : k0_cond4 i = 1#1) (hc5 : ¬k0_cond5 i = 1#1)
    (x : Vec F S72x5120 .bf16) (g : Vec F S1x5120 .f32) (w : Vec F S2560x512 .i8) (ws : Vec F S1x512 .f32) (wz : Vec F S1x512 .f32) (co : Vec F S72x64 .f32) (si : Vec F S72x64 .f32) (xc : Vec F S72x5120 .i8) (xsc : Vec F S3x24 .f32) (q : Vec F S3072x128 .f32) (kc : Vec F S72x8x64 .i8) (ks : Vec F S3x8x24 .f32) (kz : Vec F S3x8x24 .f32) (vc : Vec F S72x8x64 .i8) (vs : Vec F S3x8x24 .f32) (vz : Vec F S3x8x24 .f32) (ab : Vec F S72x5120 .bf16) (asum : Vec F S72x128 .f32) (asc : Vec F S72x128 .f32) (cc : Vec F S72x128 .f32) (ss : Vec F S72x128 .f32) (st : Vec F S72x128 .f32) :
      ∀ (E : Set ℕ) (K : PUnit → sProp 𝕄),
        iprop(owns (c : Thread nD τ) arg1 fullShare x ∗ owns (c : Thread nD τ) arg2 fullShare g ∗ owns (c : Thread nD τ) arg3 fullShare w ∗ owns (c : Thread nD τ) arg4 fullShare ws ∗ owns (c : Thread nD τ) arg5 fullShare wz ∗ owns (c : Thread nD τ) arg6 fullShare co ∗ owns (c : Thread nD τ) arg7 fullShare si ∗ owns (c : Thread nD τ) arg8 fullShare xc ∗ owns (c : Thread nD τ) arg9 fullShare xsc ∗ owns (c : Thread nD τ) arg10 fullShare q ∗ (∃ d, owns (c : Thread nD τ) arg11 fullShare d) ∗ owns (c : Thread nD τ) arg12 fullShare kc ∗ owns (c : Thread nD τ) arg13 fullShare ks ∗ owns (c : Thread nD τ) arg14 fullShare kz ∗ owns (c : Thread nD τ) arg15 fullShare vc ∗ owns (c : Thread nD τ) arg16 fullShare vs ∗ owns (c : Thread nD τ) arg17 fullShare vz ∗ owns (c : Thread nD τ) arg18 fullShare ab ∗ owns (c : Thread nD τ) arg19 fullShare asum ∗ owns (c : Thread nD τ) arg20 fullShare asc ∗ owns (c : Thread nD τ) arg21 fullShare cc ∗ owns (c : Thread nD τ) arg22 fullShare ss ∗ owns (c : Thread nD τ) arg23 fullShare st
            ∗ (iprop(owns (c : Thread nD τ) arg1 fullShare x ∗ owns (c : Thread nD τ) arg2 fullShare g ∗ owns (c : Thread nD τ) arg3 fullShare w ∗ owns (c : Thread nD τ) arg4 fullShare ws ∗ owns (c : Thread nD τ) arg5 fullShare wz ∗ owns (c : Thread nD τ) arg6 fullShare co ∗ owns (c : Thread nD τ) arg7 fullShare si ∗ owns (c : Thread nD τ) arg8 fullShare xc ∗ owns (c : Thread nD τ) arg9 fullShare xsc ∗ owns (c : Thread nD τ) arg10 fullShare q ∗ (∃ d, owns (c : Thread nD τ) arg11 fullShare d) ∗ owns (c : Thread nD τ) arg12 fullShare kc ∗ owns (c : Thread nD τ) arg13 fullShare ks ∗ owns (c : Thread nD τ) arg14 fullShare kz ∗ owns (c : Thread nD τ) arg15 fullShare vc ∗ owns (c : Thread nD τ) arg16 fullShare vs ∗ owns (c : Thread nD τ) arg17 fullShare vz ∗ owns (c : Thread nD τ) arg18 fullShare ab ∗ owns (c : Thread nD τ) arg19 fullShare asum ∗ owns (c : Thread nD τ) arg20 fullShare asc ∗ owns (c : Thread nD τ) arg21 fullShare cc ∗ owns (c : Thread nD τ) arg22 fullShare ss ∗ owns (c : Thread nD τ) arg23 fullShare (vStats i (headV (yV ab asum asc w ws wz)) st)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_qkv_eq_skeleton]; unfold cc0_qkv_skel
    simp only [k0_part74_eq_skeleton, k0_part25_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
    sl_exec (disch := first | sl_exact hc1 | sl_exact hc2 | sl_exact hc3 | sl_exact hc4 | sl_exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexists _; isplitr; swap; · iexact H11
      ipureintro; rfl
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    iexists _; isplitr; swap; · iexact H23
    ipureintro
    refine (View.read_writes_eq_canon _ _ _ (View.cover_of_tiled_head _ _ _ rfl)).trans ?_
    rw [View.canon_cons_unit_lit _ _ _ (by decide)]
    sl_unfold_words
    simp only [View.readAt_eq_ld, hf3, hf4, hf5, hf18, hf19, hf20, hf21, hf22, hf23]
    rw [View.ld_unit_lit _ w (by decide), View.ld_unit_lit _ ws (by decide), View.ld_unit_lit _ wz (by decide)]
    rw [View.ld_unit_lit _ st (by decide)]
    rfl

end Cert.QkvIdeal.Hand

end
-- ==== Proof.Qkv.BodyT.lean ====
module

public import Idealize.ShloMosaic.Lib.WritesUnit
public import proofs.«01_k».proof.Proof.Qkv.Values

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Three stores, one for each position, leave the three parts. -/
theorem stats_writes {sp : Space} (v : View sig .tc sp S3x8x24 .f32) (f : v.ty.Contents (Elt F)) (A B C : Vec F S1x8x24 .f32) (i0 i1 i2) :
    v.read (Elt F) (v.writes (Elt F) f [⟨Rect.unit ![2, 0, 0] S1x8x24.size i2, C⟩, ⟨Rect.unit ![1, 0, 0] S1x8x24.size i1, B⟩,
        ⟨Rect.unit ![0, 0, 0] S1x8x24.size i0, A⟩])
      = fun j => (if (j 0).val = 0 then A else if (j 0).val = 1 then B else C) (ix3 (n0 := 1) (n1 := 8) (n2 := 24) 0 (j 1) (j 2)) := by
  funext j
  have h3 : (j 0).val < 3 := (j 0).isLt
  by_cases h2 : (j 0).val = 2
  · rw [if_neg (by omega), if_neg (by omega)]
    exact View.read_writes_cons_unit_of_mem v f i2 C _ j (ix3 (n0 := 1) (n1 := 8) (n2 := 24) 0 (j 1) (j 2)) rfl fun a => match a with
      | ⟨0, _⟩ => h2
      | ⟨1, _⟩ => (Nat.zero_add _).symm
      | ⟨2, _⟩ => (Nat.zero_add _).symm
  rw [View.read_writes_cons_unit_of_not_mem v f i2 C _ j rfl 0 (.inl (by show (j 0).val < 2; omega))]
  by_cases h1 : (j 0).val = 1
  · rw [if_neg (by omega), if_pos h1]
    exact View.read_writes_cons_unit_of_mem v f i1 B _ j (ix3 (n0 := 1) (n1 := 8) (n2 := 24) 0 (j 1) (j 2)) rfl fun a => match a with
      | ⟨0, _⟩ => h1
      | ⟨1, _⟩ => (Nat.zero_add _).symm
      | ⟨2, _⟩ => (Nat.zero_add _).symm
  rw [View.read_writes_cons_unit_of_not_mem v f i1 B _ j rfl 0 (.inl (by show (j 0).val < 1; omega))]
  have h0 : (j 0).val = 0 := by omega
  rw [if_pos h0]
  exact View.read_writes_cons_unit_of_mem v f i0 A _ j (ix3 (n0 := 1) (n1 := 8) (n2 := 24) 0 (j 1) (j 2)) rfl fun a => match a with
    | ⟨0, _⟩ => h0
    | ⟨1, _⟩ => (Nat.zero_add _).symm
    | ⟨2, _⟩ => (Nat.zero_add _).symm

/-- The same for rows. -/
theorem scale_writes {sp : Space} (v : View sig .tc sp S3x24 .f32) (f : v.ty.Contents (Elt F)) (A B C : Vec F S1x24 .f32) (i0 i1 i2) :
    v.read (Elt F) (v.writes (Elt F) f [⟨Rect.unit ![2, 0] S1x24.size i2, C⟩, ⟨Rect.unit ![1, 0] S1x24.size i1, B⟩,
        ⟨Rect.unit ![0, 0] S1x24.size i0, A⟩])
      = fun j => (if (j 0).val = 0 then A else if (j 0).val = 1 then B else C) (ix2 (n0 := 1) (n1 := 24) 0 (j 1)) := by
  funext j
  have h3 : (j 0).val < 3 := (j 0).isLt
  by_cases h2 : (j 0).val = 2
  · rw [if_neg (by omega), if_neg (by omega)]
    exact View.read_writes_cons_unit_of_mem v f i2 C _ j (ix2 (n0 := 1) (n1 := 24) 0 (j 1)) rfl fun a => match a with
      | ⟨0, _⟩ => h2
      | ⟨1, _⟩ => (Nat.zero_add _).symm
  rw [View.read_writes_cons_unit_of_not_mem v f i2 C _ j rfl 0 (.inl (by show (j 0).val < 2; omega))]
  by_cases h1 : (j 0).val = 1
  · rw [if_neg (by omega), if_pos h1]
    exact View.read_writes_cons_unit_of_mem v f i1 B _ j (ix2 (n0 := 1) (n1 := 24) 0 (j 1)) rfl fun a => match a with
      | ⟨0, _⟩ => h1
      | ⟨1, _⟩ => (Nat.zero_add _).symm
  rw [View.read_writes_cons_unit_of_not_mem v f i1 B _ j rfl 0 (.inl (by show (j 0).val < 1; omega))]
  have h0 : (j 0).val = 0 := by omega
  rw [if_pos h0]
  exact View.read_writes_cons_unit_of_mem v f i0 A _ j (ix2 (n0 := 1) (n1 := 24) 0 (j 1)) rfl fun a => match a with
    | ⟨0, _⟩ => h0
    | ⟨1, _⟩ => (Nat.zero_add _).symm

/-- The last grid point's own part: it writes the statistics out and packs the codes. -/
noncomputable def tailP (i : grid0.Coords) (arg1 : Memref sig .tc .vmem S72x5120 .bf16) (harg1 : arg1.IsWhole) (arg2 : Memref sig .tc .vmem S1x5120 .f32) (harg2 : arg2.IsWhole) (arg3 : Memref sig .tc .vmem S2560x512 .i8) (harg3 : arg3.IsWhole) (arg4 : Memref sig .tc .vmem S1x512 .f32) (harg4 : arg4.IsWhole) (arg5 : Memref sig .tc .vmem S1x512 .f32) (harg5 : arg5.IsWhole) (arg6 : Memref sig .tc .vmem S72x64 .f32) (harg6 : arg6.IsWhole) (arg7 : Memref sig .tc .vmem S72x64 .f32) (harg7 : arg7.IsWhole) (arg8 : Memref sig .tc .vmem S72x5120 .i8) (harg8 : arg8.IsWhole) (arg9 : Memref sig .tc .vmem S3x24 .f32) (harg9 : arg9.IsWhole) (arg10 : Memref sig .tc .vmem S3072x128 .f32) (harg10 : arg10.IsWhole) (arg11 : Memref sig .tc .vmem S4608x128 .f32) (harg11 : arg11.IsWhole) (arg12 : Memref sig .tc .vmem S72x8x64 .i8) (harg12 : arg12.IsWhole) (arg13 : Memref sig .tc .vmem S3x8x24 .f32) (harg13 : arg13.IsWhole) (arg14 : Memref sig .tc .vmem S3x8x24 .f32) (harg14 : arg14.IsWhole) (arg15 : Memref sig .tc .vmem S72x8x64 .i8) (harg15 : arg15.IsWhole) (arg16 : Memref sig .tc .vmem S3x8x24 .f32) (harg16 : arg16.IsWhole) (arg17 : Memref sig .tc .vmem S3x8x24 .f32) (harg17 : arg17.IsWhole) (arg18 : Memref sig .tc .vmem S72x5120 .bf16) (harg18 : arg18.IsWhole) (arg19 : Memref sig .tc .vmem S72x128 .f32) (harg19 : arg19.IsWhole) (arg20 : Memref sig .tc .vmem S72x128 .f32) (harg20 : arg20.IsWhole) (arg21 : Memref sig .tc .vmem S72x128 .f32) (harg21 : arg21.IsWhole) (arg22 : Memref sig .tc .vmem S72x128 .f32) (harg22 : arg22.IsWhole) (arg23 : Memref sig .tc .vmem S72x128 .f32) (harg23 : arg23.IsWhole) :
    Prog (TpuEff nD τ sig (Elt F) Λ₀ .tc) PUnit := do
  let v1822 : IVec S8x64 32 ← k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  let v1824 : Vec F S1x8x64 .i8 ← Prog.lift (.load arg15 (Rect.unit (s := S72x8x64) ![70, 0, 0] S1x8x64.size inb_S72x8x64_S1x8x64_70_0_0).toLoadRect (View.loadsAt_vmem h_S1x8x64))
  Prog.lift (.store arg15 (Rect.unit (s := S72x8x64) ![70, 0, 0] S1x8x64.size inb_S72x8x64_S1x8x64_70_0_0) (k0_pay7 v1822) Finset.univ (View.stores_vmem h_S1x8x64 (harg15.storeExact_slice rfl _ packedi8_S72x8x64_S1x8x64_70_0_0) (fun _ => rfl)) (.inl rfl))
  let v1827 : Vec F S8x128 .f32 ← Prog.lift (.load arg11 (⟨![4427, 0], S8x128.size, ![24, 1], inb_S4608x128_S8x128_4427_0_s_24_1⟩ : LoadRect S4608x128) (View.loadsAt_vmem h_S8x128))
  let v1836 : Vec F S1x8x64 .i8 ← Prog.lift (.load arg15 (Rect.unit (s := S72x8x64) ![71, 0, 0] S1x8x64.size inb_S72x8x64_S1x8x64_71_0_0).toLoadRect (View.loadsAt_vmem h_S1x8x64))
  Prog.lift (.store arg15 (Rect.unit (s := S72x8x64) ![71, 0, 0] S1x8x64.size inb_S72x8x64_S1x8x64_71_0_0) (k0_pay8 v1827) Finset.univ (View.stores_vmem h_S1x8x64 (harg15.storeExact_slice rfl _ packedi8_S72x8x64_S1x8x64_71_0_0) (fun _ => rfl)) (.inl rfl))
  pure ⟨⟩

set_option maxHeartbeats 8000000 in
/-- The last grid point's own part: from the statistics it leaves their five arrays; of the packed codes nothing is said. -/
theorem run_tail (c : Dev nD) (i : grid0.Coords) (arg1 : Memref sig .tc .vmem S72x5120 .bf16) (harg1 : arg1.IsWhole) (arg2 : Memref sig .tc .vmem S1x5120 .f32) (harg2 : arg2.IsWhole) (arg3 : Memref sig .tc .vmem S2560x512 .i8) (harg3 : arg3.IsWhole) (arg4 : Memref sig .tc .vmem S1x512 .f32) (harg4 : arg4.IsWhole) (arg5 : Memref sig .tc .vmem S1x512 .f32) (harg5 : arg5.IsWhole) (arg6 : Memref sig .tc .vmem S72x64 .f32) (harg6 : arg6.IsWhole) (arg7 : Memref sig .tc .vmem S72x64 .f32) (harg7 : arg7.IsWhole) (arg8 : Memref sig .tc .vmem S72x5120 .i8) (harg8 : arg8.IsWhole) (arg9 : Memref sig .tc .vmem S3x24 .f32) (harg9 : arg9.IsWhole) (arg10 : Memref sig .tc .vmem S3072x128 .f32) (harg10 : arg10.IsWhole) (arg11 : Memref sig .tc .vmem S4608x128 .f32) (harg11 : arg11.IsWhole) (arg12 : Memref sig .tc .vmem S72x8x64 .i8) (harg12 : arg12.IsWhole) (arg13 : Memref sig .tc .vmem S3x8x24 .f32) (harg13 : arg13.IsWhole) (arg14 : Memref sig .tc .vmem S3x8x24 .f32) (harg14 : arg14.IsWhole) (arg15 : Memref sig .tc .vmem S72x8x64 .i8) (harg15 : arg15.IsWhole) (arg16 : Memref sig .tc .vmem S3x8x24 .f32) (harg16 : arg16.IsWhole) (arg17 : Memref sig .tc .vmem S3x8x24 .f32) (harg17 : arg17.IsWhole) (arg18 : Memref sig .tc .vmem S72x5120 .bf16) (harg18 : arg18.IsWhole) (arg19 : Memref sig .tc .vmem S72x128 .f32) (harg19 : arg19.IsWhole) (arg20 : Memref sig .tc .vmem S72x128 .f32) (harg20 : arg20.IsWhole) (arg21 : Memref sig .tc .vmem S72x128 .f32) (harg21 : arg21.IsWhole) (arg22 : Memref sig .tc .vmem S72x128 .f32) (harg22 : arg22.IsWhole) (arg23 : Memref sig .tc .vmem S72x128 .f32) (harg23 : arg23.IsWhole)
    (st : Vec F S72x128 .f32) :
      ∀ (E : Set ℕ) (K : PUnit → sProp 𝕄),
        iprop((∃ d, owns (c : Thread nD τ) arg9 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg23 fullShare st
            ∗ (iprop(owns (c : Thread nD τ) arg9 fullShare (scaleOut st) ∗ (∃ d, owns (c : Thread nD τ) arg11 fullShare d) ∗ (∃ d, owns (c : Thread nD τ) arg12 fullShare d) ∗ owns (c : Thread nD τ) arg13 fullShare (statsOut0 st) ∗ owns (c : Thread nD τ) arg14 fullShare (statsOut1 st) ∗ (∃ d, owns (c : Thread nD τ) arg15 fullShare d) ∗ owns (c : Thread nD τ) arg16 fullShare (statsOut2 st) ∗ owns (c : Thread nD τ) arg17 fullShare (statsOut3 st) ∗ owns (c : Thread nD τ) arg23 fullShare st) -∗ K ⟨⟩))
          ⊢ wp frame (wpE (defs₀ (F := F)) Variants.none c none) E (tailP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    unfold tailP
    simp only [k0_part73_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%d9, %f9, -, H9⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f23, %hf23, H23⟩, Hk⟩
    obtain rfl := harg23.eq_unread hf23
    sl_exec
    sl_step
    iapply Hk
    isplitl [H9]
    · iexists _; isplitr; swap; · iexact H9
      ipureintro
      sl_unfold_words
      simp only [View.readAt_eq_ld, hf23]
      rw [View.ld_unit_lit _ st (by decide)]
      exact scale_writes _ _ _ _ _ _ _ _
    isplitl [H11]
    · iexists _; iexists _; isplitr; swap; · iexact H11
      ipureintro; rfl
    isplitl [H12]
    · iexists _; iexists _; isplitr; swap; · iexact H12
      ipureintro; rfl
    isplitl [H13]
    · iexists _; isplitr; swap; · iexact H13
      ipureintro
      sl_unfold_words
      simp only [View.readAt_eq_ld, hf23]
      rw [View.ld_unit_lit _ st (by decide)]
      exact stats_writes _ _ _ _ _ _ _ _
    isplitl [H14]
    · iexists _; isplitr; swap; · iexact H14
      ipureintro
      sl_unfold_words
      simp only [View.readAt_eq_ld, hf23]
      rw [View.ld_unit_lit _ st (by decide)]
      exact stats_writes _ _ _ _ _ _ _ _
    isplitl [H15]
    · iexists _; iexists _; isplitr; swap; · iexact H15
      ipureintro; rfl
    isplitl [H16]
    · iexists _; isplitr; swap; · iexact H16
      ipureintro
      sl_unfold_words
      simp only [View.readAt_eq_ld, hf23]
      rw [View.ld_unit_lit _ st (by decide)]
      exact stats_writes _ _ _ _ _ _ _ _
    isplitl [H17]
    · iexists _; isplitr; swap; · iexact H17
      ipureintro
      sl_unfold_words
      simp only [View.readAt_eq_ld, hf23]
      rw [View.ld_unit_lit _ st (by decide)]
      exact stats_writes _ _ _ _ _ _ _ _
    iexists _; isplitr; · ipureintro; exact harg23.read_unread _
    iexact H23

end Cert.QkvIdeal.Hand

end
-- ==== Proof.Qkv.BodyE.lean ====
module

public import proofs.«01_k».proof.Proof.Qkv.BodyT

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last grid point: it adds the last heads of values and writes the statistics out; what it stores in the array of new rows and in the packed codes is not said. -/
theorem run_E (c : Dev nD) (i : grid0.Coords) (arg1 : Memref sig .tc .vmem S72x5120 .bf16) (harg1 : arg1.IsWhole) (arg2 : Memref sig .tc .vmem S1x5120 .f32) (harg2 : arg2.IsWhole) (arg3 : Memref sig .tc .vmem S2560x512 .i8) (harg3 : arg3.IsWhole) (arg4 : Memref sig .tc .vmem S1x512 .f32) (harg4 : arg4.IsWhole) (arg5 : Memref sig .tc .vmem S1x512 .f32) (harg5 : arg5.IsWhole) (arg6 : Memref sig .tc .vmem S72x64 .f32) (harg6 : arg6.IsWhole) (arg7 : Memref sig .tc .vmem S72x64 .f32) (harg7 : arg7.IsWhole) (arg8 : Memref sig .tc .vmem S72x5120 .i8) (harg8 : arg8.IsWhole) (arg9 : Memref sig .tc .vmem S3x24 .f32) (harg9 : arg9.IsWhole) (arg10 : Memref sig .tc .vmem S3072x128 .f32) (harg10 : arg10.IsWhole) (arg11 : Memref sig .tc .vmem S4608x128 .f32) (harg11 : arg11.IsWhole) (arg12 : Memref sig .tc .vmem S72x8x64 .i8) (harg12 : arg12.IsWhole) (arg13 : Memref sig .tc .vmem S3x8x24 .f32) (harg13 : arg13.IsWhole) (arg14 : Memref sig .tc .vmem S3x8x24 .f32) (harg14 : arg14.IsWhole) (arg15 : Memref sig .tc .vmem S72x8x64 .i8) (harg15 : arg15.IsWhole) (arg16 : Memref sig .tc .vmem S3x8x24 .f32) (harg16 : arg16.IsWhole) (arg17 : Memref sig .tc .vmem S3x8x24 .f32) (harg17 : arg17.IsWhole) (arg18 : Memref sig .tc .vmem S72x5120 .bf16) (harg18 : arg18.IsWhole) (arg19 : Memref sig .tc .vmem S72x128 .f32) (harg19 : arg19.IsWhole) (arg20 : Memref sig .tc .vmem S72x128 .f32) (harg20 : arg20.IsWhole) (arg21 : Memref sig .tc .vmem S72x128 .f32) (harg21 : arg21.IsWhole) (arg22 : Memref sig .tc .vmem S72x128 .f32) (harg22 : arg22.IsWhole) (arg23 : Memref sig .tc .vmem S72x128 .f32) (harg23 : arg23.IsWhole) (hc1 : ¬k0_cond1 i = 1#1) (hc2 : ¬k0_cond2 i = 1#1) (hc3 : ¬k0_cond3 i = 1#1) (hc4 : k0_cond4 i = 1#1) (hc5 : k0_cond5 i = 1#1)
    (x : Vec F S72x5120 .bf16) (g : Vec F S1x5120 .f32) (w : Vec F S2560x512 .i8) (ws : Vec F S1x512 .f32) (wz : Vec F S1x512 .f32) (co : Vec F S72x64 .f32) (si : Vec F S72x64 .f32) (xc : Vec F S72x5120 .i8) (q : Vec F S3072x128 .f32) (ab : Vec F S72x5120 .bf16) (asum : Vec F S72x128 .f32) (asc : Vec F S72x128 .f32) (cc : Vec F S72x128 .f32) (ss : Vec F S72x128 .f32) (st : Vec F S72x128 .f32) :
      ∀ (E : Set ℕ) (K : PUnit → sProp 𝕄),
        iprop(owns (c : Thread nD τ) arg1 fullShare x ∗ owns (c : Thread nD τ) arg2 fullShare g ∗ owns (c : Thread nD τ) arg3 fullShare w ∗ owns (c : Thread nD τ) arg4 fullShare ws ∗ owns (c : Thread nD τ) arg5 fullShare wz ∗ owns (c : Thread nD τ) arg6 fullShare co ∗ owns (c : Thread nD τ) arg7 fullShare si ∗ owns (c : Thread nD τ) arg8 fullShare xc ∗ (∃ d, owns (c : Thread nD τ) arg9 fullShare d) ∗ owns (c : Thread nD τ) arg10 fullShare q ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare ab ∗ owns (c : Thread nD τ) arg19 fullShare asum ∗ owns (c : Thread nD τ) arg20 fullShare asc ∗ owns (c : Thread nD τ) arg21 fullShare cc ∗ owns (c : Thread nD τ) arg22 fullShare ss ∗ owns (c : Thread nD τ) arg23 fullShare st
            ∗ (iprop(owns (c : Thread nD τ) arg1 fullShare x ∗ owns (c : Thread nD τ) arg2 fullShare g ∗ owns (c : Thread nD τ) arg3 fullShare w ∗ owns (c : Thread nD τ) arg4 fullShare ws ∗ owns (c : Thread nD τ) arg5 fullShare wz ∗ owns (c : Thread nD τ) arg6 fullShare co ∗ owns (c : Thread nD τ) arg7 fullShare si ∗ owns (c : Thread nD τ) arg8 fullShare xc ∗ owns (c : Thread nD τ) arg9 fullShare (scaleOut (vStats i (headV (yV ab asum asc w ws wz)) st)) ∗ owns (c : Thread nD τ) arg10 fullShare q ∗ (∃ d, owns (c : Thread nD τ) arg11 fullShare d) ∗ (∃ d, owns (c : Thread nD τ) arg12 fullShare d) ∗ owns (c : Thread nD τ) arg13 fullShare (statsOut0 (vStats i (headV (yV ab asum asc w ws wz)) st)) ∗ owns (c : Thread nD τ) arg14 fullShare (statsOut1 (vStats i (headV (yV ab asum asc w ws wz)) st)) ∗ (∃ d, owns (c : Thread nD τ) arg15 fullShare d) ∗ owns (c : Thread nD τ) arg16 fullShare (statsOut2 (vStats i (headV (yV ab asum asc w ws wz)) st)) ∗ owns (c : Thread nD τ) arg17 fullShare (statsOut3 (vStats i (headV (yV ab asum asc w ws wz)) st)) ∗ owns (c : Thread nD τ) arg18 fullShare ab ∗ owns (c : Thread nD τ) arg19 fullShare asum ∗ owns (c : Thread nD τ) arg20 fullShare asc ∗ owns (c : Thread nD τ) arg21 fullShare cc ∗ owns (c : Thread nD τ) arg22 fullShare ss ∗ owns (c : Thread nD τ) arg23 fullShare (vStats i (headV (yV ab asum asc w ws wz)) st)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_qkv_eq_skeleton]; unfold cc0_qkv_skel
    have hT : (do
      if k0_h5 : k0_cond5 i = 1#1 then do
          let v1822 : IVec S8x64 32 ← k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
          let v1824 : Vec F S1x8x64 .i8 ← Prog.lift (.load arg15 (Rect.unit (s := S72x8x64) ![70, 0, 0] S1x8x64.size inb_S72x8x64_S1x8x64_70_0_0).toLoadRect (View.loadsAt_vmem h_S1x8x64))
          Prog.lift (.store arg15 (Rect.unit (s := S72x8x64) ![70, 0, 0] S1x8x64.size inb_S72x8x64_S1x8x64_70_0_0) (k0_pay7 v1822) Finset.univ (View.stores_vmem h_S1x8x64 (harg15.storeExact_slice rfl _ packedi8_S72x8x64_S1x8x64_70_0_0) (fun _ => rfl)) (.inl rfl))
          let v1827 : Vec F S8x128 .f32 ← Prog.lift (.load arg11 (⟨![4427, 0], S8x128.size, ![24, 1], inb_S4608x128_S8x128_4427_0_s_24_1⟩ : LoadRect S4608x128) (View.loadsAt_vmem h_S8x128))
          let v1836 : Vec F S1x8x64 .i8 ← Prog.lift (.load arg15 (Rect.unit (s := S72x8x64) ![71, 0, 0] S1x8x64.size inb_S72x8x64_S1x8x64_71_0_0).toLoadRect (View.loadsAt_vmem h_S1x8x64))
          Prog.lift (.store arg15 (Rect.unit (s := S72x8x64) ![71, 0, 0] S1x8x64.size inb_S72x8x64_S1x8x64_71_0_0) (k0_pay8 v1827) Finset.univ (View.stores_vmem h_S1x8x64 (harg15.storeExact_slice rfl _ packedi8_S72x8x64_S1x8x64_71_0_0) (fun _ => rfl)) (.inl rfl))
          pure ⟨⟩
      else do
        pure ⟨⟩ : Prog (TpuEff nD τ sig (Elt F) Λ₀ .tc) PUnit) = tailP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 := dif_pos hc5
    simp only [hT]
    clear hT
    have R := run_tail (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
    generalize tailP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = T at R ⊢
    unfold owns at R
    simp only [k0_part74_eq_skeleton, k0_part25_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg18.eq_unread hf18; obtain rfl := harg19.eq_unread hf19; obtain rfl := harg20.eq_unread hf20; obtain rfl := harg21.eq_unread hf21; obtain rfl := harg22.eq_unread hf22; obtain rfl := harg23.eq_unread hf23
    sl_exec (disch := first | sl_exact hc1 | sl_exact hc2 | sl_exact hc3 | sl_exact hc4)
    iapply (R (vStats i (headV (yV ab asum asc w ws wz)) st) _ _)
    isplitl [H9]
    · iexists _; iexists _; isplitr; swap; · iexact H9
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H23]
    · iexists _; isplitr; swap; · iexact H23
      ipureintro
      refine (View.read_writes_eq_canon _ _ _ (View.cover_of_tiled_head _ _ _ rfl)).trans ?_
      rw [View.canon_cons_unit_lit _ _ _ (by decide)]
      sl_unfold_words
      simp only [View.readAt_eq_ld, hf3, hf4, hf5, hf18, hf19, hf20, hf21, hf22, hf23]
      rw [View.ld_unit_lit _ w (by decide), View.ld_unit_lit _ ws (by decide), View.ld_unit_lit _ wz (by decide)]
      rw [View.ld_unit_lit _ st (by decide)]
      rfl
    iintro ⟨H9, H11, H12, H13, H14, H15, H16, H17, H23⟩
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]
    · iexists _; isplitr; · ipureintro; exact harg10.read_unread _
      iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    iexact H23

end Cert.QkvIdeal.Hand

end
-- ==== Proof.Qkv.Run.lean ====
/- THE RUN OF THE CALL with every output named that the claim reads. The codes are stored at the first grid point, the query rows at
    the first ten, the statistics at the last; what a point does not store stays as it was found. Of the array of new rows and of the
    packed codes nothing is said (`fgt`). The scratch is carried by name (`ΦS`): the statistics before point `n` are `stAt n`, the
    query array is `qAt n`. -/
module

public import proofs.«01_k».proof.Proof.Qkv.BodyA
public import proofs.«01_k».proof.Proof.Qkv.BodyB
public import proofs.«01_k».proof.Proof.Qkv.BodyC
public import proofs.«01_k».proof.Proof.Qkv.BodyD
public import proofs.«01_k».proof.Proof.Qkv.BodyE
public import Idealize.ShloMosaic.Lib.Pipeline.TableIdle
public import Idealize.ShloMosaic.Lib.Claim

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At which points each of the body's conditions holds. -/
theorem cond1_iff : ∀ t : Fin grid0.N, k0_cond1 (grid0.coords t) = 1#1 ↔ t.val = 0 := by decide +kernel
theorem cond2_iff : ∀ t : Fin grid0.N, k0_cond2 (grid0.coords t) = 1#1 ↔ t.val < 10 := by decide +kernel
theorem cond3_iff : ∀ t : Fin grid0.N, k0_cond3 (grid0.coords t) = 1#1 ↔ (10 ≤ t.val ∧ t.val < 12) := by decide +kernel
theorem cond4_iff : ∀ t : Fin grid0.N, k0_cond4 (grid0.coords t) = 1#1 ↔ 12 ≤ t.val := by decide +kernel
theorem cond5_iff : ∀ t : Fin grid0.N, k0_cond5 (grid0.coords t) = 1#1 ↔ t.val = 13 := by decide +kernel
theorem coords_val : ∀ t : Fin grid0.N, (grid0.coords t 0).val = t.val := by decide +kernel

abbrev ms0 (t : Fin cfg0.N) : Memref sig .tc .vmem S72x5120 .bf16 := win0_0.stage (cfg0.slots t 0)
abbrev ms1 (t : Fin cfg0.N) : Memref sig .tc .vmem S1x5120 .f32 := win0_1.stage (cfg0.slots t 1)
abbrev ms2 (t : Fin cfg0.N) : Memref sig .tc .vmem S2560x512 .i8 := win0_2.stage (cfg0.slots t 2)
abbrev ms3 (t : Fin cfg0.N) : Memref sig .tc .vmem S1x512 .f32 := win0_3.stage (cfg0.slots t 3)
abbrev ms4 (t : Fin cfg0.N) : Memref sig .tc .vmem S1x512 .f32 := win0_4.stage (cfg0.slots t 4)
abbrev ms5 (t : Fin cfg0.N) : Memref sig .tc .vmem S72x64 .f32 := win0_5.stage (cfg0.slots t 5)
abbrev ms6 (t : Fin cfg0.N) : Memref sig .tc .vmem S72x64 .f32 := win0_6.stage (cfg0.slots t 6)
abbrev ms7 (t : Fin cfg0.N) : Memref sig .tc .vmem S72x5120 .i8 := win0_7.stage (cfg0.slots t 7)
abbrev ms8 (t : Fin cfg0.N) : Memref sig .tc .vmem S3x24 .f32 := win0_8.stage (cfg0.slots t 8)
abbrev ms9 (t : Fin cfg0.N) : Memref sig .tc .vmem S3072x128 .f32 := win0_9.stage (cfg0.slots t 9)
abbrev ms10 (t : Fin cfg0.N) : Memref sig .tc .vmem S4608x128 .f32 := win0_10.stage (cfg0.slots t 10)
abbrev ms11 (t : Fin cfg0.N) : Memref sig .tc .vmem S72x8x64 .i8 := win0_11.stage (cfg0.slots t 11)
abbrev ms12 (t : Fin cfg0.N) : Memref sig .tc .vmem S3x8x24 .f32 := win0_12.stage (cfg0.slots t 12)
abbrev ms13 (t : Fin cfg0.N) : Memref sig .tc .vmem S3x8x24 .f32 := win0_13.stage (cfg0.slots t 13)
abbrev ms14 (t : Fin cfg0.N) : Memref sig .tc .vmem S72x8x64 .i8 := win0_14.stage (cfg0.slots t 14)
abbrev ms15 (t : Fin cfg0.N) : Memref sig .tc .vmem S3x8x24 .f32 := win0_15.stage (cfg0.slots t 15)
abbrev ms16 (t : Fin cfg0.N) : Memref sig .tc .vmem S3x8x24 .f32 := win0_16.stage (cfg0.slots t 16)

/-- The scratch: the codes, their row sums, the scales, the cosines, the sines, the statistics. -/
abbrev sc0 : Memref sig .tc .vmem S72x5120 .bf16 := Memref.whole cc0_scratch0
abbrev sc1 : Memref sig .tc .vmem S72x128 .f32 := Memref.whole cc0_scratch1
abbrev sc2 : Memref sig .tc .vmem S72x128 .f32 := Memref.whole cc0_scratch2
abbrev sc3 : Memref sig .tc .vmem S72x128 .f32 := Memref.whole cc0_scratch3
abbrev sc4 : Memref sig .tc .vmem S72x128 .f32 := Memref.whole cc0_scratch4
abbrev sc5 : Memref sig .tc .vmem S72x128 .f32 := Memref.whole cc0_scratch5

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The first grid point. -/
abbrev tz : Fin cfg0.N := t0_0

/-- What the first point leaves in its scratch. -/
abbrev abC (c : Dev nD) : Vec F S72x5120 .bf16 := abV (iblk m c 0 tz) (iblk m c 1 tz)
abbrev asumC (c : Dev nD) : Vec F S72x128 .f32 := asumV (iblk m c 0 tz) (iblk m c 1 tz)
abbrev ascC (c : Dev nD) : Vec F S72x128 .f32 := ascV (iblk m c 0 tz) (iblk m c 1 tz)
abbrev ccC (c : Dev nD) : Vec F S72x128 .f32 := ccV (iblk m c 5 tz)
abbrev ssC (c : Dev nD) : Vec F S72x128 .f32 := ssV (iblk m c 6 tz)
/-- The block of the product at point `t`. -/
abbrev yC (c : Dev nD) (t : Fin cfg0.N) : Vec F S72x512 .f32 :=
  yV (abC m c) (asumC m c) (ascC m c) (iblk m c 2 t) (iblk m c 3 t) (iblk m c 4 t)

/-- The query array before point `n`. -/
def qAt (c : Dev nD) : ℕ → Vec F S3072x128 .f32
  | 0 => k0_pay19
  | n + 1 => if h : n < cfg0.N then
      if n < 10 then qStep (grid0.coords ⟨n, h⟩ 0).val (fun e => ropeV (headV (yC m c ⟨n, h⟩) e) (ccC m c) (ssC m c)) (qAt c n) else qAt c n
    else qAt c n

/-- The statistics before point `n`. -/
def stAt (c : Dev nD) : ℕ → Vec F S72x128 .f32
  | 0 => stat0V (iblk m c 0 tz) (iblk m c 1 tz)
  | n + 1 => if h : n < cfg0.N then
      if n < 10 then stAt c n
      else if n < 12 then kStats (grid0.coords ⟨n, h⟩) (headV (yC m c ⟨n, h⟩)) (ccC m c) (ssC m c) (stAt c n)
      else vStats (grid0.coords ⟨n, h⟩) (headV (yC m c ⟨n, h⟩)) (stAt c n)
    else stAt c n

theorem qAt_q (c : Dev nD) (t : Fin cfg0.N) (h : t.val < 10) :
    qStep (grid0.coords t 0).val (fun e => ropeV (headV (yC m c t) e) (ccC m c) (ssC m c)) (qAt m c t.val) = qAt m c (t.val + 1) := by
  show _ = dite (t.val < cfg0.N) _ _
  rw [dif_pos t.isLt, if_pos h]
theorem qAt_keep (c : Dev nD) (t : Fin cfg0.N) (h : ¬t.val < 10) : qAt m c (t.val + 1) = qAt m c t.val := by
  show dite (t.val < cfg0.N) _ _ = _
  rw [dif_pos t.isLt, if_neg h]
theorem stAt_keep (c : Dev nD) (t : Fin cfg0.N) (h : t.val < 10) : stAt m c (t.val + 1) = stAt m c t.val := by
  show dite (t.val < cfg0.N) _ _ = _
  rw [dif_pos t.isLt, if_pos h]
theorem stAt_k (c : Dev nD) (t : Fin cfg0.N) (h : 10 ≤ t.val ∧ t.val < 12) :
    kStats (grid0.coords t) (headV (yC m c t)) (ccC m c) (ssC m c) (stAt m c t.val) = stAt m c (t.val + 1) := by
  show _ = dite (t.val < cfg0.N) _ _
  rw [dif_pos t.isLt, if_neg (by omega), if_pos h.2]
theorem stAt_v (c : Dev nD) (t : Fin cfg0.N) (h : 12 ≤ t.val) :
    vStats (grid0.coords t) (headV (yC m c t)) (stAt m c t.val) = stAt m c (t.val + 1) := by
  show _ = dite (t.val < cfg0.N) _ _
  rw [dif_pos t.isLt, if_neg (by omega), if_neg (by omega)]

/-- The invariant before point `n`: at the first point the scratch holds anything; after it what the first point left there, and the statistics so far. -/
def ΦS (c : Dev nD) : ℕ → sProp 𝕄
  | 0 => Pipeline.ΦA spec0 c
  | n + 1 => iprop(iprop(owns (c : Thread nD τ) sc0 fullShare (abC m c) ∗ owns (c : Thread nD τ) sc1 fullShare (asumC m c) ∗ owns (c : Thread nD τ) sc2 fullShare (ascC m c) ∗ owns (c : Thread nD τ) sc3 fullShare (ccC m c) ∗ owns (c : Thread nD τ) sc4 fullShare (ssC m c) ∗ owns (c : Thread nD τ) sc5 fullShare (stAt m c (n + 1))) ∗ (∃ r, prngReg c r))

theorem ΦS_pos (c : Dev nD) {n : ℕ} (h : n ≠ 0) :
    ΦS m c n = iprop(iprop(owns (c : Thread nD τ) sc0 fullShare (abC m c) ∗ owns (c : Thread nD τ) sc1 fullShare (asumC m c) ∗ owns (c : Thread nD τ) sc2 fullShare (ascC m c) ∗ owns (c : Thread nD τ) sc3 fullShare (ccC m c) ∗ owns (c : Thread nD τ) sc4 fullShare (ssC m c) ∗ owns (c : Thread nD τ) sc5 fullShare (stAt m c n)) ∗ (∃ r, prngReg c r)) := by
  obtain ⟨k, rfl⟩ := Nat.exists_eq_succ_of_ne_zero h; rfl

/-- The outputs of which nothing is said: the new rows, and the packed codes of keys and values. -/
def fgt (w : Fin cfg0.W) : Bool := Nat.beq w.val 10 || Nat.beq w.val 11 || Nat.beq w.val 14

/-- The proof data: the arrays as the region finds them, what the body leaves in every window, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => codesV (iblk m c 0 tz) (iblk m c 1 tz)
    | ⟨8, _⟩ => scaleOut (stAt m c 14)
    | ⟨9, _⟩ => qAt m c (t.val + 1)
    | ⟨10, _⟩ => (fun _ => Scalar.ofBits .f32 0#32)
    | ⟨11, _⟩ => (fun _ => (0#8 : BitVec 8))
    | ⟨12, _⟩ => statsOut0 (stAt m c 14)
    | ⟨13, _⟩ => statsOut1 (stAt m c 14)
    | ⟨14, _⟩ => (fun _ => (0#8 : BitVec 8))
    | ⟨15, _⟩ => statsOut2 (stAt m c 14)
    | ⟨16, _⟩ => statsOut3 (stAt m c 14)
    | ⟨n + 17, h⟩ => absurd h (Nat.not_lt.2 (Nat.le_add_left _ _))
  Φ t := ΦS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = codesV (iblk m c 0 tz) (iblk m c 1 tz) := by dsimp only [dats]
theorem after_8 (c : Dev nD) (t : Fin cfg0.N) : (dats m 0 c).after 8 t = scaleOut (stAt m c 14) := by dsimp only [dats]
theorem after_9 (c : Dev nD) (t : Fin cfg0.N) : (dats m 0 c).after 9 t = qAt m c (t.val + 1) := by dsimp only [dats]
theorem after_12 (c : Dev nD) (t : Fin cfg0.N) : (dats m 0 c).after 12 t = statsOut0 (stAt m c 14) := by dsimp only [dats]
theorem after_13 (c : Dev nD) (t : Fin cfg0.N) : (dats m 0 c).after 13 t = statsOut1 (stAt m c 14) := by dsimp only [dats]
theorem after_15 (c : Dev nD) (t : Fin cfg0.N) : (dats m 0 c).after 15 t = statsOut2 (stAt m c 14) := by dsimp only [dats]
theorem after_16 (c : Dev nD) (t : Fin cfg0.N) : (dats m 0 c).after 16 t = statsOut3 (stAt m c 14) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The codes and the query rows: written back at the last point alone. -/
theorem fresh_step_7 : ∀ t : Fin cfg0.N, (t.val + 1 == 0 || t.val + 1 == 14)
    = ((cfg0.win 7).flush t || (cfg0.idle 7 (cfg0.grid.coords t) && (t.val == 0 || t.val == 14))) := by
  decide +kernel
theorem fresh_7 (t : Fin cfg0.N) : cfg0.fresh 7 t.val = (t.val == 0 || t.val == 14) :=
  cfg0.fresh_tab 7 (fun n => n == 0 || n == 14) rfl fresh_step_7 t.val (Nat.le_of_lt t.isLt)
theorem fresh_step_9 : ∀ t : Fin cfg0.N, (t.val + 1 == 0 || t.val + 1 == 14)
    = ((cfg0.win 9).flush t || (cfg0.idle 9 (cfg0.grid.coords t) && (t.val == 0 || t.val == 14))) := by
  decide +kernel
theorem fresh_9 (t : Fin cfg0.N) : cfg0.fresh 9 t.val = (t.val == 0 || t.val == 14) :=
  cfg0.fresh_tab 9 (fun n => n == 0 || n == 14) rfl fresh_step_9 t.val (Nat.le_of_lt t.isLt)
theorem idle_7 : ∀ t : Fin cfg0.N, t.val = 0 → cfg0.idle 7 (cfg0.grid.coords t) = false := by decide +kernel
theorem idle_9 : ∀ t : Fin cfg0.N, t.val < 10 → cfg0.idle 9 (cfg0.grid.coords t) = false := by decide +kernel
theorem live_9 : ∀ t : Fin cfg0.N, cfg0.idle 9 (cfg0.grid.coords t) = true → ¬t.val < 10 := by decide +kernel
/-- The statistics: stored and written back at the last point alone. -/
theorem quiet_8 : ∀ t : Fin cfg0.N, t.val < 13 → cfg0.idle 8 (cfg0.grid.coords t) = true ∧ (cfg0.win 8).flush t = false := by decide +kernel
theorem idle_8 : ∀ t : Fin cfg0.N, t.val = 13 → cfg0.idle 8 (cfg0.grid.coords t) = false := by decide +kernel
theorem quiet_12 : ∀ t : Fin cfg0.N, t.val < 13 → cfg0.idle 12 (cfg0.grid.coords t) = true ∧ (cfg0.win 12).flush t = false := by decide +kernel
theorem idle_12 : ∀ t : Fin cfg0.N, t.val = 13 → cfg0.idle 12 (cfg0.grid.coords t) = false := by decide +kernel
theorem quiet_13 : ∀ t : Fin cfg0.N, t.val < 13 → cfg0.idle 13 (cfg0.grid.coords t) = true ∧ (cfg0.win 13).flush t = false := by decide +kernel
theorem idle_13 : ∀ t : Fin cfg0.N, t.val = 13 → cfg0.idle 13 (cfg0.grid.coords t) = false := by decide +kernel
theorem quiet_15 : ∀ t : Fin cfg0.N, t.val < 13 → cfg0.idle 15 (cfg0.grid.coords t) = true ∧ (cfg0.win 15).flush t = false := by decide +kernel
theorem idle_15 : ∀ t : Fin cfg0.N, t.val = 13 → cfg0.idle 15 (cfg0.grid.coords t) = false := by decide +kernel
theorem quiet_16 : ∀ t : Fin cfg0.N, t.val < 13 → cfg0.idle 16 (cfg0.grid.coords t) = true ∧ (cfg0.win 16).flush t = false := by decide +kernel
theorem idle_16 : ∀ t : Fin cfg0.N, t.val = 13 → cfg0.idle 16 (cfg0.grid.coords t) = false := by decide +kernel

theorem tab_false (t : Fin cfg0.N) (ht : t.val ≠ 0) : (t.val == 0 || t.val == 14) = false := by
  have hN : t.val < 14 := Nat.lt_of_lt_of_eq t.isLt N_0
  rw [Bool.or_eq_false_iff]; exact ⟨beq_eq_false_iff_ne.mpr ht, beq_eq_false_iff_ne.mpr (by omega)⟩

/-- After the first point the codes' buffer holds, before the body, what the first point stored. -/
theorem before_7 (c : Dev nD) (t : Fin cfg0.N) (ht : t.val ≠ 0) (d) :
    (dats m 0 c).before 7 t d = codesV (iblk m c 0 tz) (iblk m c 1 tz) := by
  rw [(dats m 0 c).before_out_traj 7 rfl (fun _ _ => rfl) (fun t _ _ _ => rfl) t.val t rfl d, fresh_7 t, tab_false t ht, if_neg Bool.false_ne_true, after_7]

/-- After the first point the queries' buffer holds, before the body, the query array so far. -/
theorem before_9 (c : Dev nD) (t : Fin cfg0.N) (ht : t.val ≠ 0) (d) : (dats m 0 c).before 9 t d = qAt m c t.val := by
  rw [(dats m 0 c).before_out_traj 9 rfl (fun _ _ => rfl) (fun t h0 hi _ => by
    rw [after_9, after_9, qAt_keep m c t (live_9 t hi)]
    exact congrArg (qAt m c) (show t.val = t.val - 1 + 1 by omega)) t.val t rfl d, fresh_9 t, tab_false t ht, if_neg Bool.false_ne_true, after_9]
  exact congrArg (qAt m c) (show t.val - 1 + 1 = t.val by omega)

/-- A window left at what the proof data say, and found so at an idle point, is left as the body must leave it. -/
theorem leaves_of (c : Dev nD) (w : Fin cfg0.W) (t : Fin cfg0.N)
    (h : cfg0.idle w (cfg0.grid.coords t) = true → ∀ d, (dats m 0 c).before w t d = (dats m 0 c).after w t) :
    owns (c : Thread nD τ) ((cfg0.win w).stage (cfg0.slots t w)) fullShare ((dats m 0 c).after w t) ⊢ (dats m 0 c).leavesExact w t := by
  cases hi : cfg0.idle w (cfg0.grid.coords t)
  · unfold Dat.leavesExact; rw [hi]
  · cases hf : (cfg0.win w).flush t
    · rw [(dats m 0 c).leavesExact_idle w t hi hf]
      iintro H
      iexists ((dats m 0 c).after w t)
      rw [h hi]
      iexact H
    · unfold Dat.leavesExact; rw [hi, hf]

/-- A window found at an idle point that does not write it back is left as found. -/
theorem leaves_keep (c : Dev nD) (w : Fin cfg0.W) (t : Fin cfg0.N)
    (h : cfg0.idle w (cfg0.grid.coords t) = true ∧ (cfg0.win w).flush t = false) (d) :
    owns (c : Thread nD τ) ((cfg0.win w).stage (cfg0.slots t w)) fullShare ((dats m 0 c).before w t d) ⊢ (dats m 0 c).leavesExact w t := by
  rw [(dats m 0 c).leavesExact_idle w t h.1 h.2]
  iintro H
  iexists d
  iexact H

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ X, owns (c : Thread nD τ) (ms10 t) fullShare X)
    ∗ (∃ X, owns (c : Thread nD τ) (ms11 t) fullShare X)
    ∗ (∃ d, owns (c : Thread nD τ) (ms12 t) fullShare ((dats m 0 c).before 12 t d))
    ∗ (∃ d, owns (c : Thread nD τ) (ms13 t) fullShare ((dats m 0 c).before 13 t d))
    ∗ (∃ X, owns (c : Thread nD τ) (ms14 t) fullShare X)
    ∗ (∃ d, owns (c : Thread nD τ) (ms15 t) fullShare ((dats m 0 c).before 15 t d))
    ∗ (∃ d, owns (c : Thread nD τ) (ms16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ X, owns (c : Thread nD τ) (ms10 t) fullShare X)
    ∗ (∃ X, owns (c : Thread nD τ) (ms11 t) fullShare X)
    ∗ (dats m 0 c).leavesExact 12 t
    ∗ (dats m 0 c).leavesExact 13 t
    ∗ (∃ X, owns (c : Thread nD τ) (ms14 t) fullShare X)
    ∗ (dats m 0 c).leavesExact 15 t
    ∗ (dats m 0 c).leavesExact 16 t)

set_option maxHeartbeats 4000000 in
/-- The body at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  have hN : t.val < 14 := Nat.lt_of_lt_of_eq t.isLt N_0
  obtain rfl : t = tz := Fin.ext h
  unfold bodyPre bodyPost bodyAt0
  simp only [before_0, before_1, before_2, before_3, before_4, before_5, before_6]
  rw [show (dats m 0 c).owesAt () tz.succ = (dats m 0 c).owesAt () tz.castSucc from rfl,
    show (dats m 0 c).Φ tz.castSucc = ΦS m c tz.val from rfl, show (dats m 0 c).Φ tz.succ = ΦS m c (tz.val + 1) from rfl,
    ΦS_pos m c (show tz.val + 1 ≠ 0 from Nat.succ_ne_zero _)]
  rw [show ΦS m c tz.val = Pipeline.ΦA spec0 c from rfl, PhiA_eq]
  have hc1 : k0_cond1 (grid0.coords tz) = 1#1 := (cond1_iff tz).mpr (by decide)
  have hc2 : k0_cond2 (grid0.coords tz) = 1#1 := (cond2_iff tz).mpr (by decide)
  have hc3 : ¬k0_cond3 (grid0.coords tz) = 1#1 := fun hh => absurd ((cond3_iff tz).mp hh) (by decide)
  have hc4 : ¬k0_cond4 (grid0.coords tz) = 1#1 := fun hh => absurd ((cond4_iff tz).mp hh) (by decide)
  have hc5 : ¬k0_cond5 (grid0.coords tz) = 1#1 := fun hh => absurd ((cond5_iff tz).mp hh) (by decide)
  have L0 := leaves_of m c 0 tz (fun h => absurd h Bool.false_ne_true)
  rw [after_0] at L0
  have L1 := leaves_of m c 1 tz (fun h => absurd h Bool.false_ne_true)
  rw [after_1] at L1
  have L2 := leaves_of m c 2 tz (fun h => absurd h Bool.false_ne_true)
  rw [after_2] at L2
  have L3 := leaves_of m c 3 tz (fun h => absurd h Bool.false_ne_true)
  rw [after_3] at L3
  have L4 := leaves_of m c 4 tz (fun h => absurd h Bool.false_ne_true)
  rw [after_4] at L4
  have L5 := leaves_of m c 5 tz (fun h => absurd h Bool.false_ne_true)
  rw [after_5] at L5
  have L6 := leaves_of m c 6 tz (fun h => absurd h Bool.false_ne_true)
  rw [after_6] at L6
  have L7 := leaves_of m c 7 tz (fun hh => absurd ((idle_7 tz rfl).symm.trans hh) Bool.false_ne_true)
  have L9 := leaves_of m c 9 tz (fun hh => absurd ((idle_9 tz (by decide)).symm.trans hh) Bool.false_ne_true)
  rw [after_7] at L7; rw [after_9] at L9
  have L8 := leaves_keep m c 8 tz (quiet_8 tz (by decide))
  have L12 := leaves_keep m c 12 tz (quiet_12 tz (by decide))
  have L13 := leaves_keep m c 13 tz (quiet_13 tz (by decide))
  have L15 := leaves_keep m c 15 tz (quiet_15 tz (by decide))
  have L16 := leaves_keep m c 16 tz (quiet_16 tz (by decide))
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have R := run_A c (grid0.coords tz) (ms0 tz) (hstage0_0 ((cfg0.slots tz 0).cast nbuf0_0)) (ms1 tz) (hstage0_1 ((cfg0.slots tz 1).cast nbuf0_1)) (ms2 tz) (hstage0_2 ((cfg0.slots tz 2).cast nbuf0_2)) (ms3 tz) (hstage0_3 ((cfg0.slots tz 3).cast nbuf0_3)) (ms4 tz) (hstage0_4 ((cfg0.slots tz 4).cast nbuf0_4)) (ms5 tz) (hstage0_5 ((cfg0.slots tz 5).cast nbuf0_5)) (ms6 tz) (hstage0_6 ((cfg0.slots tz 6).cast nbuf0_6)) (ms7 tz) (hstage0_7 ((cfg0.slots tz 7).cast nbuf0_7)) (ms8 tz) (hstage0_8 ((cfg0.slots tz 8).cast nbuf0_8)) (ms9 tz) (hstage0_9 ((cfg0.slots tz 9).cast nbuf0_9)) (ms10 tz) (hstage0_10 ((cfg0.slots tz 10).cast nbuf0_10)) (ms11 tz) (hstage0_11 ((cfg0.slots tz 11).cast nbuf0_11)) (ms12 tz) (hstage0_12 ((cfg0.slots tz 12).cast nbuf0_12)) (ms13 tz) (hstage0_13 ((cfg0.slots tz 13).cast nbuf0_13)) (ms14 tz) (hstage0_14 ((cfg0.slots tz 14).cast nbuf0_14)) (ms15 tz) (hstage0_15 ((cfg0.slots tz 15).cast nbuf0_15)) (ms16 tz) (hstage0_16 ((cfg0.slots tz 16).cast nbuf0_16)) sc0 (Memref.isWhole_whole _) sc1 (Memref.isWhole_whole _) sc2 (Memref.isWhole_whole _) sc3 (Memref.isWhole_whole _) sc4 (Memref.isWhole_whole _) sc5 (Memref.isWhole_whole _) hc1 hc2 hc3 hc4 hc5 ((coords_val tz).trans_lt (by decide)) (iblk m c 0 tz) (iblk m c 1 tz) (iblk m c 2 tz) (iblk m c 3 tz) (iblk m c 4 tz) (iblk m c 5 tz) (iblk m c 6 tz) ((dats m 0 c).before 8 tz d8) d10 d11 ((dats m 0 c).before 12 tz d12) ((dats m 0 c).before 13 tz d13) d14 ((dats m 0 c).before 15 tz d15) ((dats m 0 c).before 16 tz d16) Set.univ
  rw [show qStep _ _ k0_pay19 = qAt m c (tz.val + 1) from qAt_q m c tz (by decide)] at R
  rw [show stat0V (iblk m c 0 tz) (iblk m c 1 tz) = stAt m c (tz.val + 1) from (stAt_keep m c tz (by decide)).symm] at R
  iapply (R _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iapply L0; iexact H0
  isplitl [H1]; · iapply L1; iexact H1
  isplitl [H2]; · iapply L2; iexact H2
  isplitl [H3]; · iapply L3; iexact H3
  isplitl [H4]; · iapply L4; iexact H4
  isplitl [H5]; · iapply L5; iexact H5
  isplitl [H6]; · iapply L6; iexact H6
  isplitl [H7]; · iapply L7; iexact H7
  isplitl [H8]; · iapply (L8 _); iexact H8
  isplitl [H9]; · iapply L9; iexact H9
  isplitl [H10]; · iexists _; iexact H10
  isplitl [H11]; · iexists _; iexact H11
  isplitl [H12]; · iapply (L12 _); iexact H12
  isplitl [H13]; · iapply (L13 _); iexact H13
  isplitl [H14]; · iexists _; iexact H14
  isplitl [H15]; · iapply (L15 _); iexact H15
  iapply (L16 _); iexact H16

set_option maxHeartbeats 4000000 in
/-- The body at the other points of queries. -/
theorem sound_B (c : Dev nD) (t : Fin cfg0.N) (h : t.val ≠ 0 ∧ t.val < 10) :
    bodyPre m c t ⊢ wp frame (wpE (defs₀ (F := F)) Variants.none c none) Set.univ (bodyAt0 t) (fun _ => bodyPost m c t) := by
  have hN : t.val < 14 := Nat.lt_of_lt_of_eq t.isLt N_0
  unfold bodyPre bodyPost bodyAt0
  simp only [before_0, before_1, before_2, before_3, before_4, before_5, before_6]
  rw [show (dats m 0 c).owesAt () t.succ = (dats m 0 c).owesAt () t.castSucc from rfl,
    show (dats m 0 c).Φ t.castSucc = ΦS m c t.val from rfl, show (dats m 0 c).Φ t.succ = ΦS m c (t.val + 1) from rfl,
    ΦS_pos m c (show t.val + 1 ≠ 0 from Nat.succ_ne_zero _)]
  have h0 : t.val ≠ 0 := by omega
  rw [ΦS_pos m c h0]
  simp only [before_7 m c t h0, before_9 m c t h0]
  have hc1 : ¬k0_cond1 (grid0.coords t) = 1#1 := fun hh => absurd ((cond1_iff t).mp hh) (by omega)
  have hc2 : k0_cond2 (grid0.coords t) = 1#1 := (cond2_iff t).mpr (by omega)
  have hc3 : ¬k0_cond3 (grid0.coords t) = 1#1 := fun hh => absurd ((cond3_iff t).mp hh) (by omega)
  have hc4 : ¬k0_cond4 (grid0.coords t) = 1#1 := fun hh => absurd ((cond4_iff t).mp hh) (by omega)
  have hc5 : ¬k0_cond5 (grid0.coords t) = 1#1 := fun hh => absurd ((cond5_iff t).mp hh) (by omega)
  have L0 := leaves_of m c 0 t (fun h => absurd h Bool.false_ne_true)
  rw [after_0] at L0
  have L1 := leaves_of m c 1 t (fun h => absurd h Bool.false_ne_true)
  rw [after_1] at L1
  have L2 := leaves_of m c 2 t (fun h => absurd h Bool.false_ne_true)
  rw [after_2] at L2
  have L3 := leaves_of m c 3 t (fun h => absurd h Bool.false_ne_true)
  rw [after_3] at L3
  have L4 := leaves_of m c 4 t (fun h => absurd h Bool.false_ne_true)
  rw [after_4] at L4
  have L5 := leaves_of m c 5 t (fun h => absurd h Bool.false_ne_true)
  rw [after_5] at L5
  have L6 := leaves_of m c 6 t (fun h => absurd h Bool.false_ne_true)
  rw [after_6] at L6
  have L7 := leaves_of m c 7 t (fun _ d => (before_7 m c t h0 d).trans (after_7 m c t).symm)
  have L9 := leaves_of m c 9 t (fun hh => absurd ((idle_9 t h.2).symm.trans hh) Bool.false_ne_true)
  rw [after_7] at L7; rw [after_9] at L9
  have L8 := leaves_keep m c 8 t (quiet_8 t (by omega))
  have L12 := leaves_keep m c 12 t (quiet_12 t (by omega))
  have L13 := leaves_keep m c 13 t (quiet_13 t (by omega))
  have L15 := leaves_keep m c 15 t (quiet_15 t (by omega))
  have L16 := leaves_keep m c 16 t (quiet_16 t (by omega))
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have R := run_B c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) (ms13 t) (hstage0_13 ((cfg0.slots t 13).cast nbuf0_13)) (ms14 t) (hstage0_14 ((cfg0.slots t 14).cast nbuf0_14)) (ms15 t) (hstage0_15 ((cfg0.slots t 15).cast nbuf0_15)) (ms16 t) (hstage0_16 ((cfg0.slots t 16).cast nbuf0_16)) sc0 (Memref.isWhole_whole _) sc1 (Memref.isWhole_whole _) sc2 (Memref.isWhole_whole _) sc3 (Memref.isWhole_whole _) sc4 (Memref.isWhole_whole _) sc5 (Memref.isWhole_whole _) hc1 hc2 hc3 hc4 hc5 ((coords_val t).trans_lt h.2) (iblk m c 0 t) (iblk m c 1 t) (iblk m c 2 t) (iblk m c 3 t) (iblk m c 4 t) (iblk m c 5 t) (iblk m c 6 t) (codesV (iblk m c 0 tz) (iblk m c 1 tz)) ((dats m 0 c).before 8 t d8) (qAt m c t.val) d10 d11 ((dats m 0 c).before 12 t d12) ((dats m 0 c).before 13 t d13) d14 ((dats m 0 c).before 15 t d15) ((dats m 0 c).before 16 t d16) (abC m c) (asumC m c) (ascC m c) (ccC m c) (ssC m c) (stAt m c t.val) Set.univ
  rw [qAt_q m c t h.2] at R
  rw [stAt_keep m c t h.2]
  iapply (R _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iapply L0; iexact H0
  isplitl [H1]; · iapply L1; iexact H1
  isplitl [H2]; · iapply L2; iexact H2
  isplitl [H3]; · iapply L3; iexact H3
  isplitl [H4]; · iapply L4; iexact H4
  isplitl [H5]; · iapply L5; iexact H5
  isplitl [H6]; · iapply L6; iexact H6
  isplitl [H7]; · iapply L7; iexact H7
  isplitl [H8]; · iapply (L8 _); iexact H8
  isplitl [H9]; · iapply L9; iexact H9
  isplitl [H10]; · iexists _; iexact H10
  isplitl [H11]; · iexists _; iexact H11
  isplitl [H12]; · iapply (L12 _); iexact H12
  isplitl [H13]; · iapply (L13 _); iexact H13
  isplitl [H14]; · iexists _; iexact H14
  isplitl [H15]; · iapply (L15 _); iexact H15
  iapply (L16 _); iexact H16

set_option maxHeartbeats 4000000 in
/-- The body at the points of keys. -/
theorem sound_C (c : Dev nD) (t : Fin cfg0.N) (h : 10 ≤ t.val ∧ t.val < 12) :
    bodyPre m c t ⊢ wp frame (wpE (defs₀ (F := F)) Variants.none c none) Set.univ (bodyAt0 t) (fun _ => bodyPost m c t) := by
  have hN : t.val < 14 := Nat.lt_of_lt_of_eq t.isLt N_0
  unfold bodyPre bodyPost bodyAt0
  simp only [before_0, before_1, before_2, before_3, before_4, before_5, before_6]
  rw [show (dats m 0 c).owesAt () t.succ = (dats m 0 c).owesAt () t.castSucc from rfl,
    show (dats m 0 c).Φ t.castSucc = ΦS m c t.val from rfl, show (dats m 0 c).Φ t.succ = ΦS m c (t.val + 1) from rfl,
    ΦS_pos m c (show t.val + 1 ≠ 0 from Nat.succ_ne_zero _)]
  have h0 : t.val ≠ 0 := by omega
  rw [ΦS_pos m c h0]
  simp only [before_7 m c t h0, before_9 m c t h0]
  have hc1 : ¬k0_cond1 (grid0.coords t) = 1#1 := fun hh => absurd ((cond1_iff t).mp hh) (by omega)
  have hc2 : ¬k0_cond2 (grid0.coords t) = 1#1 := fun hh => absurd ((cond2_iff t).mp hh) (by omega)
  have hc3 : k0_cond3 (grid0.coords t) = 1#1 := (cond3_iff t).mpr (by omega)
  have hc4 : ¬k0_cond4 (grid0.coords t) = 1#1 := fun hh => absurd ((cond4_iff t).mp hh) (by omega)
  have hc5 : ¬k0_cond5 (grid0.coords t) = 1#1 := fun hh => absurd ((cond5_iff t).mp hh) (by omega)
  have L0 := leaves_of m c 0 t (fun h => absurd h Bool.false_ne_true)
  rw [after_0] at L0
  have L1 := leaves_of m c 1 t (fun h => absurd h Bool.false_ne_true)
  rw [after_1] at L1
  have L2 := leaves_of m c 2 t (fun h => absurd h Bool.false_ne_true)
  rw [after_2] at L2
  have L3 := leaves_of m c 3 t (fun h => absurd h Bool.false_ne_true)
  rw [after_3] at L3
  have L4 := leaves_of m c 4 t (fun h => absurd h Bool.false_ne_true)
  rw [after_4] at L4
  have L5 := leaves_of m c 5 t (fun h => absurd h Bool.false_ne_true)
  rw [after_5] at L5
  have L6 := leaves_of m c 6 t (fun h => absurd h Bool.false_ne_true)
  rw [after_6] at L6
  have L7 := leaves_of m c 7 t (fun _ d => (before_7 m c t h0 d).trans (after_7 m c t).symm)
  have L9 := leaves_of m c 9 t (fun _ d => (before_9 m c t h0 d).trans ((qAt_keep m c t (by omega)).symm.trans (after_9 m c t).symm))
  rw [after_7] at L7; rw [after_9] at L9
  rw [qAt_keep m c t (by omega)] at L9
  have L8 := leaves_keep m c 8 t (quiet_8 t (by omega))
  have L12 := leaves_keep m c 12 t (quiet_12 t (by omega))
  have L13 := leaves_keep m c 13 t (quiet_13 t (by omega))
  have L15 := leaves_keep m c 15 t (quiet_15 t (by omega))
  have L16 := leaves_keep m c 16 t (quiet_16 t (by omega))
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have R := run_C c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) (ms13 t) (hstage0_13 ((cfg0.slots t 13).cast nbuf0_13)) (ms14 t) (hstage0_14 ((cfg0.slots t 14).cast nbuf0_14)) (ms15 t) (hstage0_15 ((cfg0.slots t 15).cast nbuf0_15)) (ms16 t) (hstage0_16 ((cfg0.slots t 16).cast nbuf0_16)) sc0 (Memref.isWhole_whole _) sc1 (Memref.isWhole_whole _) sc2 (Memref.isWhole_whole _) sc3 (Memref.isWhole_whole _) sc4 (Memref.isWhole_whole _) sc5 (Memref.isWhole_whole _) hc1 hc2 hc3 hc4 hc5 (iblk m c 0 t) (iblk m c 1 t) (iblk m c 2 t) (iblk m c 3 t) (iblk m c 4 t) (iblk m c 5 t) (iblk m c 6 t) (codesV (iblk m c 0 tz) (iblk m c 1 tz)) ((dats m 0 c).before 8 t d8) (qAt m c t.val) d11 ((dats m 0 c).before 12 t d12) ((dats m 0 c).before 13 t d13) d14 ((dats m 0 c).before 15 t d15) ((dats m 0 c).before 16 t d16) (abC m c) (asumC m c) (ascC m c) (ccC m c) (ssC m c) (stAt m c t.val) Set.univ
  rw [stAt_k m c t h] at R
  iapply (R _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iapply L0; iexact H0
  isplitl [H1]; · iapply L1; iexact H1
  isplitl [H2]; · iapply L2; iexact H2
  isplitl [H3]; · iapply L3; iexact H3
  isplitl [H4]; · iapply L4; iexact H4
  isplitl [H5]; · iapply L5; iexact H5
  isplitl [H6]; · iapply L6; iexact H6
  isplitl [H7]; · iapply L7; iexact H7
  isplitl [H8]; · iapply (L8 _); iexact H8
  isplitl [H9]; · iapply L9; iexact H9
  isplitl [H10]; · iexact H10
  isplitl [H11]; · iexists _; iexact H11
  isplitl [H12]; · iapply (L12 _); iexact H12
  isplitl [H13]; · iapply (L13 _); iexact H13
  isplitl [H14]; · iexists _; iexact H14
  isplitl [H15]; · iapply (L15 _); iexact H15
  iapply (L16 _); iexact H16

set_option maxHeartbeats 4000000 in
/-- The body at the first point of values. -/
theorem sound_D (c : Dev nD) (t : Fin cfg0.N) (h : t.val = 12) :
    bodyPre m c t ⊢ wp frame (wpE (defs₀ (F := F)) Variants.none c none) Set.univ (bodyAt0 t) (fun _ => bodyPost m c t) := by
  have hN : t.val < 14 := Nat.lt_of_lt_of_eq t.isLt N_0
  unfold bodyPre bodyPost bodyAt0
  simp only [before_0, before_1, before_2, before_3, before_4, before_5, before_6]
  rw [show (dats m 0 c).owesAt () t.succ = (dats m 0 c).owesAt () t.castSucc from rfl,
    show (dats m 0 c).Φ t.castSucc = ΦS m c t.val from rfl, show (dats m 0 c).Φ t.succ = ΦS m c (t.val + 1) from rfl,
    ΦS_pos m c (show t.val + 1 ≠ 0 from Nat.succ_ne_zero _)]
  have h0 : t.val ≠ 0 := by omega
  rw [ΦS_pos m c h0]
  simp only [before_7 m c t h0, before_9 m c t h0]
  have hc1 : ¬k0_cond1 (grid0.coords t) = 1#1 := fun hh => absurd ((cond1_iff t).mp hh) (by omega)
  have hc2 : ¬k0_cond2 (grid0.coords t) = 1#1 := fun hh => absurd ((cond2_iff t).mp hh) (by omega)
  have hc3 : ¬k0_cond3 (grid0.coords t) = 1#1 := fun hh => absurd ((cond3_iff t).mp hh) (by omega)
  have hc4 : k0_cond4 (grid0.coords t) = 1#1 := (cond4_iff t).mpr (by omega)
  have hc5 : ¬k0_cond5 (grid0.coords t) = 1#1 := fun hh => absurd ((cond5_iff t).mp hh) (by omega)
  have L0 := leaves_of m c 0 t (fun h => absurd h Bool.false_ne_true)
  rw [after_0] at L0
  have L1 := leaves_of m c 1 t (fun h => absurd h Bool.false_ne_true)
  rw [after_1] at L1
  have L2 := leaves_of m c 2 t (fun h => absurd h Bool.false_ne_true)
  rw [after_2] at L2
  have L3 := leaves_of m c 3 t (fun h => absurd h Bool.false_ne_true)
  rw [after_3] at L3
  have L4 := leaves_of m c 4 t (fun h => absurd h Bool.false_ne_true)
  rw [after_4] at L4
  have L5 := leaves_of m c 5 t (fun h => absurd h Bool.false_ne_true)
  rw [after_5] at L5
  have L6 := leaves_of m c 6 t (fun h => absurd h Bool.false_ne_true)
  rw [after_6] at L6
  have L7 := leaves_of m c 7 t (fun _ d => (before_7 m c t h0 d).trans (after_7 m c t).symm)
  have L9 := leaves_of m c 9 t (fun _ d => (before_9 m c t h0 d).trans ((qAt_keep m c t (by omega)).symm.trans (after_9 m c t).symm))
  rw [after_7] at L7; rw [after_9] at L9
  rw [qAt_keep m c t (by omega)] at L9
  have L8 := leaves_keep m c 8 t (quiet_8 t (by omega))
  have L12 := leaves_keep m c 12 t (quiet_12 t (by omega))
  have L13 := leaves_keep m c 13 t (quiet_13 t (by omega))
  have L15 := leaves_keep m c 15 t (quiet_15 t (by omega))
  have L16 := leaves_keep m c 16 t (quiet_16 t (by omega))
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have R := run_D c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) (ms13 t) (hstage0_13 ((cfg0.slots t 13).cast nbuf0_13)) (ms14 t) (hstage0_14 ((cfg0.slots t 14).cast nbuf0_14)) (ms15 t) (hstage0_15 ((cfg0.slots t 15).cast nbuf0_15)) (ms16 t) (hstage0_16 ((cfg0.slots t 16).cast nbuf0_16)) sc0 (Memref.isWhole_whole _) sc1 (Memref.isWhole_whole _) sc2 (Memref.isWhole_whole _) sc3 (Memref.isWhole_whole _) sc4 (Memref.isWhole_whole _) sc5 (Memref.isWhole_whole _) hc1 hc2 hc3 hc4 hc5 (iblk m c 0 t) (iblk m c 1 t) (iblk m c 2 t) (iblk m c 3 t) (iblk m c 4 t) (iblk m c 5 t) (iblk m c 6 t) (codesV (iblk m c 0 tz) (iblk m c 1 tz)) ((dats m 0 c).before 8 t d8) (qAt m c t.val) d11 ((dats m 0 c).before 12 t d12) ((dats m 0 c).before 13 t d13) d14 ((dats m 0 c).before 15 t d15) ((dats m 0 c).before 16 t d16) (abC m c) (asumC m c) (ascC m c) (ccC m c) (ssC m c) (stAt m c t.val) Set.univ
  rw [stAt_v m c t (by omega)] at R
  iapply (R _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iapply L0; iexact H0
  isplitl [H1]; · iapply L1; iexact H1
  isplitl [H2]; · iapply L2; iexact H2
  isplitl [H3]; · iapply L3; iexact H3
  isplitl [H4]; · iapply L4; iexact H4
  isplitl [H5]; · iapply L5; iexact H5
  isplitl [H6]; · iapply L6; iexact H6
  isplitl [H7]; · iapply L7; iexact H7
  isplitl [H8]; · iapply (L8 _); iexact H8
  isplitl [H9]; · iapply L9; iexact H9
  isplitl [H10]; · iexact H10
  isplitl [H11]; · iexists _; iexact H11
  isplitl [H12]; · iapply (L12 _); iexact H12
  isplitl [H13]; · iapply (L13 _); iexact H13
  isplitl [H14]; · iexists _; iexact H14
  isplitl [H15]; · iapply (L15 _); iexact H15
  iapply (L16 _); iexact H16

set_option maxHeartbeats 4000000 in
/-- The body at the last point. -/
theorem sound_E (c : Dev nD) (t : Fin cfg0.N) (h : t.val = 13) :
    bodyPre m c t ⊢ wp frame (wpE (defs₀ (F := F)) Variants.none c none) Set.univ (bodyAt0 t) (fun _ => bodyPost m c t) := by
  have hN : t.val < 14 := Nat.lt_of_lt_of_eq t.isLt N_0
  unfold bodyPre bodyPost bodyAt0
  simp only [before_0, before_1, before_2, before_3, before_4, before_5, before_6]
  rw [show (dats m 0 c).owesAt () t.succ = (dats m 0 c).owesAt () t.castSucc from rfl,
    show (dats m 0 c).Φ t.castSucc = ΦS m c t.val from rfl, show (dats m 0 c).Φ t.succ = ΦS m c (t.val + 1) from rfl,
    ΦS_pos m c (show t.val + 1 ≠ 0 from Nat.succ_ne_zero _)]
  have h0 : t.val ≠ 0 := by omega
  rw [ΦS_pos m c h0]
  simp only [before_7 m c t h0, before_9 m c t h0]
  have hc1 : ¬k0_cond1 (grid0.coords t) = 1#1 := fun hh => absurd ((cond1_iff t).mp hh) (by omega)
  have hc2 : ¬k0_cond2 (grid0.coords t) = 1#1 := fun hh => absurd ((cond2_iff t).mp hh) (by omega)
  have hc3 : ¬k0_cond3 (grid0.coords t) = 1#1 := fun hh => absurd ((cond3_iff t).mp hh) (by omega)
  have hc4 : k0_cond4 (grid0.coords t) = 1#1 := (cond4_iff t).mpr (by omega)
  have hc5 : k0_cond5 (grid0.coords t) = 1#1 := (cond5_iff t).mpr (by omega)
  have L0 := leaves_of m c 0 t (fun h => absurd h Bool.false_ne_true)
  rw [after_0] at L0
  have L1 := leaves_of m c 1 t (fun h => absurd h Bool.false_ne_true)
  rw [after_1] at L1
  have L2 := leaves_of m c 2 t (fun h => absurd h Bool.false_ne_true)
  rw [after_2] at L2
  have L3 := leaves_of m c 3 t (fun h => absurd h Bool.false_ne_true)
  rw [after_3] at L3
  have L4 := leaves_of m c 4 t (fun h => absurd h Bool.false_ne_true)
  rw [after_4] at L4
  have L5 := leaves_of m c 5 t (fun h => absurd h Bool.false_ne_true)
  rw [after_5] at L5
  have L6 := leaves_of m c 6 t (fun h => absurd h Bool.false_ne_true)
  rw [after_6] at L6
  have L7 := leaves_of m c 7 t (fun _ d => (before_7 m c t h0 d).trans (after_7 m c t).symm)
  have L9 := leaves_of m c 9 t (fun _ d => (before_9 m c t h0 d).trans ((qAt_keep m c t (by omega)).symm.trans (after_9 m c t).symm))
  rw [after_7] at L7; rw [after_9] at L9
  rw [qAt_keep m c t (by omega)] at L9
  have L8 := leaves_of m c 8 t (fun hh => absurd ((idle_8 t h).symm.trans hh) Bool.false_ne_true)
  rw [after_8] at L8
  have L12 := leaves_of m c 12 t (fun hh => absurd ((idle_12 t h).symm.trans hh) Bool.false_ne_true)
  rw [after_12] at L12
  have L13 := leaves_of m c 13 t (fun hh => absurd ((idle_13 t h).symm.trans hh) Bool.false_ne_true)
  rw [after_13] at L13
  have L15 := leaves_of m c 15 t (fun hh => absurd ((idle_15 t h).symm.trans hh) Bool.false_ne_true)
  rw [after_15] at L15
  have L16 := leaves_of m c 16 t (fun hh => absurd ((idle_16 t h).symm.trans hh) Bool.false_ne_true)
  rw [after_16] at L16
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have R := run_E c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) (ms13 t) (hstage0_13 ((cfg0.slots t 13).cast nbuf0_13)) (ms14 t) (hstage0_14 ((cfg0.slots t 14).cast nbuf0_14)) (ms15 t) (hstage0_15 ((cfg0.slots t 15).cast nbuf0_15)) (ms16 t) (hstage0_16 ((cfg0.slots t 16).cast nbuf0_16)) sc0 (Memref.isWhole_whole _) sc1 (Memref.isWhole_whole _) sc2 (Memref.isWhole_whole _) sc3 (Memref.isWhole_whole _) sc4 (Memref.isWhole_whole _) sc5 (Memref.isWhole_whole _) hc1 hc2 hc3 hc4 hc5 (iblk m c 0 t) (iblk m c 1 t) (iblk m c 2 t) (iblk m c 3 t) (iblk m c 4 t) (iblk m c 5 t) (iblk m c 6 t) (codesV (iblk m c 0 tz) (iblk m c 1 tz)) (qAt m c t.val) (abC m c) (asumC m c) (ascC m c) (ccC m c) (ssC m c) (stAt m c t.val) Set.univ
  rw [stAt_v m c t (by omega)] at R
  have e14 : t.val + 1 = 14 := by omega
  rw [e14] at R ⊢
  iapply (R _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iapply L0; iexact H0
  isplitl [H1]; · iapply L1; iexact H1
  isplitl [H2]; · iapply L2; iexact H2
  isplitl [H3]; · iapply L3; iexact H3
  isplitl [H4]; · iapply L4; iexact H4
  isplitl [H5]; · iapply L5; iexact H5
  isplitl [H6]; · iapply L6; iexact H6
  isplitl [H7]; · iapply L7; iexact H7
  isplitl [H8]; · iapply L8; iexact H8
  isplitl [H9]; · iapply L9; iexact H9
  isplitl [H10]; · iexact H10
  isplitl [H11]; · iexact H11
  isplitl [H12]; · iapply L12; iexact H12
  isplitl [H13]; · iapply L13; iexact H13
  isplitl [H14]; · iexact H14
  isplitl [H15]; · iapply L15; iexact H15
  iapply L16; iexact H16

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 14 := Nat.lt_of_lt_of_eq t.isLt N_0
  by_cases h0 : t.val = 0
  · exact sound_A m c t h0
  by_cases h1 : t.val < 10
  · exact sound_B m c t ⟨h0, h1⟩
  by_cases h2 : t.val < 12
  · exact sound_C m c t ⟨by omega, h2⟩
  by_cases h3 : t.val = 12
  · exact sound_D m c t h3
  exact sound_E m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-- After the last point the invariant gives the scratch back. -/
theorem phi_out (c : Dev nD) : (dats (F := F) m 0 c).Φ (Fin.last cfg0.N) ⊢ Pipeline.ΦA spec0 c := by
  rw [show (dats m 0 c).Φ (Fin.last cfg0.N) = ΦS m c cfg0.N from rfl, ΦS_pos m c (by decide), PhiA_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

set_option backward.isDefEq.respectTransparency.types false in
/-- Every execution terminates with every array that is not forgotten at what the proof data say and every semaphore counter at zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_track_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := phi_out m) (hQ' := fun _ h => h)

/-- What the run leaves in an array that is not forgotten. -/
theorem arr_of (r : PUnit × MemSt nD τ sig (Elt F)) (h : Pipeline.RDat.FramePost cfg0 (fun c => (dats m 0 c).toRForget fgt) (V m) r)
    (c : Dev nD) (w : Fin cfg0.W) (hw : fgt w = false) :
    r.2.mem ((cfg0.spec w).arr.view.loc (c.tc : Thread nD τ)) = (dats m 0 c).arrAt w cfg0.N :=
  ((dats m 0 c).toRForget_arrAt_iff hw _ _).mp ((h c).1 w)

/-- The argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (arr_of m r h.1 c 2 rfl).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩)
    (run_main_quiescent m ρ)

end Cert.QkvIdeal.Hand

end
-- ==== Proof.Qkv.Rows.lean ====
/- THE ROWS AND THE HEADS OF THE CALL, over the extended reals: the normalised rows are quantised by the same functions as the
    attention rows of the output projection (`scaleE`, `codeE`); the product gives one head for every block of 128 columns; a
    head is rotated by the cosines and sines of its row; of a head the smallest entry of a row and the 4-bit scale are kept. -/
module

public import proofs.«01_k».proof.Proof.OProj.Hidden
public import proofs.«01_k».proof.Proof.Qkv.Values

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Cert.OProjIdeal.Hand (maxE scaleE codeE clipE loE hiE code_trunc code_back low_nibble clipE_int)

/-! The quantiser. -/

/-- The call's scale of a row. -/
theorem pay10_apply (x : Vec Ideal S72x5120 .bf16) (g : Vec Ideal S1x5120 .f32) (i : S72x1.Idx) :
    k0_pay10 x g i = scaleE (k0_pay9 x g) (i 0) := by
  unfold k0_pay10 scaleE maxE
  generalize k0_pay9 x g = a
  idx_vars i
  pointwise
  rfl

/-- The call's codes, as numbers. -/
theorem pay11_apply (x : Vec Ideal S72x5120 .bf16) (g : Vec Ideal S1x5120 .f32) (j : S72x5120.Idx) :
    k0_pay11 x g j = codeE (k0_pay9 x g) (j 0) (j 1) := by
  have h := pay10_apply x g (ix2 (n0 := 72) (n1 := 1) (j 0) 0)
  unfold k0_pay11 codeE clipE
  generalize k0_pay10 x g = s at h ⊢
  generalize k0_pay9 x g = a at h ⊢
  idx_vars j
  pointwise
  rw [h]
  have e1 : (((127#32).toInt : ℝ) : EReal) = ((127 : ℝ) : EReal) := by
    rw [show (127#32).toInt = 127 by decide]; norm_num
  have e2 : (((4294967169#32).toInt : ℝ) : EReal) = ((-127 : ℝ) : EReal) := by
    rw [show (4294967169#32).toInt = -127 by decide]; norm_num
  rw [e1, e2]

/-- The call's scale of a row, in every lane. -/
theorem ascV_apply (x : Vec Ideal S72x5120 .bf16) (g : Vec Ideal S1x5120 .f32) (j : S72x128.Idx) :
    ascV x g j = scaleE (k0_pay9 x g) (j 0) := by
  have h := pay10_apply x g
  unfold ascV k0_pay14
  generalize k0_pay10 x g = s at h ⊢
  idx_vars j
  pointwise
  exact h (ix2 j0 0)

/-- The call's sum of the codes of a row. -/
theorem asumV_apply (x : Vec Ideal S72x5120 .bf16) (g : Vec Ideal S1x5120 .f32) (j : S72x128.Idx) :
    asumV x g j = ∑ k : Fin 5120, codeE (k0_pay9 x g) (j 0) k := by
  have h := pay11_apply x g
  unfold asumV k0_pay15
  generalize k0_pay11 x g = s at h ⊢
  idx_vars j
  pointwise
  exact Finset.sum_congr rfl fun k _ => h (ix2 j0 k)

/-- The codes as the product reads them. -/
theorem abV_apply (x : Vec Ideal S72x5120 .bf16) (g : Vec Ideal S1x5120 .f32) (j : S72x5120.Idx) :
    abV x g j = codeE (k0_pay9 x g) (j 0) (j 1) := by
  rw [← pay11_apply]; unfold abV k0_pay13; rw [shapeCast_self]; rfl

/-! The product. -/

/-- One element of a block. -/
theorem yV_apply (ab : Vec Ideal S72x5120 .bf16) (asum asc : Vec Ideal S72x128 .f32)
    (w : Vec Ideal S2560x512 .i8) (ws wz : Vec Ideal S1x512 .f32) (p : Fin 72) (q : Fin 512) :
    yV ab asum asc w ws wz (ix2 (n0 := 72) (n1 := 512) p q)
      = (((∑ k : Fin 2560, ab (ix2 (n0 := 72) (n1 := 5120) p ⟨k.val, by omega⟩) * loE (w (ix2 (n0 := 2560) (n1 := 512) k q)))
            + ∑ k : Fin 2560, ab (ix2 (n0 := 72) (n1 := 5120) p ⟨2560 + k.val, by omega⟩) * hiE (w (ix2 (n0 := 2560) (n1 := 512) k q)))
          - wz (ix2 (n0 := 1) (n1 := 512) 0 q) * asum (ix2 (n0 := 72) (n1 := 128) p 0))
          * asc (ix2 (n0 := 72) (n1 := 128) p 0) * ws (ix2 (n0 := 1) (n1 := 512) 0 q) := by
  unfold yV k0_pay370 loE hiE
  pointwise
  rfl

/-- One column of the product, from the codes and scales of the rows. -/
def colE (a : Vec Ideal S72x5120 .f32) (w : Vec Ideal S2560x7168 .i8) (ws wz : EReal) (p : Fin 72) (q : Fin 7168) : EReal :=
  (((∑ k : Fin 2560, codeE a p ⟨k.val, by omega⟩ * loE (w (ix2 (n0 := 2560) (n1 := 7168) k q)))
      + ∑ k : Fin 2560, codeE a p ⟨2560 + k.val, by omega⟩ * hiE (w (ix2 (n0 := 2560) (n1 := 7168) k q)))
    - wz * ∑ k : Fin 5120, codeE a p k) * scaleE a p * ws

/-- Head `n` of the product: columns `128 n` and on. -/
def headE (a : Vec Ideal S72x5120 .f32) (w : Vec Ideal S2560x7168 .i8) (ws wz : Vec Ideal S1x7168 .f32) (n : Fin 56) : Vec Ideal S72x128 .f32 :=
  fun j => colE a w
    (ws (ix2 (n0 := 1) (n1 := 7168) 0 ⟨n.val * 128 + (j 1).val, by have h : (j 1).val < 128 := (j 1).isLt; omega⟩))
    (wz (ix2 (n0 := 1) (n1 := 7168) 0 ⟨n.val * 128 + (j 1).val, by have h : (j 1).val < 128 := (j 1).isLt; omega⟩))
    (j 0) ⟨n.val * 128 + (j 1).val, by have h : (j 1).val < 128 := (j 1).isLt; omega⟩

/-- Block `t` of 512 columns of an array of 7168 columns. -/
def blockOf {α : Type} (n : Nat) (X : (⟨2, ![n, 7168]⟩ : Shape).Idx → α) (t : Fin 14) : (⟨2, ![n, 512]⟩ : Shape).Idx → α := fun j =>
  X (ix2 (n0 := n) (n1 := 7168) (j 0) ⟨t.val * 512 + (j 1).val, by
    have h1 : (j 1).val < 512 := (j 1).isLt
    omega⟩)

/-- A head of a block is 128 of its columns. -/
theorem headV_apply (y : Vec Ideal S72x512 .f32) (e : Fin 4) (p : Fin 72) (q : Fin 128) :
    headV y e (ix2 (n0 := 72) (n1 := 128) p q) = y (ix2 (n0 := 72) (n1 := 512) p ⟨e.val * 128 + q.val, by omega⟩) := by
  fin_cases e
  all_goals
    unfold headV
    refine congrArg y (funext fun a => Fin.ext ?_)
    match a with
    | ⟨0, _⟩ => exact Nat.zero_add _
    | ⟨1, _⟩ => rfl

/-- Head `e` of block `t` is head `4 t + e` of the product. -/
theorem headV_block (x : Vec Ideal S72x5120 .bf16) (g : Vec Ideal S1x5120 .f32) (w : Vec Ideal S2560x7168 .i8)
    (ws wz : Vec Ideal S1x7168 .f32) (t : Fin 14) (e : Fin 4) :
    headV (yV (abV x g) (asumV x g) (ascV x g) (blockOf 2560 w t) (blockOf 1 ws t) (blockOf 1 wz t)) e
      = headE (k0_pay9 x g) w ws wz ⟨t.val * 4 + e.val, by omega⟩ := by
  funext j
  rw [show j = ix2 (n0 := 72) (n1 := 128) (j 0) (j 1) from eq_ix2 j]
  have hj : (j 1).val < 128 := (j 1).isLt
  have hc : ∀ (n : Nat) {α : Type} (X : (⟨2, ![n, 7168]⟩ : Shape).Idx → α) (p : Fin n),
      blockOf n X t (ix2 (n0 := n) (n1 := 512) p ⟨e.val * 128 + (j 1).val, by omega⟩)
        = X (ix2 (n0 := n) (n1 := 7168) p ⟨(t.val * 4 + e.val) * 128 + (j 1).val, by omega⟩) := fun n α X p =>
    congrArg (fun z => X (ix2 (n0 := n) (n1 := 7168) p z)) (Fin.ext (by
      show t.val * 512 + (e.val * 128 + (j 1).val) = (t.val * 4 + e.val) * 128 + (j 1).val; omega))
  refine (headV_apply _ e (j 0) (j 1)).trans ((yV_apply _ _ _ _ _ _ _ _).trans ?_)
  unfold headE colE
  simp only [hc, abV_apply, asumV_apply, ascV_apply]
  rfl

/-! The rotation. -/

/-- A head rotated by the cosines and sines of its rows. -/
def ropeE (h : Vec Ideal S72x128 .f32) (co si : Vec Ideal S72x64 .f32) : Vec Ideal S72x128 .f32 := fun j =>
  if hq : (j 1).val < 64 then
    h j * co (ix2 (n0 := 72) (n1 := 64) (j 0) ⟨(j 1).val, hq⟩)
      - h (ix2 (n0 := 72) (n1 := 128) (j 0) ⟨(j 1).val + 64, by omega⟩) * si (ix2 (n0 := 72) (n1 := 64) (j 0) ⟨(j 1).val, hq⟩)
  else
    h j * co (ix2 (n0 := 72) (n1 := 64) (j 0) ⟨(j 1).val - 64, by have h1 : (j 1).val < 128 := (j 1).isLt; omega⟩)
      + h (ix2 (n0 := 72) (n1 := 128) (j 0) ⟨(j 1).val - 64, by have h1 : (j 1).val < 128 := (j 1).isLt; omega⟩)
        * si (ix2 (n0 := 72) (n1 := 64) (j 0) ⟨(j 1).val - 64, by have h1 : (j 1).val < 128 := (j 1).isLt; omega⟩)

theorem beside_left (a b : Vec Ideal S72x64 .f32) (j : S72x128.Idx) (hq : (j 1).val < 64) :
    concatenate S72x128 1 [⟨S72x64, a⟩, ⟨S72x64, b⟩] concatenates_S72x64_S72x64_S72x128_d1 j
      = a (ix2 (n0 := 72) (n1 := 64) (j 0) ⟨(j 1).val, hq⟩) :=
  concatenate_pair_apply_left (t := S72x128) (s₁ := S72x64) (s₂ := S72x64) 1 a b concatenates_S72x64_S72x64_S72x128_d1 j rfl
    (ix2 (n0 := 72) (n1 := 64) (j 0) ⟨(j 1).val, hq⟩) (fun b => match b with | ⟨0, _⟩ => rfl | ⟨1, _⟩ => rfl)

theorem beside_right (a b : Vec Ideal S72x64 .f32) (j : S72x128.Idx) (hq : ¬ (j 1).val < 64) :
    concatenate S72x128 1 [⟨S72x64, a⟩, ⟨S72x64, b⟩] concatenates_S72x64_S72x64_S72x128_d1 j
      = b (ix2 (n0 := 72) (n1 := 64) (j 0) ⟨(j 1).val - 64, by have h1 : (j 1).val < 128 := (j 1).isLt; omega⟩) :=
  concatenate_pair_apply_right (t := S72x128) (s₁ := S72x64) (s₂ := S72x64) 1 a b concatenates_S72x64_S72x64_S72x128_d1 j rfl rfl
    (ix2 (n0 := 72) (n1 := 64) (j 0) ⟨(j 1).val - 64, by have h1 : (j 1).val < 128 := (j 1).isLt; omega⟩)
    (fun b hb => match b, hb with | ⟨0, _⟩, _ => rfl | ⟨1, _⟩, hb => absurd rfl hb)
    (by show (j 1).val - 64 + 64 = (j 1).val; omega)

/-- The half of a head a rotation by 64 lanes brings to a lane. -/
theorem roll64 (h : Vec Ideal S72x128 .f32) (p : Fin 72) (q : Fin 128) :
    dynamicRotate 1 64#32 none h rotates_S72x128_d1 (ix2 (n0 := 72) (n1 := 128) p q)
      = h (ix2 (n0 := 72) (n1 := 128) p ⟨(q.val + 64) % 128, by omega⟩) := by
  pointwise
  exact congrArg (fun z => h (ix2 (n0 := 72) (n1 := 128) p z)) (Fin.ext (by show (q.val + 128 - 64 % 128) % 128 = (q.val + 64) % 128; omega))

theorem ropeV_eq (h : Vec Ideal S72x128 .f32) (co si : Vec Ideal S72x64 .f32) : ropeV h (ccV co) (ssV si) = ropeE h co si := by
  funext j
  have hj : (j 1).val < 128 := (j 1).isLt
  have ej : j = ix2 (n0 := 72) (n1 := 128) (j 0) (j 1) := eq_ix2 j
  have hr : dynamicRotate 1 64#32 none h rotates_S72x128_d1 j = h (ix2 (n0 := 72) (n1 := 128) (j 0) ⟨((j 1).val + 64) % 128, by omega⟩) :=
    (congrArg (dynamicRotate 1 64#32 none h rotates_S72x128_d1) ej).trans (roll64 h (j 0) (j 1))
  have z : FloatOps.ofBits (F := Ideal) .f32 0x00000000#32 = (0 : EReal) := by simp [Ideal.ofBits, Ideal.ieee]
  have e0 : ropeV h (ccV co) (ssV si) j = h j * ccV co j + dynamicRotate 1 64#32 none h rotates_S72x128_d1 j * ssV si j := rfl
  rw [e0, hr]
  unfold ropeE ccV ssV k0_pay17 k0_pay18
  simp only [shapeCast_self]
  by_cases hq : (j 1).val < 64
  · rw [dif_pos hq, beside_left _ _ j hq, beside_left _ _ j hq]
    have e1 : (⟨((j 1).val + 64) % 128, by omega⟩ : Fin 128) = ⟨(j 1).val + 64, by omega⟩ := Fin.ext (by show ((j 1).val + 64) % 128 = (j 1).val + 64; omega)
    rw [e1]
    have e2 : ∀ s : EReal, FloatOps.subf (F := Ideal) (φ := .f32) (FloatOps.ofBits (F := Ideal) .f32 0x00000000#32) s = -s := fun s => by
      rw [z]; exact zero_sub s
    refine (congrArg (fun s => _ + _ * s) (e2 _)).trans ?_
    rw [mul_neg, ← sub_eq_add_neg]
  · rw [dif_neg hq, beside_right _ _ j hq, beside_right _ _ j hq]
    have e1 : (⟨((j 1).val + 64) % 128, by omega⟩ : Fin 128) = ⟨(j 1).val - 64, by omega⟩ := Fin.ext (by show ((j 1).val + 64) % 128 = (j 1).val - 64; omega)
    rw [e1]

/-! The statistics of a head. -/

/-- The smallest and the largest entry of a row. -/
def lowE (h : Vec Ideal S72x128 .f32) (r : Fin 72) : EReal :=
  (Finset.univ : Finset (Fin 128)).fold min (FloatOps.ofBits (F := Ideal) .f32 0x7F800000#32) (fun k => h (ix2 (n0 := 72) (n1 := 128) r k))
def highE (h : Vec Ideal S72x128 .f32) (r : Fin 72) : EReal :=
  (Finset.univ : Finset (Fin 128)).fold max (FloatOps.ofBits (F := Ideal) .f32 0xFF800000#32) (fun k => h (ix2 (n0 := 72) (n1 := 128) r k))

/-- The 4-bit scale of a row. -/
def stepE (lo hi : EReal) : EReal :=
  Scalar.select (FloatOps.cmpf (F := Ideal) (φ := .f32) .ogt hi lo)
    (Ideal.div (hi - lo) (FloatOps.ofBits (F := Ideal) .f32 0x41700000#32)) (FloatOps.ofBits (F := Ideal) .f32 0x3F800000#32)

theorem pay93_apply (h : Vec Ideal S72x128 .f32) (i : S72x1.Idx) : k0_pay93 (F := Ideal) h i = lowE h (i 0) := by
  unfold k0_pay93 lowE
  idx_vars i
  pointwise

theorem pay94_apply (h : Vec Ideal S72x128 .f32) (i : S72x1.Idx) : k0_pay94 (F := Ideal) h i = stepE (lowE h (i 0)) (highE h (i 0)) := by
  have e := pay93_apply h i
  unfold k0_pay94 stepE highE
  generalize k0_pay93 (F := Ideal) h = s at e ⊢
  rw [← e]
  idx_vars i
  pointwise

end Cert.QkvIdeal.Hand

end
-- ==== Proof.Qkv.Stats.lean ====
/- THE STATISTICS OF THE HEADS: one lane of the scratch for every kept number, filled four heads at a time (`kStats_apply`,
    `vStats_apply`), and laid out by position at the last point (`statsOut0_apply` to `statsOut3_apply`, `scaleOut_apply`). -/
module

public import proofs.«01_k».proof.Proof.Qkv.Rows

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Cert.OProjIdeal.Hand (maxE scaleE codeE)

/-- One number of every row put in lane `a`. -/
def putV (a : BitVec 32) (v : Vec Ideal S72x1 .f32) (st : Vec Ideal S72x128 .f32) : Vec Ideal S72x128 .f32 :=
  select (cmpi .eq laneV (broadcast S72x128 a))
    (broadcastTo S72x128 (shapeCast S72x1 v shapeCasts_S72x1_S72x1) broadcasts_S72x1_S72x128) st

theorem lane_eq (q : Fin 128) (a : BitVec 32) (n : Nat) (ha : a.toNat = n) : BitVec.ofNat 32 q.val = a ↔ q.val = n := by
  rw [← BitVec.toNat_inj, BitVec.toNat_ofNat, ha, Nat.mod_eq_of_lt (by omega)]

theorem putV_apply (a : BitVec 32) (v : Vec Ideal S72x1 .f32) (st : Vec Ideal S72x128 .f32) (p : Fin 72) (q : Fin 128) (n : Nat)
    (ha : a.toNat = n) :
    putV a v st (ix2 (n0 := 72) (n1 := 128) p q) = if q.val = n then v (ix2 (n0 := 72) (n1 := 1) p 0) else st (ix2 (n0 := 72) (n1 := 128) p q) := by
  unfold putV laneV
  pointwise
  have h := lane_eq q a n ha
  by_cases hq : q.val = n
  · rw [if_pos hq]
    simp [Scalar.select, IntOp.cmpi, h.mpr hq]
  · rw [if_neg hq]
    have hb : (BitVec.ofNat 32 q.val == a) = false := by simpa using fun e => hq (h.mp e)
    simp only [Scalar.select, IntOp.cmpi, hb]
    exact if_neg (by decide)

/-- Two numbers of four heads put in their lanes: lanes `c` and on for the one, `d` and on for the other. -/
theorem puts4 (a0 a1 a2 a3 b0 b1 b2 b3 : BitVec 32) (c d : Nat) (S M : Fin 4 → Vec Ideal S72x1 .f32) (st : Vec Ideal S72x128 .f32)
    (ha0 : a0.toNat = c) (ha1 : a1.toNat = c + 1) (ha2 : a2.toNat = c + 2) (ha3 : a3.toNat = c + 3)
    (hb0 : b0.toNat = d) (hb1 : b1.toNat = d + 1) (hb2 : b2.toNat = d + 2) (hb3 : b3.toNat = d + 3) (hcd : c + 4 ≤ d)
    (p : Fin 72) (q : Fin 128) :
    putV b3 (M 3) (putV a3 (S 3) (putV b2 (M 2) (putV a2 (S 2) (putV b1 (M 1) (putV a1 (S 1) (putV b0 (M 0) (putV a0 (S 0) st)))))))
        (ix2 (n0 := 72) (n1 := 128) p q)
      = if hd : d ≤ q.val ∧ q.val < d + 4 then M ⟨q.val - d, by omega⟩ (ix2 (n0 := 72) (n1 := 1) p 0)
        else if hc : c ≤ q.val ∧ q.val < c + 4 then S ⟨q.val - c, by omega⟩ (ix2 (n0 := 72) (n1 := 1) p 0)
        else st (ix2 (n0 := 72) (n1 := 128) p q) := by
  rw [putV_apply _ _ _ p q _ hb3, putV_apply _ _ _ p q _ ha3, putV_apply _ _ _ p q _ hb2, putV_apply _ _ _ p q _ ha2,
    putV_apply _ _ _ p q _ hb1, putV_apply _ _ _ p q _ ha1, putV_apply _ _ _ p q _ hb0, putV_apply _ _ _ p q _ ha0]
  by_cases hd : d ≤ q.val ∧ q.val < d + 4
  · rw [dif_pos hd]
    have k : ∀ e : Fin 4, q.val = d + e.val → M ⟨q.val - d, by omega⟩ (ix2 (n0 := 72) (n1 := 1) p 0) = M e (ix2 (n0 := 72) (n1 := 1) p 0) :=
      fun e he => congrArg (fun e => M e (ix2 (n0 := 72) (n1 := 1) p 0)) (Fin.ext (by show q.val - d = e.val; omega))
    have : q.val = d ∨ q.val = d + 1 ∨ q.val = d + 2 ∨ q.val = d + 3 := by omega
    rcases this with h | h | h | h
    · rw [k 0 h]
      rw [if_neg (by omega), if_neg (by omega), if_neg (by omega), if_neg (by omega), if_neg (by omega), if_neg (by omega), if_pos h]
    · rw [k 1 h]
      rw [if_neg (by omega), if_neg (by omega), if_neg (by omega), if_neg (by omega), if_pos h]
    · rw [k 2 h]
      rw [if_neg (by omega), if_neg (by omega), if_pos h]
    · rw [k 3 h]
      rw [if_pos h]
  · rw [dif_neg hd]
    by_cases hc : c ≤ q.val ∧ q.val < c + 4
    · rw [dif_pos hc]
      have k : ∀ e : Fin 4, q.val = c + e.val → S ⟨q.val - c, by omega⟩ (ix2 (n0 := 72) (n1 := 1) p 0) = S e (ix2 (n0 := 72) (n1 := 1) p 0) :=
        fun e he => congrArg (fun e => S e (ix2 (n0 := 72) (n1 := 1) p 0)) (Fin.ext (by show q.val - c = e.val; omega))
      have : q.val = c ∨ q.val = c + 1 ∨ q.val = c + 2 ∨ q.val = c + 3 := by omega
      rcases this with h | h | h | h
      · rw [k 0 h]
        rw [if_neg (by omega), if_neg (by omega), if_neg (by omega), if_neg (by omega), if_neg (by omega), if_neg (by omega), if_neg (by omega), if_pos h]
      · rw [k 1 h]
        rw [if_neg (by omega), if_neg (by omega), if_neg (by omega), if_neg (by omega), if_neg (by omega), if_pos h]
      · rw [k 2 h]
        rw [if_neg (by omega), if_neg (by omega), if_neg (by omega), if_pos h]
      · rw [k 3 h]
        rw [if_neg (by omega), if_pos h]
    · rw [dif_neg hc]
      rw [if_neg (by omega), if_neg (by omega), if_neg (by omega), if_neg (by omega), if_neg (by omega), if_neg (by omega), if_neg (by omega), if_neg (by omega)]

/-- The lanes of the point's keys. -/
theorem k_lane : ∀ i : grid0.Coords, 10 ≤ (i 0).val → (i 0).val < 12 → ∀ e : Fin 4,
    (Scalar.addi 0#32 (Scalar.addi (Scalar.subi (Scalar.muli (BitVec.ofNat 32 (i 0).val) 4#32) 40#32) (BitVec.ofNat 32 e.val))).toNat = 4 * ((i 0).val - 10) + e.val
    ∧ (Scalar.addi 8#32 (Scalar.addi (Scalar.subi (Scalar.muli (BitVec.ofNat 32 (i 0).val) 4#32) 40#32) (BitVec.ofNat 32 e.val))).toNat = 8 + 4 * ((i 0).val - 10) + e.val := by
  decide +kernel

/-- The lanes of the point's values. -/
theorem v_lane : ∀ i : grid0.Coords, 12 ≤ (i 0).val → (i 0).val < 14 → ∀ e : Fin 4,
    (Scalar.addi 16#32 (Scalar.addi (Scalar.subi (Scalar.subi (Scalar.muli (BitVec.ofNat 32 (i 0).val) 4#32) 40#32) 8#32) (BitVec.ofNat 32 e.val))).toNat = 16 + 4 * ((i 0).val - 12) + e.val
    ∧ (Scalar.addi 24#32 (Scalar.addi (Scalar.subi (Scalar.subi (Scalar.muli (BitVec.ofNat 32 (i 0).val) 4#32) 40#32) 8#32) (BitVec.ofNat 32 e.val))).toNat = 24 + 4 * ((i 0).val - 12) + e.val := by
  decide +kernel

/-- The statistics after a point with four heads of keys. -/
theorem kStats_apply (i : grid0.Coords) (h1 : 10 ≤ (i 0).val) (h2 : (i 0).val < 12) (h : Fin 4 → Vec Ideal S72x128 .f32)
    (cc ss st : Vec Ideal S72x128 .f32) (p : Fin 72) (q : Fin 128) :
    kStats i h cc ss st (ix2 (n0 := 72) (n1 := 128) p q)
      = if hd : 8 + 4 * ((i 0).val - 10) ≤ q.val ∧ q.val < 8 + 4 * ((i 0).val - 10) + 4 then
          k0_pay93 (F := Ideal) (ropeV (h ⟨q.val - (8 + 4 * ((i 0).val - 10)), by omega⟩) cc ss) (ix2 (n0 := 72) (n1 := 1) p 0)
        else if hc : 4 * ((i 0).val - 10) ≤ q.val ∧ q.val < 4 * ((i 0).val - 10) + 4 then
          k0_pay94 (F := Ideal) (ropeV (h ⟨q.val - 4 * ((i 0).val - 10), by omega⟩) cc ss) (ix2 (n0 := 72) (n1 := 1) p 0)
        else st (ix2 (n0 := 72) (n1 := 128) p q) := by
  have K := k_lane i h1 h2
  refine Eq.trans ?_ (puts4 _ _ _ _ _ _ _ _ (4 * ((i 0).val - 10)) (8 + 4 * ((i 0).val - 10))
    (fun e => k0_pay94 (F := Ideal) (ropeV (h e) cc ss)) (fun e => k0_pay93 (F := Ideal) (ropeV (h e) cc ss)) st
    (K 0).1 (K 1).1 (K 2).1 (K 3).1 (K 0).2 (K 1).2 (K 2).2 (K 3).2 (by omega) p q)
  unfold kStats k0_pay6
  rw [shapeCast_self]
  rfl

/-- The statistics after a point with four heads of values. -/
theorem vStats_apply (i : grid0.Coords) (h1 : 12 ≤ (i 0).val) (h2 : (i 0).val < 14) (h : Fin 4 → Vec Ideal S72x128 .f32)
    (st : Vec Ideal S72x128 .f32) (p : Fin 72) (q : Fin 128) :
    vStats i h st (ix2 (n0 := 72) (n1 := 128) p q)
      = if hd : 24 + 4 * ((i 0).val - 12) ≤ q.val ∧ q.val < 24 + 4 * ((i 0).val - 12) + 4 then
          k0_pay93 (F := Ideal) (h ⟨q.val - (24 + 4 * ((i 0).val - 12)), by omega⟩) (ix2 (n0 := 72) (n1 := 1) p 0)
        else if hc : 16 + 4 * ((i 0).val - 12) ≤ q.val ∧ q.val < 16 + 4 * ((i 0).val - 12) + 4 then
          k0_pay94 (F := Ideal) (h ⟨q.val - (16 + 4 * ((i 0).val - 12)), by omega⟩) (ix2 (n0 := 72) (n1 := 1) p 0)
        else st (ix2 (n0 := 72) (n1 := 128) p q) := by
  have K := v_lane i h1 h2
  refine Eq.trans ?_ (puts4 _ _ _ _ _ _ _ _ (16 + 4 * ((i 0).val - 12)) (24 + 4 * ((i 0).val - 12))
    (fun e => k0_pay94 (F := Ideal) (h e)) (fun e => k0_pay93 (F := Ideal) (h e)) st
    (K 0).1 (K 1).1 (K 2).1 (K 3).1 (K 0).2 (K 1).2 (K 2).2 (K 3).2 (by omega) p q)
  unfold vStats k0_pay149
  rw [shapeCast_self]
  rfl

/-- The statistics before any head, in lane 32. -/
theorem stat0V_apply (x : Vec Ideal S72x5120 .bf16) (g : Vec Ideal S1x5120 .f32) (p : Fin 72) :
    stat0V x g (ix2 (n0 := 72) (n1 := 128) p 32) = scaleE (k0_pay9 x g) p := by
  have h := pay10_apply x g (ix2 (n0 := 72) (n1 := 1) p 0)
  refine Eq.trans ?_ h
  unfold stat0V k0_pay16
  rw [shapeCast_self]
  refine Eq.trans (b := putV 32#32 (k0_pay10 x g) (broadcast S72x128 (FloatOps.ofBits (F := Ideal) .f32 0x00000000#32)) (ix2 (n0 := 72) (n1 := 128) p 32)) rfl ?_
  rw [putV_apply _ _ _ p 32 32 (by decide)]
  exact if_pos rfl

/-! The layout by position. -/

/-- Row `o` of the transposed statistics is lane `o` of the statistics. -/
theorem stat_lane (v : Vec Ideal S72x128 .f32) (p : Fin 128) (l : Fin 72) :
    k0_pay150 v (ix2 (n0 := 128) (n1 := 128) p ⟨l.val, by omega⟩) = v (ix2 (n0 := 72) (n1 := 128) l p) := by
  unfold k0_pay150
  dsimp only
  refine (transpose_apply [1, 0] _ transposes_S128x128_p1_0_S128x128 _ (ix2 (n0 := 128) (n1 := 128) ⟨l.val, by omega⟩ p)
    (fun b => match b with | ⟨0, _⟩ => rfl | ⟨1, _⟩ => rfl)).trans ?_
  exact concatenate_pair_apply_left (t := S128x128) (s₁ := S72x128) (s₂ := S56x128) 0 v _
    concatenates_S72x128_S56x128_S128x128_d0 (ix2 (n0 := 128) (n1 := 128) ⟨l.val, by omega⟩ p) rfl (ix2 (n0 := 72) (n1 := 128) l p)
    (fun b => match b with | ⟨0, _⟩ => rfl | ⟨1, _⟩ => rfl)

/-- The transposed statistics rotated by `128 - o` lanes: rows `o` and on. -/
theorem stat_roll (v : Vec Ideal S72x128 .f32) (r : BitVec 32) (o : Nat) (ho : o + 24 ≤ 72) (hr : (128 - r.toNat % 128) % 128 = o)
    (p : Fin 128) (b : Nat) (hb : b < 24) :
    dynamicRotate 1 r none (k0_pay150 v) rotates_S128x128_d1 (ix2 (n0 := 128) (n1 := 128) p ⟨b, by omega⟩)
      = v (ix2 (n0 := 72) (n1 := 128) ⟨o + b, by omega⟩ p) := by
  rw [← stat_lane v p ⟨o + b, by omega⟩]
  generalize k0_pay150 v = y
  pointwise
  exact congrArg (fun q => y (ix2 (n0 := 128) (n1 := 128) p q))
    (Fin.ext (by show (b + 128 - r.toNat % 128) % 128 = o + b; omega))

/-- Eight rows of 24 lanes cut out. -/
theorem cut8 (y : Vec Ideal S128x128 .f32) (o : Nat) (ho : o + 8 ≤ 128) (h) (a : Fin 8) (b : Fin 24) :
    shapeCast S1x8x24 (extractStridedSlice S8x24 ![o, 0] y h) shapeCasts_S8x24_S1x8x24 (ix3 (n0 := 1) (n1 := 8) (n2 := 24) 0 a b)
      = y (ix2 (n0 := 128) (n1 := 128) ⟨o + a.val, by omega⟩ ⟨b.val, by omega⟩) := by
  refine (shapeCast_apply _ shapeCasts_S8x24_S1x8x24 _ (ix2 (n0 := 8) (n1 := 24) a b) ?_).trans ?_
  · rw [Shape.rowMajor_val_two, Shape.rowMajor_val_three]
    show a.val * 24 + b.val = (0 * 8 + a.val) * 24 + b.val
    omega
  · refine congrArg y (funext fun z => Fin.ext ?_)
    match z with
    | ⟨0, _⟩ => rfl
    | ⟨1, _⟩ => exact Nat.zero_add _

/-- One row of 24 lanes cut out. -/
theorem cut1 (y : Vec Ideal S128x128 .f32) (h) (b : Fin 24) :
    extractStridedSlice S1x24 ![32, 0] y h (ix2 (n0 := 1) (n1 := 24) 0 b) = y (ix2 (n0 := 128) (n1 := 128) 32 ⟨b.val, by omega⟩) := by
  refine congrArg y (funext fun z => Fin.ext ?_)
  match z with
  | ⟨0, _⟩ => rfl
  | ⟨1, _⟩ => exact Nat.zero_add _

/-- Lane `l` of row `24 s + b`. -/
def laneAt (st : Vec Ideal S72x128 .f32) (l : Fin 128) (s : Fin 3) (b : Fin 24) : EReal :=
  st (ix2 (n0 := 72) (n1 := 128) ⟨s.val * 24 + b.val, by omega⟩ l)

theorem laneAt_of (st : Vec Ideal S72x128 .f32) (l : Fin 128) (s : Fin 3) (b : Fin 24) (o : Nat) (ho : o + 24 ≤ 72) (h : o = s.val * 24) :
    st (ix2 (n0 := 72) (n1 := 128) ⟨o + b.val, by omega⟩ l) = laneAt st l s b := by subst h; rfl

/-- The three rotations cut out rows of the statistics. -/
theorem cut_at (st : Vec Ideal S72x128 .f32) (l : Nat) (hl : l + 8 ≤ 128) (h) (s : Fin 3) (a : Fin 8) (b : Fin 24) (r : BitVec 32)
    (hr : (128 - r.toNat % 128) % 128 = s.val * 24) :
    shapeCast S1x8x24 (extractStridedSlice S8x24 ![l, 0] (dynamicRotate 1 r none (k0_pay150 st) rotates_S128x128_d1) h)
        shapeCasts_S8x24_S1x8x24 (ix3 (n0 := 1) (n1 := 8) (n2 := 24) 0 a b)
      = laneAt st ⟨l + a.val, by omega⟩ s b := by
  rw [cut8 _ l hl, stat_roll st r (s.val * 24) (by omega) hr _ b.val b.isLt]
  exact laneAt_of st _ s b (s.val * 24) (by omega) rfl

theorem cut_at1 (st : Vec Ideal S72x128 .f32) (h) (s : Fin 3) (b : Fin 24) (r : BitVec 32)
    (hr : (128 - r.toNat % 128) % 128 = s.val * 24) :
    extractStridedSlice S1x24 ![32, 0] (dynamicRotate 1 r none (k0_pay150 st) rotates_S128x128_d1) h (ix2 (n0 := 1) (n1 := 24) 0 b)
      = laneAt st 32 s b := by
  rw [cut1 _ h b, stat_roll st r (s.val * 24) (by omega) hr _ b.val b.isLt]
  exact laneAt_of st _ s b (s.val * 24) (by omega) rfl

theorem statsOut0_apply (st : Vec Ideal S72x128 .f32) (s : Fin 3) (a : Fin 8) (b : Fin 24) :
    statsOut0 st (ix3 (n0 := 3) (n1 := 8) (n2 := 24) s a b) = laneAt st ⟨0 + a.val, by omega⟩ s b := by
  have e : statsOut0 st (ix3 (n0 := 3) (n1 := 8) (n2 := 24) s a b)
      = (if s.val = 0 then k0_pay152 st else if s.val = 1 then k0_pay158 st else k0_pay165 (k0_pay150 st))
        (ix3 (n0 := 1) (n1 := 8) (n2 := 24) 0 a b) := rfl
  rw [e]
  split_ifs with h0 h1
  · unfold k0_pay152 k0_pay151; exact cut_at st 0 (by omega) slices_S128x128_o0_0_S8x24 s a b 0#32 (by rw [h0]; decide)
  · unfold k0_pay158 k0_pay157; exact cut_at st 0 (by omega) slices_S128x128_o0_0_S8x24 s a b 104#32 (by rw [h1]; decide)
  · unfold k0_pay165 k0_pay164; exact cut_at st 0 (by omega) slices_S128x128_o0_0_S8x24 s a b 80#32 (by rw [show s.val = 2 by omega]; decide)
theorem statsOut1_apply (st : Vec Ideal S72x128 .f32) (s : Fin 3) (a : Fin 8) (b : Fin 24) :
    statsOut1 st (ix3 (n0 := 3) (n1 := 8) (n2 := 24) s a b) = laneAt st ⟨8 + a.val, by omega⟩ s b := by
  have e : statsOut1 st (ix3 (n0 := 3) (n1 := 8) (n2 := 24) s a b)
      = (if s.val = 0 then k0_pay153 st else if s.val = 1 then k0_pay160 (k0_pay159 st) else k0_pay166 (k0_pay150 st))
        (ix3 (n0 := 1) (n1 := 8) (n2 := 24) 0 a b) := rfl
  rw [e]
  split_ifs with h0 h1
  · unfold k0_pay153 k0_pay151; exact cut_at st 8 (by omega) slices_S128x128_o8_0_S8x24 s a b 0#32 (by rw [h0]; decide)
  · unfold k0_pay160 k0_pay159 k0_pay157; exact cut_at st 8 (by omega) slices_S128x128_o8_0_S8x24 s a b 104#32 (by rw [h1]; decide)
  · unfold k0_pay166 k0_pay164; exact cut_at st 8 (by omega) slices_S128x128_o8_0_S8x24 s a b 80#32 (by rw [show s.val = 2 by omega]; decide)
theorem statsOut2_apply (st : Vec Ideal S72x128 .f32) (s : Fin 3) (a : Fin 8) (b : Fin 24) :
    statsOut2 st (ix3 (n0 := 3) (n1 := 8) (n2 := 24) s a b) = laneAt st ⟨16 + a.val, by omega⟩ s b := by
  have e : statsOut2 st (ix3 (n0 := 3) (n1 := 8) (n2 := 24) s a b)
      = (if s.val = 0 then k0_pay154 st else if s.val = 1 then k0_pay161 (k0_pay157 st) else k0_pay167 (k0_pay150 st))
        (ix3 (n0 := 1) (n1 := 8) (n2 := 24) 0 a b) := rfl
  rw [e]
  split_ifs with h0 h1
  · unfold k0_pay154 k0_pay151; exact cut_at st 16 (by omega) slices_S128x128_o16_0_S8x24 s a b 0#32 (by rw [h0]; decide)
  · unfold k0_pay161 k0_pay157; exact cut_at st 16 (by omega) slices_S128x128_o16_0_S8x24 s a b 104#32 (by rw [h1]; decide)
  · unfold k0_pay167 k0_pay164; exact cut_at st 16 (by omega) slices_S128x128_o16_0_S8x24 s a b 80#32 (by rw [show s.val = 2 by omega]; decide)
theorem statsOut3_apply (st : Vec Ideal S72x128 .f32) (s : Fin 3) (a : Fin 8) (b : Fin 24) :
    statsOut3 st (ix3 (n0 := 3) (n1 := 8) (n2 := 24) s a b) = laneAt st ⟨24 + a.val, by omega⟩ s b := by
  have e : statsOut3 st (ix3 (n0 := 3) (n1 := 8) (n2 := 24) s a b)
      = (if s.val = 0 then k0_pay155 st else if s.val = 1 then k0_pay162 (k0_pay157 st) else k0_pay168 (k0_pay150 st))
        (ix3 (n0 := 1) (n1 := 8) (n2 := 24) 0 a b) := rfl
  rw [e]
  split_ifs with h0 h1
  · unfold k0_pay155 k0_pay151; exact cut_at st 24 (by omega) slices_S128x128_o24_0_S8x24 s a b 0#32 (by rw [h0]; decide)
  · unfold k0_pay162 k0_pay157; exact cut_at st 24 (by omega) slices_S128x128_o24_0_S8x24 s a b 104#32 (by rw [h1]; decide)
  · unfold k0_pay168 k0_pay164; exact cut_at st 24 (by omega) slices_S128x128_o24_0_S8x24 s a b 80#32 (by rw [show s.val = 2 by omega]; decide)
theorem scaleOut_apply (st : Vec Ideal S72x128 .f32) (s : Fin 3) (b : Fin 24) :
    scaleOut st (ix2 (n0 := 3) (n1 := 24) s b) = laneAt st 32 s b := by
  have e : scaleOut st (ix2 (n0 := 3) (n1 := 24) s b)
      = (if s.val = 0 then k0_pay156 st else if s.val = 1 then k0_pay163 (k0_pay157 st) else k0_pay169 (k0_pay150 st))
        (ix2 (n0 := 1) (n1 := 24) 0 b) := rfl
  rw [e]
  split_ifs with h0 h1
  · unfold k0_pay156 k0_pay151; exact cut_at1 st slices_S128x128_o32_0_S1x24 s b 0#32 (by rw [h0]; decide)
  · unfold k0_pay163 k0_pay157; exact cut_at1 st slices_S128x128_o32_0_S1x24 s b 104#32 (by rw [h1]; decide)
  · unfold k0_pay169 k0_pay164; exact cut_at1 st slices_S128x128_o32_0_S1x24 s b 80#32 (by rw [show s.val = 2 by omega]; decide)

end Cert.QkvIdeal.Hand

end
-- ==== Proof.Qkv.Results.lean ====
/- THE RESULTS OF THE CALL as functions of its arguments, over the extended reals: the rows normalised, one head of the projection,
    the queries laid out by sequence and group, and the scales and zero points laid out by position. -/
module

public import proofs.«01_k».proof.Proof.Qkv.Rows

@[expose] public section

noncomputable section

namespace Cert.QkvIdeal.Hand

open Cert.QkvIdeal Cert.QkvIdeal.Gen
open Idealize.ShloMosaic Idealize.ShloMosaic.TcCoe Idealize.ShloMosaic.Tactic
open Cert.OProjIdeal.Hand (maxE scaleE codeE clipE loE hiE)

/-- The rows: position by position, the sequences of each. -/
def rowsV (x : Vec Ideal S24x3x5120 .bf16) : Vec Ideal S72x5120 .bf16 :=
  shapeCast S72x5120 (transpose S3x24x5120 [1, 0, 2] x transposes_S24x3x5120_S3x24x5120_1_0_2) shapeCasts_S3x24x5120_S72x5120
/-- The cosines or sines by rows. -/
def anglesV (x : Vec Ideal S24x3x64 .f32) : Vec Ideal S72x64 .f32 :=
  shapeCast S72x64 (transpose S3x24x64 [1, 0, 2] x transposes_S24x3x64_S3x24x64_1_0_2) shapeCasts_S3x24x64_S72x64
/-- The normalised rows. -/
def normV (x0 : Vec Ideal S24x3x5120 .bf16) (x1 : Vec Ideal S5120 .f32) : Vec Ideal S72x5120 .f32 :=
  k0_pay9 (rowsV x0) (shapeCast S1x5120 x1 shapeCasts_S5120_S1x5120)
/-- One head of the projection. -/
def projV (x0 : Vec Ideal S24x3x5120 .bf16) (x1 : Vec Ideal S5120 .f32) (x2 : Vec Ideal S2560x7168 .i8) (x3 x4 : Vec Ideal S7168 .f32)
    (n : Fin 56) : Vec Ideal S72x128 .f32 :=
  headE (normV x0 x1) x2 (shapeCast S1x7168 x3 shapeCasts_S7168_S1x7168) (shapeCast S1x7168 x4 shapeCasts_S7168_S1x7168) n

theorem qHead_lt (n : ℕ) : qHead n < 40 := by unfold qHead; omega

/-- The queries: the rotated head of the row, and zero in every sixteenth row. -/
def queriesG (P : Fin 56 → Vec Ideal S72x128 .f32) (co si : Vec Ideal S72x64 .f32) : Vec Ideal S3072x128 .f32 := fun y =>
  if (y 0).val % 16 < 15 then
    ropeE (P ⟨qHead (y 0).val, by have := qHead_lt (y 0).val; omega⟩) co si
      (ix2 (n0 := 72) (n1 := 128) ⟨((y 0).val % 16 / 5 * 24 + (y 0).val / 128) % 72, Nat.mod_lt _ (by decide)⟩ (y 1))
  else FloatOps.ofBits (F := Ideal) .f32 0x00000000#32

/-- The rotated keys and the values. -/
def keyV (P : Fin 56 → Vec Ideal S72x128 .f32) (co si : Vec Ideal S72x64 .f32) (a : Fin 8) : Vec Ideal S72x128 .f32 :=
  ropeE (P ⟨40 + a.val, by omega⟩) co si
def valueV (P : Fin 56 → Vec Ideal S72x128 .f32) (a : Fin 8) : Vec Ideal S72x128 .f32 := P ⟨48 + a.val, by omega⟩

/-- The 4-bit scale of a row of a head. -/
def stepR (h : Vec Ideal S72x128 .f32) (p : Fin 72) : EReal := stepE (lowE h p) (highE h p)
/-- The 4-bit scales and zero points of eight heads, laid out by position. -/
def stepG (H : Fin 8 → Vec Ideal S72x128 .f32) : Vec Ideal S3x8x24 .f32 := fun j =>
  stepR (H (j 1)) ⟨(j 0).val * 24 + (j 2).val, by
    have h0 : (j 0).val < 3 := (j 0).isLt
    have h2 : (j 2).val < 24 := (j 2).isLt
    omega⟩
def lowG (H : Fin 8 → Vec Ideal S72x128 .f32) : Vec Ideal S3x8x24 .f32 := fun j =>
  lowE (H (j 1)) ⟨(j 0).val * 24 + (j 2).val, by
    have h0 : (j 0).val < 3 := (j 0).isLt
    have h2 : (j 2).val < 24 := (j 2).isLt
    omega⟩
/-- The scales of the rows, laid out by position. -/
def scaleG (a : Vec Ideal S72x5120 .f32) : Vec Ideal S3x24 .f32 := fun j =>
  scaleE a ⟨(j 0).val * 24 + (j 1).val, by
    have h0 : (j 0).val < 3 := (j 0).isLt
    have h1 : (j 1).val < 24 := (j 1).isLt
    omega⟩

end Cert.QkvIdeal.Hand

end
-- ==== Proof.Qkv.Arrays.lean ====
/- WHAT THE ARRAYS HOLD AFTER THE CALL, over the extended reals, as functions of the argument arrays: the codes and scales of the
    normalised rows, the rotated queries by sequence and group, and the 4-bit scale and zero point of every head of keys and values. -/
module

public import proofs.«01_k».proof.Proof.Qkv.Run
public import proofs.«01_k».proof.Proof.Qkv.Stats
public import proofs.«01_k».proof.Proof.Qkv.Results
public import Idealize.ShloMosaic.Lib.Pipeline.Value
public import Idealize.ShloMosaic.Lib.Pipeline.ValueKit

@[expose] public section

noncomputable section

namespace Cert.QkvIdeal.Hand

open Cert.QkvIdeal Cert.QkvIdeal.Gen
open Idealize.ShloMosaic Idealize.ShloMosaic.TcCoe Idealize.ShloMosaic.Tactic Idealize.SL.Sem
open Cert.OProjIdeal.Hand (maxE scaleE codeE clipE loE hiE)

variable (m : (ℓ : Loc nD τ sig) → Buf (Elt Ideal) ℓ) (ρ : Dev nD → PrngReg)

theorem idx_0 : ∀ t : Fin cfg0.N, win0_0.index t (0 : Fin 2) = 0 ∧ win0_0.index t (1 : Fin 2) = 0 := (by decide +kernel : ∀ t : Fin grid0.N, _)
theorem idx_1 : ∀ t : Fin cfg0.N, win0_1.index t (0 : Fin 2) = 0 ∧ win0_1.index t (1 : Fin 2) = 0 := (by decide +kernel : ∀ t : Fin grid0.N, _)
theorem idx_2 : ∀ t : Fin cfg0.N, win0_2.index t (0 : Fin 2) = 0 ∧ win0_2.index t (1 : Fin 2) = t.val := (by decide +kernel : ∀ t : Fin grid0.N, _)
theorem idx_3 : ∀ t : Fin cfg0.N, win0_3.index t (0 : Fin 2) = 0 ∧ win0_3.index t (1 : Fin 2) = t.val := (by decide +kernel : ∀ t : Fin grid0.N, _)
theorem idx_4 : ∀ t : Fin cfg0.N, win0_4.index t (0 : Fin 2) = 0 ∧ win0_4.index t (1 : Fin 2) = t.val := (by decide +kernel : ∀ t : Fin grid0.N, _)
theorem idx_5 : ∀ t : Fin cfg0.N, win0_5.index t (0 : Fin 2) = 0 ∧ win0_5.index t (1 : Fin 2) = 0 := (by decide +kernel : ∀ t : Fin grid0.N, _)
theorem idx_6 : ∀ t : Fin cfg0.N, win0_6.index t (0 : Fin 2) = 0 ∧ win0_6.index t (1 : Fin 2) = 0 := (by decide +kernel : ∀ t : Fin grid0.N, _)
theorem idx_7 : ∀ t : Fin cfg0.N, win0_7.index t (0 : Fin 2) = 0 ∧ win0_7.index t (1 : Fin 2) = 0 := (by decide +kernel : ∀ t : Fin grid0.N, _)
theorem idx_8 : ∀ t : Fin cfg0.N, win0_8.index t (0 : Fin 2) = 0 ∧ win0_8.index t (1 : Fin 2) = 0 := (by decide +kernel : ∀ t : Fin grid0.N, _)
theorem idx_9 : ∀ t : Fin cfg0.N, win0_9.index t (0 : Fin 2) = 0 ∧ win0_9.index t (1 : Fin 2) = 0 := (by decide +kernel : ∀ t : Fin grid0.N, _)
theorem idx_12 : ∀ t : Fin cfg0.N, win0_12.index t (0 : Fin 3) = 0 ∧ win0_12.index t (1 : Fin 3) = 0 ∧ win0_12.index t (2 : Fin 3) = 0 := (by decide +kernel : ∀ t : Fin grid0.N, _)
theorem idx_13 : ∀ t : Fin cfg0.N, win0_13.index t (0 : Fin 3) = 0 ∧ win0_13.index t (1 : Fin 3) = 0 ∧ win0_13.index t (2 : Fin 3) = 0 := (by decide +kernel : ∀ t : Fin grid0.N, _)
theorem idx_15 : ∀ t : Fin cfg0.N, win0_15.index t (0 : Fin 3) = 0 ∧ win0_15.index t (1 : Fin 3) = 0 ∧ win0_15.index t (2 : Fin 3) = 0 := (by decide +kernel : ∀ t : Fin grid0.N, _)
theorem idx_16 : ∀ t : Fin cfg0.N, win0_16.index t (0 : Fin 3) = 0 ∧ win0_16.index t (1 : Fin 3) = 0 ∧ win0_16.index t (2 : Fin 3) = 0 := (by decide +kernel : ∀ t : Fin grid0.N, _)

/-- A point's place in the list of column blocks. -/
def pt (t : Fin cfg0.N) : Fin 14 := ⟨t.val, Nat.lt_of_lt_of_eq t.isLt N_0⟩

/-! A window that is its whole array reads that array; a window of columns reads its block of columns. -/

theorem iblk_0 (c : Dev nD) (t : Fin cfg0.N) : iblk m c 0 t = V m c main_v1 := by
  obtain ⟨e0, e1⟩ := idx_0 t
  funext j; show V m c main_v1 (((cfg0.win 0).blk t).view.emb j) = V m c main_v1 j
  refine congrArg _ (funext fun a => Fin.ext ?_)
  match a with
  | ⟨0, _⟩ => show win0_0.index t (0 : Fin 2) * 72 + 1 * (j 0).val = (j 0).val; omega
  | ⟨1, _⟩ => show win0_0.index t (1 : Fin 2) * 5120 + 1 * (j 1).val = (j 1).val; omega

theorem iblk_1 (c : Dev nD) (t : Fin cfg0.N) : iblk m c 1 t = V m c main_v2 := by
  obtain ⟨e0, e1⟩ := idx_1 t
  funext j; show V m c main_v2 (((cfg0.win 1).blk t).view.emb j) = V m c main_v2 j
  refine congrArg _ (funext fun a => Fin.ext ?_)
  match a with
  | ⟨0, _⟩ => show win0_1.index t (0 : Fin 2) * 1 + 1 * (j 0).val = (j 0).val; omega
  | ⟨1, _⟩ => show win0_1.index t (1 : Fin 2) * 5120 + 1 * (j 1).val = (j 1).val; omega

theorem iblk_2 (c : Dev nD) (t : Fin cfg0.N) : iblk m c 2 t = blockOf 2560 (V m c main_arg2) (pt t) := by
  obtain ⟨e0, e1⟩ := idx_2 t
  funext j; show V m c main_arg2 (((cfg0.win 2).blk t).view.emb j) = _
  refine congrArg (V m c main_arg2) (funext fun a => Fin.ext ?_)
  match a with
  | ⟨0, _⟩ => show win0_2.index t (0 : Fin 2) * 2560 + 1 * (j 0).val = (j 0).val; omega
  | ⟨1, _⟩ => show win0_2.index t (1 : Fin 2) * 512 + 1 * (j 1).val = t.val * 512 + (j 1).val; omega

theorem iblk_3 (c : Dev nD) (t : Fin cfg0.N) : iblk m c 3 t = blockOf 1 (V m c main_v3) (pt t) := by
  obtain ⟨e0, e1⟩ := idx_3 t
  funext j; show V m c main_v3 (((cfg0.win 3).blk t).view.emb j) = _
  refine congrArg (V m c main_v3) (funext fun a => Fin.ext ?_)
  match a with
  | ⟨0, _⟩ => show win0_3.index t (0 : Fin 2) * 1 + 1 * (j 0).val = (j 0).val; omega
  | ⟨1, _⟩ => show win0_3.index t (1 : Fin 2) * 512 + 1 * (j 1).val = t.val * 512 + (j 1).val; omega

theorem iblk_4 (c : Dev nD) (t : Fin cfg0.N) : iblk m c 4 t = blockOf 1 (V m c main_v4) (pt t) := by
  obtain ⟨e0, e1⟩ := idx_4 t
  funext j; show V m c main_v4 (((cfg0.win 4).blk t).view.emb j) = _
  refine congrArg (V m c main_v4) (funext fun a => Fin.ext ?_)
  match a with
  | ⟨0, _⟩ => show win0_4.index t (0 : Fin 2) * 1 + 1 * (j 0).val = (j 0).val; omega
  | ⟨1, _⟩ => show win0_4.index t (1 : Fin 2) * 512 + 1 * (j 1).val = t.val * 512 + (j 1).val; omega

theorem iblk_5 (c : Dev nD) (t : Fin cfg0.N) : iblk m c 5 t = V m c main_v6 := by
  obtain ⟨e0, e1⟩ := idx_5 t
  funext j; show V m c main_v6 (((cfg0.win 5).blk t).view.emb j) = V m c main_v6 j
  refine congrArg _ (funext fun a => Fin.ext ?_)
  match a with
  | ⟨0, _⟩ => show win0_5.index t (0 : Fin 2) * 72 + 1 * (j 0).val = (j 0).val; omega
  | ⟨1, _⟩ => show win0_5.index t (1 : Fin 2) * 64 + 1 * (j 1).val = (j 1).val; omega

theorem iblk_6 (c : Dev nD) (t : Fin cfg0.N) : iblk m c 6 t = V m c main_v8 := by
  obtain ⟨e0, e1⟩ := idx_6 t
  funext j; show V m c main_v8 (((cfg0.win 6).blk t).view.emb j) = V m c main_v8 j
  refine congrArg _ (funext fun a => Fin.ext ?_)
  match a with
  | ⟨0, _⟩ => show win0_6.index t (0 : Fin 2) * 72 + 1 * (j 0).val = (j 0).val; omega
  | ⟨1, _⟩ => show win0_6.index t (1 : Fin 2) * 64 + 1 * (j 1).val = (j 1).val; omega

/-! What the host operations before the call leave: the rows, and the vectors as one row. -/

theorem V_v1 (c : Dev nD) : V m c main_v1 = rowsV (m ((c : Thread nD τ).loc main_arg0)) := by
  show StableHlo.after hostOps0 _ _ = _
  simp only [hostOps0]
  after_results_simp <;> rfl
theorem V_v2 (c : Dev nD) : V m c main_v2 = shapeCast S1x5120 (m ((c : Thread nD τ).loc main_arg1)) shapeCasts_S5120_S1x5120 := by
  show StableHlo.after hostOps0 _ _ = _
  simp only [hostOps0]
  after_results_simp <;> rfl
theorem V_v3 (c : Dev nD) : V m c main_v3 = shapeCast S1x7168 (m ((c : Thread nD τ).loc main_arg3)) shapeCasts_S7168_S1x7168 := by
  show StableHlo.after hostOps0 _ _ = _
  simp only [hostOps0]
  after_results_simp <;> rfl
theorem V_v4 (c : Dev nD) : V m c main_v4 = shapeCast S1x7168 (m ((c : Thread nD τ).loc main_arg4)) shapeCasts_S7168_S1x7168 := by
  show StableHlo.after hostOps0 _ _ = _
  simp only [hostOps0]
  after_results_simp <;> rfl
theorem V_v6 (c : Dev nD) : V m c main_v6 = anglesV (m ((c : Thread nD τ).loc main_arg5)) := by
  show StableHlo.after hostOps0 _ _ = _
  simp only [hostOps0]
  after_results_simp <;> rfl
theorem V_v8 (c : Dev nD) : V m c main_v8 = anglesV (m ((c : Thread nD τ).loc main_arg6)) := by
  show StableHlo.after hostOps0 _ _ = _
  simp only [hostOps0]
  after_results_simp <;> rfl

/-! The normalised rows, the heads, the cosines and the sines, from the arguments as launched. -/

def normG (c : Dev nD) : Vec Ideal S72x5120 .f32 := normV (m ((c : Thread nD τ).loc main_arg0)) (m ((c : Thread nD τ).loc main_arg1))
def projG (c : Dev nD) : Fin 56 → Vec Ideal S72x128 .f32 :=
  projV (m ((c : Thread nD τ).loc main_arg0)) (m ((c : Thread nD τ).loc main_arg1)) (m ((c : Thread nD τ).loc main_arg2))
    (m ((c : Thread nD τ).loc main_arg3)) (m ((c : Thread nD τ).loc main_arg4))
def coG (c : Dev nD) : Vec Ideal S72x64 .f32 := anglesV (m ((c : Thread nD τ).loc main_arg5))
def siG (c : Dev nD) : Vec Ideal S72x64 .f32 := anglesV (m ((c : Thread nD τ).loc main_arg6))

theorem head_at (c : Dev nD) (t : Fin cfg0.N) (e : Fin 4) (n : Fin 56) (hn : n.val = t.val * 4 + e.val) :
    headV (yC m c t) e = projG m c n := by
  unfold yC abC asumC ascC
  rw [iblk_0, iblk_1, iblk_2, iblk_3, iblk_4, headV_block, V_v1, V_v2, V_v3, V_v4, V_main_arg2]
  unfold projG projV normV
  exact congrArg _ (Fin.ext hn.symm)

theorem rope_at (c : Dev nD) (h : Vec Ideal S72x128 .f32) : ropeV h (ccC m c) (ssC m c) = ropeE h (coG m c) (siG m c) := by
  unfold ccC ssC
  rw [iblk_5, iblk_6, V_v6, V_v8, ropeV_eq]
  rfl

/-- The query array before point `n`. -/
theorem qAt_apply (c : Dev nD) : ∀ n : ℕ, n ≤ 10 → ∀ y : S3072x128.Idx, qAt m c n y
    = if (y 0).val % 16 < 15 ∧ qHead (y 0).val / 4 < n then queriesG (projG m c) (coG m c) (siG m c) y else k0_pay19 (F := Ideal) y
  | 0, _, y => by rw [if_neg (by omega)]; rfl
  | n + 1, hn, y => by
    have hN : n < cfg0.N := Nat.lt_of_lt_of_eq (show n < 14 by omega) N_0.symm
    have h := qAt_q m c ⟨n, hN⟩ (show n < 10 by omega)
    have hv : (grid0.coords (⟨n, hN⟩ : Fin grid0.N) 0).val = n := coords_val ⟨n, hN⟩
    rw [show qAt m c (n + 1) = _ from h.symm]
    unfold qStep
    rw [hv]
    by_cases hy : (y 0).val % 16 < 15
    · by_cases hq : qHead (y 0).val / 4 = n
      · rw [if_pos ⟨hy, hq⟩, if_pos ⟨hy, by omega⟩]
        unfold qNew queriesG
        rw [if_pos hy]
        dsimp only
        rw [rope_at, head_at m c ⟨n, hN⟩ _ ⟨qHead (y 0).val, by have := qHead_lt (y 0).val; omega⟩
          (show qHead (y 0).val = n * 4 + qHead (y 0).val % 4 by omega)]
      · rw [if_neg (fun h => hq h.2)]
        refine (qAt_apply c n (by omega) y).trans ?_
        by_cases hl : qHead (y 0).val / 4 < n
        · rw [if_pos ⟨hy, hl⟩, if_pos ⟨hy, by omega⟩]
        · rw [if_neg (fun h => hl h.2), if_neg (fun h => by omega)]
    · rw [if_neg (fun h => hy h.1), if_neg (fun h => hy h.1)]
      refine (qAt_apply c n (by omega) y).trans ?_
      rw [if_neg (fun h => hy h.1)]

theorem q_final (c : Dev nD) : qAt m c 14 = queriesG (projG m c) (coG m c) (siG m c) := by
  have k : ∀ n : ℕ, 10 ≤ n → n < 14 → qAt m c (n + 1) = qAt m c n := fun n h h' =>
    qAt_keep m c ⟨n, Nat.lt_of_lt_of_eq h' N_0.symm⟩ (Nat.not_lt.mpr h)
  rw [k 13 (by decide) (by decide), k 12 (by decide) (by decide), k 11 (by decide) (by decide), k 10 (by decide) (by decide)]
  funext y
  rw [qAt_apply m c 10 (le_refl _) y]
  have h40 := qHead_lt (y 0).val
  by_cases hy : (y 0).val % 16 < 15
  · rw [if_pos ⟨hy, by omega⟩]
  · rw [if_neg (fun h => hy h.1)]
    unfold queriesG
    rw [if_neg hy]
    rfl

/-! The statistics. -/

/-- The statistics after a point of values, at the rows and lanes. -/
theorem st_v (c : Dev nD) (n : ℕ) (h1 : 12 ≤ n) (h2 : n < 14) (p : Fin 72) (q : Fin 128) :
    stAt m c (n + 1) (ix2 (n0 := 72) (n1 := 128) p q)
      = if hd : 24 + 4 * (n - 12) ≤ q.val ∧ q.val < 24 + 4 * (n - 12) + 4 then lowE (projG m c ⟨48 + (q.val - 24), by omega⟩) p
        else if hc : 16 + 4 * (n - 12) ≤ q.val ∧ q.val < 16 + 4 * (n - 12) + 4 then stepR (projG m c ⟨48 + (q.val - 16), by omega⟩) p
        else stAt m c n (ix2 (n0 := 72) (n1 := 128) p q) := by
  have hN : n < cfg0.N := Nat.lt_of_lt_of_eq h2 N_0.symm
  have h := stAt_v m c ⟨n, hN⟩ h1
  have hv : (grid0.coords (⟨n, hN⟩ : Fin grid0.N) 0).val = n := coords_val ⟨n, hN⟩
  rw [show stAt m c (n + 1) = _ from h.symm, vStats_apply _ (by omega) (by omega)]
  by_cases hd : 24 + 4 * (n - 12) ≤ q.val ∧ q.val < 24 + 4 * (n - 12) + 4
  · rw [dif_pos (by omega), dif_pos hd, pay93_apply, head_at m c ⟨n, hN⟩ _ ⟨48 + (q.val - 24), by omega⟩ (by
      show 48 + (q.val - 24) = n * 4 + (q.val - (24 + 4 * ((grid0.coords (⟨n, hN⟩ : Fin grid0.N) 0).val - 12))); omega)]
    rfl
  · rw [dif_neg (by omega), dif_neg hd]
    by_cases hc : 16 + 4 * (n - 12) ≤ q.val ∧ q.val < 16 + 4 * (n - 12) + 4
    · rw [dif_pos (by omega), dif_pos hc, pay94_apply, head_at m c ⟨n, hN⟩ _ ⟨48 + (q.val - 16), by omega⟩ (by
        show 48 + (q.val - 16) = n * 4 + (q.val - (16 + 4 * ((grid0.coords (⟨n, hN⟩ : Fin grid0.N) 0).val - 12))); omega)]
      rfl
    · rw [dif_neg (by omega), dif_neg hc]

/-- The statistics after a point of keys. -/
theorem st_k (c : Dev nD) (n : ℕ) (h1 : 10 ≤ n) (h2 : n < 12) (p : Fin 72) (q : Fin 128) :
    stAt m c (n + 1) (ix2 (n0 := 72) (n1 := 128) p q)
      = if hd : 8 + 4 * (n - 10) ≤ q.val ∧ q.val < 8 + 4 * (n - 10) + 4 then
          lowE (ropeE (projG m c ⟨40 + (q.val - 8), by omega⟩) (coG m c) (siG m c)) p
        else if hc : 4 * (n - 10) ≤ q.val ∧ q.val < 4 * (n - 10) + 4 then
          stepR (ropeE (projG m c ⟨40 + q.val, by omega⟩) (coG m c) (siG m c)) p
        else stAt m c n (ix2 (n0 := 72) (n1 := 128) p q) := by
  have hN : n < cfg0.N := Nat.lt_of_lt_of_eq (show n < 14 by omega) N_0.symm
  have h := stAt_k m c ⟨n, hN⟩ ⟨h1, h2⟩
  have hv : (grid0.coords (⟨n, hN⟩ : Fin grid0.N) 0).val = n := coords_val ⟨n, hN⟩
  rw [show stAt m c (n + 1) = _ from h.symm, kStats_apply _ (by omega) (by omega)]
  by_cases hd : 8 + 4 * (n - 10) ≤ q.val ∧ q.val < 8 + 4 * (n - 10) + 4
  · rw [dif_pos (by omega), dif_pos hd, pay93_apply, rope_at, head_at m c ⟨n, hN⟩ _ ⟨40 + (q.val - 8), by omega⟩ (by
      show 40 + (q.val - 8) = n * 4 + (q.val - (8 + 4 * ((grid0.coords (⟨n, hN⟩ : Fin grid0.N) 0).val - 10))); omega)]
    rfl
  · rw [dif_neg (by omega), dif_neg hd]
    by_cases hc : 4 * (n - 10) ≤ q.val ∧ q.val < 4 * (n - 10) + 4
    · rw [dif_pos (by omega), dif_pos hc, pay94_apply, rope_at, head_at m c ⟨n, hN⟩ _ ⟨40 + q.val, by omega⟩ (by
        show 40 + q.val = n * 4 + (q.val - 4 * ((grid0.coords (⟨n, hN⟩ : Fin grid0.N) 0).val - 10)); omega)]
      rfl
    · rw [dif_neg (by omega), dif_neg hc]

/-- Below lane 16, and at lane 32, the points of values change nothing. -/
theorem st_before_v (c : Dev nD) (p : Fin 72) (q : Fin 128) (h : q.val < 16 ∨ q.val = 32) :
    stAt m c 14 (ix2 (n0 := 72) (n1 := 128) p q) = stAt m c 12 (ix2 (n0 := 72) (n1 := 128) p q) := by
  show stAt m c (13 + 1) _ = _
  rw [st_v m c 13 (by decide) (by decide), dif_neg (by omega), dif_neg (by omega)]
  show stAt m c (12 + 1) _ = _
  rw [st_v m c 12 (by decide) (by decide), dif_neg (by omega), dif_neg (by omega)]

theorem low_v (c : Dev nD) (p : Fin 72) (q : Fin 128) (a : Fin 8) (h : q.val = 24 + a.val) :
    stAt m c 14 (ix2 (n0 := 72) (n1 := 128) p q) = lowE (valueV (projG m c) a) p := by
  have e : (⟨48 + (q.val - 24), by omega⟩ : Fin 56) = ⟨48 + a.val, by omega⟩ := Fin.ext (by show 48 + (q.val - 24) = 48 + a.val; omega)
  unfold valueV
  rw [← e]
  show stAt m c (13 + 1) _ = _
  rw [st_v m c 13 (by decide) (by decide)]
  by_cases hd : 28 ≤ q.val
  · rw [dif_pos (by omega)]
  · rw [dif_neg (by omega), dif_neg (by omega)]
    show stAt m c (12 + 1) _ = _
    rw [st_v m c 12 (by decide) (by decide), dif_pos (by omega)]

theorem step_v (c : Dev nD) (p : Fin 72) (q : Fin 128) (a : Fin 8) (h : q.val = 16 + a.val) :
    stAt m c 14 (ix2 (n0 := 72) (n1 := 128) p q) = stepR (valueV (projG m c) a) p := by
  have e : (⟨48 + (q.val - 16), by omega⟩ : Fin 56) = ⟨48 + a.val, by omega⟩ := Fin.ext (by show 48 + (q.val - 16) = 48 + a.val; omega)
  unfold valueV
  rw [← e]
  show stAt m c (13 + 1) _ = _
  rw [st_v m c 13 (by decide) (by decide), dif_neg (by omega)]
  by_cases hd : 20 ≤ q.val
  · rw [dif_pos (by omega)]
  · rw [dif_neg (by omega)]
    show stAt m c (12 + 1) _ = _
    rw [st_v m c 12 (by decide) (by decide), dif_neg (by omega), dif_pos (by omega)]

theorem low_k (c : Dev nD) (p : Fin 72) (q : Fin 128) (a : Fin 8) (h : q.val = 8 + a.val) :
    stAt m c 14 (ix2 (n0 := 72) (n1 := 128) p q) = lowE (keyV (projG m c) (coG m c) (siG m c) a) p := by
  have e : (⟨40 + (q.val - 8), by omega⟩ : Fin 56) = ⟨40 + a.val, by omega⟩ := Fin.ext (by show 40 + (q.val - 8) = 40 + a.val; omega)
  unfold keyV
  rw [← e, st_before_v m c p q (by omega)]
  show stAt m c (11 + 1) _ = _
  rw [st_k m c 11 (by decide) (by decide)]
  by_cases hd : 12 ≤ q.val
  · rw [dif_pos (by omega)]
  · rw [dif_neg (by omega), dif_neg (by omega)]
    show stAt m c (10 + 1) _ = _
    rw [st_k m c 10 (by decide) (by decide), dif_pos (by omega)]

theorem step_k (c : Dev nD) (p : Fin 72) (q : Fin 128) (a : Fin 8) (h : q.val = a.val) :
    stAt m c 14 (ix2 (n0 := 72) (n1 := 128) p q) = stepR (keyV (projG m c) (coG m c) (siG m c) a) p := by
  have e : (⟨40 + q.val, by omega⟩ : Fin 56) = ⟨40 + a.val, by omega⟩ := Fin.ext (by show 40 + q.val = 40 + a.val; omega)
  unfold keyV
  rw [← e, st_before_v m c p q (by omega)]
  show stAt m c (11 + 1) _ = _
  rw [st_k m c 11 (by decide) (by decide), dif_neg (by omega)]
  by_cases hd : 4 ≤ q.val
  · rw [dif_pos (by omega)]
  · rw [dif_neg (by omega)]
    show stAt m c (10 + 1) _ = _
    rw [st_k m c 10 (by decide) (by decide), dif_neg (by omega), dif_pos (by omega)]

/-- The points of queries leave the statistics. -/
theorem st_q (c : Dev nD) : ∀ n : ℕ, n ≤ 10 → stAt m c n = stAt m c 0
  | 0, _ => rfl
  | n + 1, hn => (stAt_keep m c ⟨n, Nat.lt_of_lt_of_eq (show n < 14 by omega) N_0.symm⟩ (show n < 10 by omega)).trans (st_q c n (by omega))

theorem scale_at (c : Dev nD) (p : Fin 72) : stAt m c 14 (ix2 (n0 := 72) (n1 := 128) p 32) = scaleE (normG m c) p := by
  have h32 : ((32 : Fin 128) : Fin 128).val = 32 := rfl
  rw [st_before_v m c p 32 (.inr h32)]
  show stAt m c (11 + 1) _ = _
  rw [st_k m c 11 (by decide) (by decide), dif_neg (by omega), dif_neg (by omega)]
  show stAt m c (10 + 1) _ = _
  rw [st_k m c 10 (by decide) (by decide), dif_neg (by omega), dif_neg (by omega), st_q m c 10 (le_refl _)]
  show stat0V (iblk m c 0 tz) (iblk m c 1 tz) _ = _
  rw [stat0V_apply, iblk_0, iblk_1, V_v1, V_v2]
  rfl

/-! The statistics as they are written out. -/

theorem out_0 (c : Dev nD) : statsOut0 (stAt m c 14) = stepG (keyV (projG m c) (coG m c) (siG m c)) := by
  have h : ∀ (s : Fin 3) (a : Fin 8) (b : Fin 24), statsOut0 (stAt m c 14) (ix3 (n0 := 3) (n1 := 8) (n2 := 24) s a b)
      = stepG (keyV (projG m c) (coG m c) (siG m c)) (ix3 (n0 := 3) (n1 := 8) (n2 := 24) s a b) := fun s a b => by
    rw [statsOut0_apply]
    exact step_k m c _ _ a (show 0 + a.val = a.val by omega)
  funext j
  have ej : j = ix3 (n0 := 3) (n1 := 8) (n2 := 24) (j 0) (j 1) (j 2) := eq_ix3 j
  rw [ej]
  exact h (j 0) (j 1) (j 2)
theorem out_1 (c : Dev nD) : statsOut1 (stAt m c 14) = lowG (keyV (projG m c) (coG m c) (siG m c)) := by
  have h : ∀ (s : Fin 3) (a : Fin 8) (b : Fin 24), statsOut1 (stAt m c 14) (ix3 (n0 := 3) (n1 := 8) (n2 := 24) s a b)
      = lowG (keyV (projG m c) (coG m c) (siG m c)) (ix3 (n0 := 3) (n1 := 8) (n2 := 24) s a b) := fun s a b => by
    rw [statsOut1_apply]
    exact low_k m c _ _ a rfl
  funext j
  have ej : j = ix3 (n0 := 3) (n1 := 8) (n2 := 24) (j 0) (j 1) (j 2) := eq_ix3 j
  rw [ej]
  exact h (j 0) (j 1) (j 2)
theorem out_2 (c : Dev nD) : statsOut2 (stAt m c 14) = stepG (valueV (projG m c)) := by
  have h : ∀ (s : Fin 3) (a : Fin 8) (b : Fin 24), statsOut2 (stAt m c 14) (ix3 (n0 := 3) (n1 := 8) (n2 := 24) s a b)
      = stepG (valueV (projG m c)) (ix3 (n0 := 3) (n1 := 8) (n2 := 24) s a b) := fun s a b => by
    rw [statsOut2_apply]
    exact step_v m c _ _ a rfl
  funext j
  have ej : j = ix3 (n0 := 3) (n1 := 8) (n2 := 24) (j 0) (j 1) (j 2) := eq_ix3 j
  rw [ej]
  exact h (j 0) (j 1) (j 2)
theorem out_3 (c : Dev nD) : statsOut3 (stAt m c 14) = lowG (valueV (projG m c)) := by
  have h : ∀ (s : Fin 3) (a : Fin 8) (b : Fin 24), statsOut3 (stAt m c 14) (ix3 (n0 := 3) (n1 := 8) (n2 := 24) s a b)
      = lowG (valueV (projG m c)) (ix3 (n0 := 3) (n1 := 8) (n2 := 24) s a b) := fun s a b => by
    rw [statsOut3_apply]
    exact low_v m c _ _ a rfl
  funext j
  have ej : j = ix3 (n0 := 3) (n1 := 8) (n2 := 24) (j 0) (j 1) (j 2) := eq_ix3 j
  rw [ej]
  exact h (j 0) (j 1) (j 2)
theorem out_scale (c : Dev nD) : scaleOut (stAt m c 14) = scaleG (normG m c) := by
  have h : ∀ (s : Fin 3) (b : Fin 24), scaleOut (stAt m c 14) (ix2 (n0 := 3) (n1 := 24) s b)
      = scaleG (normG m c) (ix2 (n0 := 3) (n1 := 24) s b) := fun s b => by
    rw [scaleOut_apply]
    exact scale_at m c _
  funext j
  have ej : j = ix2 (n0 := 3) (n1 := 24) (j 0) (j 1) := eq_ix2 j
  rw [ej]
  exact h (j 0) (j 1)

/-- The codes. -/
def codesG (c : Dev nD) : Vec Ideal S72x5120 .i8 :=
  codesV (rowsV (m ((c : Thread nD τ).loc main_arg0))) (shapeCast S1x5120 (m ((c : Thread nD τ).loc main_arg1)) shapeCasts_S5120_S1x5120)

/-! The arrays after the call. -/

theorem last (t : Fin cfg0.N) (h : t.val = 13) : t.val + 1 = 14 := by omega
theorem flush_9 : ∀ t : Fin cfg0.N, (cfg0.win 9).flush t = true → t.val = 13 := (by decide +kernel : ∀ t : Fin grid0.N, _)

theorem final_7 (c : Dev nD) : (dats m 0 c).arrAt 7 cfg0.N = codesG m c := by
  refine (dats m 0 c).arrAt_eq_of_covers 7 _ (by decide +kernel) fun t hf y => ?_
  obtain ⟨e0, e1⟩ := idx_7 t
  show (dats m 0 c).after 7 t y = _
  rw [after_7, iblk_0, iblk_1, V_v1, V_v2]
  refine congrArg (codesG m c) (funext fun a => Fin.ext ?_)
  match a with
  | ⟨0, _⟩ => show (y 0).val = win0_7.index t (0 : Fin 2) * 72 + 1 * (y 0).val; omega
  | ⟨1, _⟩ => show (y 1).val = win0_7.index t (1 : Fin 2) * 5120 + 1 * (y 1).val; omega

theorem final_8 (c : Dev nD) : (dats m 0 c).arrAt 8 cfg0.N = scaleG (normG m c) := by
  refine (dats m 0 c).arrAt_eq_of_covers 8 _ (by decide +kernel) fun t hf y => ?_
  obtain ⟨e0, e1⟩ := idx_8 t
  show (dats m 0 c).after 8 t y = _
  rw [after_8, out_scale]
  refine congrArg (scaleG (normG m c)) (funext fun a => Fin.ext ?_)
  match a with
  | ⟨0, _⟩ => show (y 0).val = win0_8.index t (0 : Fin 2) * 3 + 1 * (y 0).val; omega
  | ⟨1, _⟩ => show (y 1).val = win0_8.index t (1 : Fin 2) * 24 + 1 * (y 1).val; omega

theorem final_9 (c : Dev nD) : (dats m 0 c).arrAt 9 cfg0.N = queriesG (projG m c) (coG m c) (siG m c) := by
  refine (dats m 0 c).arrAt_eq_of_covers 9 _ (by decide +kernel) fun t hf y => ?_
  obtain ⟨e0, e1⟩ := idx_9 t
  show (dats m 0 c).after 9 t y = _
  rw [after_9, last t (flush_9 t hf), q_final]
  refine congrArg (queriesG (projG m c) (coG m c) (siG m c)) (funext fun a => Fin.ext ?_)
  match a with
  | ⟨0, _⟩ => show (y 0).val = win0_9.index t (0 : Fin 2) * 3072 + 1 * (y 0).val; omega
  | ⟨1, _⟩ => show (y 1).val = win0_9.index t (1 : Fin 2) * 128 + 1 * (y 1).val; omega

theorem final_12 (c : Dev nD) : (dats m 0 c).arrAt 12 cfg0.N = stepG (keyV (projG m c) (coG m c) (siG m c)) := by
  refine (dats m 0 c).arrAt_eq_of_covers 12 _ (by decide +kernel) fun t hf y => ?_
  obtain ⟨e0, e1, e2⟩ := idx_12 t
  show (dats m 0 c).after 12 t y = _
  rw [after_12, out_0]
  refine congrArg (stepG (keyV (projG m c) (coG m c) (siG m c))) (funext fun a => Fin.ext ?_)
  match a with
  | ⟨0, _⟩ => show (y 0).val = win0_12.index t (0 : Fin 3) * 3 + 1 * (y 0).val; omega
  | ⟨1, _⟩ => show (y 1).val = win0_12.index t (1 : Fin 3) * 8 + 1 * (y 1).val; omega
  | ⟨2, _⟩ => show (y 2).val = win0_12.index t (2 : Fin 3) * 24 + 1 * (y 2).val; omega

theorem final_13 (c : Dev nD) : (dats m 0 c).arrAt 13 cfg0.N = lowG (keyV (projG m c) (coG m c) (siG m c)) := by
  refine (dats m 0 c).arrAt_eq_of_covers 13 _ (by decide +kernel) fun t hf y => ?_
  obtain ⟨e0, e1, e2⟩ := idx_13 t
  show (dats m 0 c).after 13 t y = _
  rw [after_13, out_1]
  refine congrArg (lowG (keyV (projG m c) (coG m c) (siG m c))) (funext fun a => Fin.ext ?_)
  match a with
  | ⟨0, _⟩ => show (y 0).val = win0_13.index t (0 : Fin 3) * 3 + 1 * (y 0).val; omega
  | ⟨1, _⟩ => show (y 1).val = win0_13.index t (1 : Fin 3) * 8 + 1 * (y 1).val; omega
  | ⟨2, _⟩ => show (y 2).val = win0_13.index t (2 : Fin 3) * 24 + 1 * (y 2).val; omega

theorem final_15 (c : Dev nD) : (dats m 0 c).arrAt 15 cfg0.N = stepG (valueV (projG m c)) := by
  refine (dats m 0 c).arrAt_eq_of_covers 15 _ (by decide +kernel) fun t hf y => ?_
  obtain ⟨e0, e1, e2⟩ := idx_15 t
  show (dats m 0 c).after 15 t y = _
  rw [after_15, out_2]
  refine congrArg (stepG (valueV (projG m c))) (funext fun a => Fin.ext ?_)
  match a with
  | ⟨0, _⟩ => show (y 0).val = win0_15.index t (0 : Fin 3) * 3 + 1 * (y 0).val; omega
  | ⟨1, _⟩ => show (y 1).val = win0_15.index t (1 : Fin 3) * 8 + 1 * (y 1).val; omega
  | ⟨2, _⟩ => show (y 2).val = win0_15.index t (2 : Fin 3) * 24 + 1 * (y 2).val; omega

theorem final_16 (c : Dev nD) : (dats m 0 c).arrAt 16 cfg0.N = lowG (valueV (projG m c)) := by
  refine (dats m 0 c).arrAt_eq_of_covers 16 _ (by decide +kernel) fun t hf y => ?_
  obtain ⟨e0, e1, e2⟩ := idx_16 t
  show (dats m 0 c).after 16 t y = _
  rw [after_16, out_3]
  refine congrArg (lowG (valueV (projG m c))) (funext fun a => Fin.ext ?_)
  match a with
  | ⟨0, _⟩ => show (y 0).val = win0_16.index t (0 : Fin 3) * 3 + 1 * (y 0).val; omega
  | ⟨1, _⟩ => show (y 1).val = win0_16.index t (1 : Fin 3) * 8 + 1 * (y 1).val; omega
  | ⟨2, _⟩ => show (y 2).val = win0_16.index t (2 : Fin 3) * 24 + 1 * (y 2).val; omega

/-- Every execution terminates with the seven results as these functions of the arguments, and the arguments unchanged. -/
theorem run : θ_run defs (onTc (τ := τ) (main (F := Ideal))) ⟨m, fun _ => 0, ρ⟩ (fun r => ∀ c : Dev nD,
      r.2.mem ((c.tc : Thread nD τ).loc main_v9_0) = codesG m c
      ∧ r.2.mem ((c.tc : Thread nD τ).loc main_v9_1) = scaleG (normG m c)
      ∧ r.2.mem ((c.tc : Thread nD τ).loc main_v9_2) = queriesG (projG m c) (coG m c) (siG m c)
      ∧ r.2.mem ((c.tc : Thread nD τ).loc main_v9_5) = stepG (keyV (projG m c) (coG m c) (siG m c))
      ∧ r.2.mem ((c.tc : Thread nD τ).loc main_v9_6) = lowG (keyV (projG m c) (coG m c) (siG m c))
      ∧ r.2.mem ((c.tc : Thread nD τ).loc main_v9_8) = stepG (valueV (projG m c))
      ∧ r.2.mem ((c.tc : Thread nD τ).loc main_v9_9) = lowG (valueV (projG m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(arr_of m r h.1.1 c 7 rfl).trans (final_7 m c), (arr_of m r h.1.1 c 8 rfl).trans (final_8 m c),
    (arr_of m r h.1.1 c 9 rfl).trans (final_9 m c), (arr_of m r h.1.1 c 12 rfl).trans (final_12 m c),
    (arr_of m r h.1.1 c 13 rfl).trans (final_13 m c), (arr_of m r h.1.1 c 15 rfl).trans (final_15 m c),
    (arr_of m r h.1.1 c 16 rfl).trans (final_16 m c), h.2.1 c⟩)
    (θ_run_and (run_main_quiescent m ρ) (frame m ρ))

end Cert.QkvIdeal.Hand

end
-- ==== Proof.Qkv.RefNorm.lean ====
/- THE NORMALISED ROWS OF THE REFERENCE are the call's, and so are their scales and codes. -/
module

public import proofs.«01_k».proof.Proof.Qkv.Results
public import proofs.«01_k».proof.Proof.Gen.QkvRefIdeal.Read

@[expose] public section

noncomputable section

namespace Cert.QkvIdeal.Hand

open Cert.QkvIdeal Cert.QkvIdeal.Gen
open Idealize.ShloMosaic Idealize.ShloMosaic.TcCoe Idealize.ShloMosaic.Tactic
open Cert.OProjIdeal.Hand (maxE scaleE codeE clipE loE hiE code_trunc code_back low_nibble)
open Cert.QkvRefIdeal.Read

/-- One element of the normalised rows. -/
def normE (x : Vec Ideal S72x5120 .bf16) (g : EReal) (p : Fin 72) (k : Fin 5120) : EReal :=
  x (ix2 (n0 := 72) (n1 := 5120) p k)
      * Ideal.rsqrt (Ideal.div (∑ l : Fin 5120, x (ix2 (n0 := 72) (n1 := 5120) p l) * x (ix2 (n0 := 72) (n1 := 5120) p l))
          (FloatOps.ofBits (F := Ideal) .f32 0x45A00000#32) + FloatOps.ofBits (F := Ideal) .f32 0x3727C5AC#32)
    * g

/-- The call's normalised rows. -/
theorem pay9_apply (x : Vec Ideal S72x5120 .bf16) (g : Vec Ideal S1x5120 .f32) (p : Fin 72) (k : Fin 5120) :
    k0_pay9 x g (ix2 (n0 := 72) (n1 := 5120) p k) = normE x (g (ix2 (n0 := 1) (n1 := 5120) 0 k)) p k := by
  unfold k0_pay9
  pointwise
  rfl

/-- A vector seen as one row. -/
theorem row_5120 (v : Vec Ideal S5120 .f32) (q : Fin 5120) :
    shapeCast S1x5120 v shapeCasts_S5120_S1x5120 (ix2 (n0 := 1) (n1 := 5120) 0 q) = v (ix1 (n0 := 5120) q) := by
  refine shapeCast_apply v shapeCasts_S5120_S1x5120 _ (ix1 (n0 := 5120) q) ?_
  rw [Shape.rowMajor_val_two, Shape.rowMajor_val_one]
  show q.val = 0 * 5120 + q.val
  omega
theorem row_7168 (v : Vec Ideal S7168 .f32) (q : Fin 7168) :
    shapeCast S1x7168 v shapeCasts_S7168_S1x7168 (ix2 (n0 := 1) (n1 := 7168) 0 q) = v (ix1 (n0 := 7168) q) := by
  refine shapeCast_apply v shapeCasts_S7168_S1x7168 _ (ix1 (n0 := 7168) q) ?_
  rw [Shape.rowMajor_val_two, Shape.rowMajor_val_one]
  show q.val = 0 * 7168 + q.val
  omega

/-- The reference's rows, cosines and sines are the call's. -/
theorem ref_rows (x0 : Vec Ideal S24x3x5120 .bf16) : val_main_v2 (F := Ideal) x0 = rowsV x0 := rfl
theorem ref_cos (x5 : Vec Ideal S24x3x64 .f32) : val_main_v4 (F := Ideal) x5 = anglesV x5 := rfl
theorem ref_sin (x6 : Vec Ideal S24x3x64 .f32) : val_main_v6 (F := Ideal) x6 = anglesV x6 := rfl

theorem ref_norm_apply (x0 : Vec Ideal S24x3x5120 .bf16) (x1 : Vec Ideal S5120 .f32) (p : Fin 72) (k : Fin 5120) :
    val_main_v19 (F := Ideal) x0 x1 (ix2 (n0 := 72) (n1 := 5120) p k) = normE (rowsV x0) (x1 (ix1 (n0 := 5120) k)) p k := by
  have z : FloatOps.ofBits (F := Ideal) .f32 0x00000000#32 = (0 : EReal) := by simp [Ideal.ofBits, Ideal.ieee]
  have e1 : x1 (idx_main_v17 (idx_main_v18 (ix2 (n0 := 72) (n1 := 5120) p k))) = x1 (ix1 (n0 := 5120) k) :=
    congrArg x1 (funext fun a => match a with | ⟨0, _⟩ => rfl)
  have e : ∀ l : Fin 5120, idx_main_v8 (idx_main_v9 (idx_main_v15 (ix2 (n0 := 72) (n1 := 5120) p k))) l = ix2 (n0 := 72) (n1 := 5120) p l :=
    fun l => funext fun a => match a with
      | ⟨0, _⟩ => rfl
      | ⟨1, _⟩ => rfl
  rw [val_main_v19_apply, val_main_v16_apply, val_main_v15_apply, val_main_v14_apply, val_main_v13_apply, val_main_v11_apply,
    val_main_v9_apply, val_main_v8_apply, val_main_v10_apply, val_main_v12_apply, val_main_v18_apply, val_main_v17_apply,
    val_main_cst_apply, z, zero_add, e1]
  simp only [val_main_v7_apply, ref_rows, e]
  rfl

/-- The reference's normalised rows are the call's. -/
theorem ref_norm (x0 : Vec Ideal S24x3x5120 .bf16) (x1 : Vec Ideal S5120 .f32) : val_main_v19 (F := Ideal) x0 x1 = normV x0 x1 := by
  have h : ∀ (p : Fin 72) (k : Fin 5120), val_main_v19 (F := Ideal) x0 x1 (ix2 (n0 := 72) (n1 := 5120) p k)
      = normV x0 x1 (ix2 (n0 := 72) (n1 := 5120) p k) := fun p k => by
    unfold normV
    rw [pay9_apply, row_5120]
    exact ref_norm_apply x0 x1 p k
  funext j
  have ej : j = ix2 (n0 := 72) (n1 := 5120) (j 0) (j 1) := eq_ix2 j
  rw [ej]
  exact h (j 0) (j 1)

variable (x0 : Vec Ideal S24x3x5120 .bf16) (x1 : Vec Ideal S5120 .f32)

/-- The reference's largest magnitude of a row. -/
theorem ref_max (i : Cert.QkvRefIdeal.S72.Idx) : val_main_v21 (F := Ideal) x0 x1 i = maxE (normV x0 x1) (i 0) := by
  unfold val_main_v21 maxE
  rw [Host.reduce_eq_fold_single (FloatOps.maximumf (F := Ideal) (φ := .f32)) _ _ _ reduces_S72x5120_S72]
  refine congrArg₂ (fun z f => (Finset.univ : Finset (Fin 5120)).fold max z f) rfl (funext fun k => ?_)
  have e : reduces_S72x5120_S72.lift i k = ix2 (n0 := 72) (n1 := 5120) (i 0) k := by
    funext a
    apply Fin.ext
    match a with
    | ⟨0, _⟩ => rfl
    | ⟨1, _⟩ => rfl
  show val_main_v20 (F := Ideal) x0 x1 (reduces_S72x5120_S72.lift i k) = _
  rw [e, val_main_v20_apply, ref_norm]
  rfl

/-- The reference's scale of a row. -/
theorem ref_scale (i : Cert.QkvRefIdeal.S72.Idx) : val_main_v26 (F := Ideal) x0 x1 i = scaleE (normV x0 x1) (i 0) := by
  rw [val_main_v26_apply, val_main_v23_apply, val_main_v25_apply, ref_max, val_main_v22_apply, val_main_v24_apply]
  rfl

/-- The reference's clipped rounded quotients. -/
theorem ref_quot (j : Cert.QkvRefIdeal.S72x5120.Idx) :
    val_main_v31 (F := Ideal) x0 x1 j = codeE (normV x0 x1) (j 0) (j 1) := by
  have ej : j = ix2 (n0 := 72) (n1 := 5120) (j 0) (j 1) := eq_ix2 j
  have e1 : (FloatOps.sitofp (F := Ideal) .f32 127#32 : EReal) = ((127 : ℝ) : EReal) := by
    show (((127#32).toInt : ℝ) : EReal) = ((127 : ℝ) : EReal)
    rw [show (127#32).toInt = 127 by decide]; norm_num
  have e2 : (FloatOps.sitofp (F := Ideal) .f32 4294967169#32 : EReal) = ((-127 : ℝ) : EReal) := by
    show (((4294967169#32).toInt : ℝ) : EReal) = ((-127 : ℝ) : EReal)
    rw [show (4294967169#32).toInt = -127 by decide]; norm_num
  rw [val_main_v31_apply, val_main_call2_v4_apply, val_main_call2_v3_apply, val_main_call2_v2_apply, val_main_call2_v1_apply,
    val_main_call2_v0_apply, val_main_v30_apply, val_main_v29_apply, val_main_v28_apply, val_main_v27_apply, ref_scale, ref_norm,
    val_main_c_apply, val_main_c_6_apply]
  simp only [Ideal.minimumf_def, Ideal.maximumf_def, Ideal.hostUnary_roundeven_def, Ideal.hostDivf_def]
  rw [e1, e2]
  exact congrArg (fun y => clipE (Ideal.div (normV x0 x1 y) (scaleE (normV x0 x1) (j 0)))) ej

/-- The reference's int8 codes. -/
theorem ref_int8 (j : Cert.QkvRefIdeal.S72x5120.Idx) :
    val_main_v33 (F := Ideal) x0 x1 j = Ideal.fptosi 8 (codeE (normV x0 x1) (j 0) (j 1)) := by
  rw [val_main_v33_apply, val_main_v32_apply, ref_quot]
  exact code_trunc _

/-- The reference's int8 codes are the call's. -/
theorem ref_codes : val_main_v33 (F := Ideal) x0 x1
    = codesV (rowsV x0) (shapeCast S1x5120 x1 shapeCasts_S5120_S1x5120) := by
  funext j
  rw [ref_int8]
  unfold normV
  rw [← pay11_apply]
  rfl

/-- The reference's codes read back from int8 for the product. -/
theorem ref_code_product (j : Cert.QkvRefIdeal.S72x5120.Idx) :
    val_main_v42 (F := Ideal) x0 x1 j = codeE (normV x0 x1) (j 0) (j 1) := by
  rw [val_main_v42_apply, val_main_v41_apply, ref_int8]
  exact code_back _

/-- The reference's codes read back from int8 for the row sums. -/
theorem ref_code_sum (j : Cert.QkvRefIdeal.S72x5120.Idx) :
    val_main_v48 (F := Ideal) x0 x1 j = codeE (normV x0 x1) (j 0) (j 1) := by
  rw [val_main_v48_apply, val_main_v41_apply, ref_int8]
  exact code_back _

/-- The reference's low halves. -/
theorem ref_lo (x2 : Vec Ideal S2560x7168 .i8) (i : Cert.QkvRefIdeal.S2560x7168.Idx) :
    val_main_v37 (F := Ideal) x2 i = loE (x2 i) := by
  rw [val_main_v37_apply, val_main_v36_apply, val_main_v34_apply, val_main_v35_apply, val_main_c_7_apply]
  show (((((x2 i).setWidth 32) &&& 15#32).toInt : ℝ) : EReal) = _
  rw [← low_nibble]
  unfold loE
  norm_num

/-- The reference's high halves. -/
theorem ref_hi (x2 : Vec Ideal S2560x7168 .i8) (i : Cert.QkvRefIdeal.S2560x7168.Idx) :
    val_main_v40 (F := Ideal) x2 i = hiE (x2 i) := by
  rw [val_main_v40_apply, val_main_v39_apply, val_main_v34_apply, val_main_v38_apply, val_main_c_8_apply]
  rfl

/-- The reference's product. -/
theorem ref_product (x2 : Vec Ideal S2560x7168 .i8) (x3 x4 : Vec Ideal S7168 .f32) (p : Fin 72) (q : Fin 7168) :
    val_main_v61 (F := Ideal) x0 x1 x2 x3 x4 (ix2 (n0 := 72) (n1 := 7168) p q)
      = colE (normV x0 x1) x2 (x3 (ix1 (n0 := 7168) q)) (x4 (ix1 (n0 := 7168) q)) p q := by
  have z : FloatOps.ofBits (F := Ideal) .f32 0x00000000#32 = (0 : EReal) := by simp [Ideal.ofBits, Ideal.ieee]
  have r : ∀ (i : Cert.QkvRefIdeal.S72x7168.Idx) (k : Fin 2560),
      ridx_main_v44 i k = ix2 (n0 := 2560) (n1 := 7168) k (i 1) := fun i k => funext fun a => match a with
    | ⟨0, _⟩ => rfl
    | ⟨1, _⟩ => rfl
  have r' : ∀ (i : Cert.QkvRefIdeal.S72x7168.Idx) (k : Fin 2560),
      ridx_main_v46 i k = ix2 (n0 := 2560) (n1 := 7168) k (i 1) := fun i k => funext fun a => match a with
    | ⟨0, _⟩ => rfl
    | ⟨1, _⟩ => rfl
  have e3 : ∀ i : Cert.QkvRefIdeal.S72x7168.Idx, val_main_v60 (F := Ideal) x3 i = x3 (ix1 (n0 := 7168) (i 1)) := fun i => by
    rw [val_main_v60_apply, val_main_v59_apply]
    exact congrArg x3 (funext fun a => match a with | ⟨0, _⟩ => rfl)
  have e4 : ∀ i : Cert.QkvRefIdeal.S72x7168.Idx, val_main_v52 (F := Ideal) x4 i = x4 (ix1 (n0 := 7168) (i 1)) := fun i => by
    rw [val_main_v52_apply, val_main_v51_apply]
    exact congrArg x4 (funext fun a => match a with | ⟨0, _⟩ => rfl)
  rw [val_main_v61_apply, val_main_v58_apply, val_main_v55_apply, val_main_v54_apply, val_main_v47_apply, val_main_v44_apply,
    val_main_v46_apply, val_main_v57_apply, val_main_v56_apply, val_main_v53_apply, val_main_v50_apply, val_main_v49_apply,
    val_main_cst_9_apply, z, zero_add, ref_scale, e3, e4]
  simp only [val_main_v43_apply, val_main_v45_apply, ref_code_product, ref_code_sum, ref_lo, ref_hi, r, r']
  rfl

/-- The scales, laid out by position. -/
theorem ref_scales : val_main_v122 (F := Ideal) x0 x1 = scaleG (normV x0 x1) := by
  funext j
  rw [val_main_v122_apply, ref_scale]
  rfl

end Cert.QkvIdeal.Hand

end
-- ==== Proof.Qkv.RefHeads.lean ====
/- THE HEADS OF THE REFERENCE, rotated and not, are those of the call. -/
module

public import proofs.«01_k».proof.Proof.Qkv.RefNorm

@[expose] public section

noncomputable section

namespace Cert.QkvIdeal.Hand

open Cert.QkvIdeal Cert.QkvIdeal.Gen
open Idealize.ShloMosaic Idealize.ShloMosaic.TcCoe Idealize.ShloMosaic.Tactic
open Cert.QkvRefIdeal.Read

variable (x0 : Vec Ideal S24x3x5120 .bf16) (x1 : Vec Ideal S5120 .f32) (x2 : Vec Ideal S2560x7168 .i8) (x3 x4 : Vec Ideal S7168 .f32)
  (x5 x6 : Vec Ideal S24x3x64 .f32)

/-- A column of the reference's product is a column of a head. -/
theorem ref_column (p : Fin 72) (n : Fin 56) (k : Fin 128) :
    val_main_v61 (F := Ideal) x0 x1 x2 x3 x4 (ix2 (n0 := 72) (n1 := 7168) p ⟨n.val * 128 + k.val, by omega⟩)
      = projV x0 x1 x2 x3 x4 n (ix2 (n0 := 72) (n1 := 128) p k) := by
  rw [ref_product]
  unfold projV headE
  rw [row_7168, row_7168]
  rfl

/-- The query heads. -/
theorem ref_q_head (i : Cert.QkvRefIdeal.S72x40x128.Idx) (n : Fin 56) (hn : n.val = (i 1).val) :
    val_main_v63 (F := Ideal) x0 x1 x2 x3 x4 i = projV x0 x1 x2 x3 x4 n (ix2 (n0 := 72) (n1 := 128) (i 0) (i 2)) := by
  have h0 : (i 0).val < 72 := (i 0).isLt
  have h1 : (i 1).val < 40 := (i 1).isLt
  have h2 : (i 2).val < 128 := (i 2).isLt
  have e : idx_main_v62 (idx_main_v63 i) = ix2 (n0 := 72) (n1 := 7168) (i 0) ⟨n.val * 128 + (i 2).val, by omega⟩ :=
    funext fun a => match a with
      | ⟨0, _⟩ => Fin.ext (by show (((i 0).val * 40 + (i 1).val) * 128 + (i 2).val) / 5120 = (i 0).val; omega)
      | ⟨1, _⟩ => Fin.ext (by show (((i 0).val * 40 + (i 1).val) * 128 + (i 2).val) % 5120 = n.val * 128 + (i 2).val; omega)
  rw [val_main_v63_apply, val_main_v62_apply, e]
  exact ref_column x0 x1 x2 x3 x4 (i 0) n (i 2)

/-- The key heads. -/
theorem ref_k_head (i : Cert.QkvRefIdeal.S72x8x128.Idx) (n : Fin 56) (hn : n.val = 40 + (i 1).val) :
    val_main_v82 (F := Ideal) x0 x1 x2 x3 x4 i = projV x0 x1 x2 x3 x4 n (ix2 (n0 := 72) (n1 := 128) (i 0) (i 2)) := by
  have h0 : (i 0).val < 72 := (i 0).isLt
  have h1 : (i 1).val < 8 := (i 1).isLt
  have h2 : (i 2).val < 128 := (i 2).isLt
  have e : idx_main_v81 (idx_main_v82 i) = ix2 (n0 := 72) (n1 := 7168) (i 0) ⟨n.val * 128 + (i 2).val, by omega⟩ :=
    funext fun a => match a with
      | ⟨0, _⟩ => Fin.ext (by show (((i 0).val * 8 + (i 1).val) * 128 + (i 2).val) / 1024 = (i 0).val; omega)
      | ⟨1, _⟩ => Fin.ext (by show 5120 + (((i 0).val * 8 + (i 1).val) * 128 + (i 2).val) % 1024 = n.val * 128 + (i 2).val; omega)
  rw [val_main_v82_apply, val_main_v81_apply, e]
  exact ref_column x0 x1 x2 x3 x4 (i 0) n (i 2)

/-- The value heads. -/
theorem ref_v_head (i : Cert.QkvRefIdeal.S72x8x128.Idx) (n : Fin 56) (hn : n.val = 48 + (i 1).val) :
    val_main_v101 (F := Ideal) x0 x1 x2 x3 x4 i = projV x0 x1 x2 x3 x4 n (ix2 (n0 := 72) (n1 := 128) (i 0) (i 2)) := by
  have h0 : (i 0).val < 72 := (i 0).isLt
  have h1 : (i 1).val < 8 := (i 1).isLt
  have h2 : (i 2).val < 128 := (i 2).isLt
  have e : idx_main_v100 (idx_main_v101 i) = ix2 (n0 := 72) (n1 := 7168) (i 0) ⟨n.val * 128 + (i 2).val, by omega⟩ :=
    funext fun a => match a with
      | ⟨0, _⟩ => Fin.ext (by show (((i 0).val * 8 + (i 1).val) * 128 + (i 2).val) / 1024 = (i 0).val; omega)
      | ⟨1, _⟩ => Fin.ext (by show 6144 + (((i 0).val * 8 + (i 1).val) * 128 + (i 2).val) % 1024 = n.val * 128 + (i 2).val; omega)
  rw [val_main_v101_apply, val_main_v100_apply, e]
  exact ref_column x0 x1 x2 x3 x4 (i 0) n (i 2)

/-- The cosines and sines over the heads. -/
theorem ref_angle67 (i : Cert.QkvRefIdeal.S72x40x64.Idx) : val_main_v67 (F := Ideal) x5 i = anglesV x5 (ix2 (n0 := 72) (n1 := 64) (i 0) (i 2)) := by
  rw [val_main_v67_apply, val_main_v66_apply, ref_cos]
  exact congrArg (anglesV x5) (funext fun a => match a with
    | ⟨0, _⟩ => rfl
    | ⟨1, _⟩ => rfl)
theorem ref_angle70 (i : Cert.QkvRefIdeal.S72x40x64.Idx) : val_main_v70 (F := Ideal) x6 i = anglesV x6 (ix2 (n0 := 72) (n1 := 64) (i 0) (i 2)) := by
  rw [val_main_v70_apply, val_main_v69_apply, ref_sin]
  exact congrArg (anglesV x6) (funext fun a => match a with
    | ⟨0, _⟩ => rfl
    | ⟨1, _⟩ => rfl)
theorem ref_angle74 (i : Cert.QkvRefIdeal.S72x40x64.Idx) : val_main_v74 (F := Ideal) x5 i = anglesV x5 (ix2 (n0 := 72) (n1 := 64) (i 0) (i 2)) := by
  rw [val_main_v74_apply, val_main_v73_apply, ref_cos]
  exact congrArg (anglesV x5) (funext fun a => match a with
    | ⟨0, _⟩ => rfl
    | ⟨1, _⟩ => rfl)
theorem ref_angle77 (i : Cert.QkvRefIdeal.S72x40x64.Idx) : val_main_v77 (F := Ideal) x6 i = anglesV x6 (ix2 (n0 := 72) (n1 := 64) (i 0) (i 2)) := by
  rw [val_main_v77_apply, val_main_v76_apply, ref_sin]
  exact congrArg (anglesV x6) (funext fun a => match a with
    | ⟨0, _⟩ => rfl
    | ⟨1, _⟩ => rfl)
theorem ref_angle86 (i : Cert.QkvRefIdeal.S72x8x64.Idx) : val_main_v86 (F := Ideal) x5 i = anglesV x5 (ix2 (n0 := 72) (n1 := 64) (i 0) (i 2)) := by
  rw [val_main_v86_apply, val_main_v85_apply, ref_cos]
  exact congrArg (anglesV x5) (funext fun a => match a with
    | ⟨0, _⟩ => rfl
    | ⟨1, _⟩ => rfl)
theorem ref_angle89 (i : Cert.QkvRefIdeal.S72x8x64.Idx) : val_main_v89 (F := Ideal) x6 i = anglesV x6 (ix2 (n0 := 72) (n1 := 64) (i 0) (i 2)) := by
  rw [val_main_v89_apply, val_main_v88_apply, ref_sin]
  exact congrArg (anglesV x6) (funext fun a => match a with
    | ⟨0, _⟩ => rfl
    | ⟨1, _⟩ => rfl)
theorem ref_angle93 (i : Cert.QkvRefIdeal.S72x8x64.Idx) : val_main_v93 (F := Ideal) x5 i = anglesV x5 (ix2 (n0 := 72) (n1 := 64) (i 0) (i 2)) := by
  rw [val_main_v93_apply, val_main_v92_apply, ref_cos]
  exact congrArg (anglesV x5) (funext fun a => match a with
    | ⟨0, _⟩ => rfl
    | ⟨1, _⟩ => rfl)
theorem ref_angle96 (i : Cert.QkvRefIdeal.S72x8x64.Idx) : val_main_v96 (F := Ideal) x6 i = anglesV x6 (ix2 (n0 := 72) (n1 := 64) (i 0) (i 2)) := by
  rw [val_main_v96_apply, val_main_v95_apply, ref_sin]
  exact congrArg (anglesV x6) (funext fun a => match a with
    | ⟨0, _⟩ => rfl
    | ⟨1, _⟩ => rfl)

/-- The rotated query heads. -/
theorem ref_q (p : Fin 72) (t : Fin 40) (k : Fin 128) (n : Fin 56) (hn : n.val = t.val) :
    val_main_v80 (F := Ideal) x0 x1 x2 x3 x4 x5 x6 (ix3 (n0 := 72) (n1 := 40) (n2 := 128) p t k)
      = ropeE (projV x0 x1 x2 x3 x4 n) (anglesV x5) (anglesV x6) (ix2 (n0 := 72) (n1 := 128) p k) := by
  have hlo : ∀ i : Cert.QkvRefIdeal.S72x40x64.Idx, (i 1) = t → val_main_v64 (F := Ideal) x0 x1 x2 x3 x4 i
      = projV x0 x1 x2 x3 x4 n (ix2 (n0 := 72) (n1 := 128) (i 0) ⟨(i 2).val, lt_trans (i 2).isLt (by decide)⟩) := fun i hi => by
    rw [val_main_v64_apply]
    exact ref_q_head x0 x1 x2 x3 x4 (idx_main_v64 i) n (hn.trans (by rw [← hi]))
  have hhi : ∀ i : Cert.QkvRefIdeal.S72x40x64.Idx, (i 1) = t → val_main_v65 (F := Ideal) x0 x1 x2 x3 x4 i
      = projV x0 x1 x2 x3 x4 n (ix2 (n0 := 72) (n1 := 128) (i 0) ⟨(i 2).val + 64, Nat.add_lt_add_right (i 2).isLt 64⟩) := fun i hi => by
    rw [val_main_v65_apply]
    refine (ref_q_head x0 x1 x2 x3 x4 (idx_main_v65 i) n (hn.trans (by rw [← hi]))).trans ?_
    exact congrArg (fun q => projV x0 x1 x2 x3 x4 n (ix2 (n0 := 72) (n1 := 128) (i 0) q)) (Fin.ext (Nat.add_comm 64 (i 2).val))
  unfold val_main_v80 ropeE
  by_cases hq : k.val < 64
  · rw [dif_pos (show ((ix2 (n0 := 72) (n1 := 128) p k) 1).val < 64 from hq),
      concatenate_pair_apply_left (t := Cert.QkvRefIdeal.S72x40x128) (s₁ := Cert.QkvRefIdeal.S72x40x64) (s₂ := Cert.QkvRefIdeal.S72x40x64) 2 _ _ _ _ rfl
        (ix3 (n0 := 72) (n1 := 40) (n2 := 64) p t ⟨k.val, hq⟩) (fun b => match b with
          | ⟨0, _⟩ => rfl
          | ⟨1, _⟩ => rfl
          | ⟨2, _⟩ => rfl),
      val_main_v72_apply, val_main_v68_apply, val_main_v71_apply, ref_angle67, ref_angle70, hlo _ rfl, hhi _ rfl]
    rfl
  · have hk : k.val < 128 := k.isLt
    rw [dif_neg (show ¬ ((ix2 (n0 := 72) (n1 := 128) p k) 1).val < 64 from hq),
      concatenate_pair_apply_right (t := Cert.QkvRefIdeal.S72x40x128) (s₁ := Cert.QkvRefIdeal.S72x40x64) (s₂ := Cert.QkvRefIdeal.S72x40x64) 2 _ _ _ _ rfl rfl
        (ix3 (n0 := 72) (n1 := 40) (n2 := 64) p t ⟨k.val - 64, by omega⟩) (fun b hb => match b with
          | ⟨0, _⟩ => rfl
          | ⟨1, _⟩ => rfl
          | ⟨2, _⟩ => absurd rfl hb) (by show k.val - 64 + 64 = k.val; omega),
      val_main_v79_apply, val_main_v75_apply, val_main_v78_apply, ref_angle74, ref_angle77, hlo _ rfl, hhi _ rfl]
    have e : (⟨k.val - 64 + 64, by omega⟩ : Fin 128) = k := Fin.ext (by show k.val - 64 + 64 = k.val; omega)
    exact congrArg₂ (fun a b : EReal => a + b) (congrArg (fun q => projV x0 x1 x2 x3 x4 n (ix2 (n0 := 72) (n1 := 128) p q)
      * anglesV x5 (ix2 (n0 := 72) (n1 := 64) p ⟨k.val - 64, by omega⟩)) e) rfl

/-- The rotated key heads. -/
theorem ref_k (p : Fin 72) (t : Fin 8) (k : Fin 128) (n : Fin 56) (hn : n.val = 40 + t.val) :
    val_main_v99 (F := Ideal) x0 x1 x2 x3 x4 x5 x6 (ix3 (n0 := 72) (n1 := 8) (n2 := 128) p t k)
      = ropeE (projV x0 x1 x2 x3 x4 n) (anglesV x5) (anglesV x6) (ix2 (n0 := 72) (n1 := 128) p k) := by
  have hlo : ∀ i : Cert.QkvRefIdeal.S72x8x64.Idx, (i 1) = t → val_main_v83 (F := Ideal) x0 x1 x2 x3 x4 i
      = projV x0 x1 x2 x3 x4 n (ix2 (n0 := 72) (n1 := 128) (i 0) ⟨(i 2).val, lt_trans (i 2).isLt (by decide)⟩) := fun i hi => by
    rw [val_main_v83_apply]
    exact ref_k_head x0 x1 x2 x3 x4 (idx_main_v83 i) n (hn.trans (by rw [← hi]))
  have hhi : ∀ i : Cert.QkvRefIdeal.S72x8x64.Idx, (i 1) = t → val_main_v84 (F := Ideal) x0 x1 x2 x3 x4 i
      = projV x0 x1 x2 x3 x4 n (ix2 (n0 := 72) (n1 := 128) (i 0) ⟨(i 2).val + 64, Nat.add_lt_add_right (i 2).isLt 64⟩) := fun i hi => by
    rw [val_main_v84_apply]
    refine (ref_k_head x0 x1 x2 x3 x4 (idx_main_v84 i) n (hn.trans (by rw [← hi]))).trans ?_
    exact congrArg (fun q => projV x0 x1 x2 x3 x4 n (ix2 (n0 := 72) (n1 := 128) (i 0) q)) (Fin.ext (Nat.add_comm 64 (i 2).val))
  unfold val_main_v99 ropeE
  by_cases hq : k.val < 64
  · rw [dif_pos (show ((ix2 (n0 := 72) (n1 := 128) p k) 1).val < 64 from hq),
      concatenate_pair_apply_left (t := Cert.QkvRefIdeal.S72x8x128) (s₁ := Cert.QkvRefIdeal.S72x8x64) (s₂ := Cert.QkvRefIdeal.S72x8x64) 2 _ _ _ _ rfl
        (ix3 (n0 := 72) (n1 := 8) (n2 := 64) p t ⟨k.val, hq⟩) (fun b => match b with
          | ⟨0, _⟩ => rfl
          | ⟨1, _⟩ => rfl
          | ⟨2, _⟩ => rfl),
      val_main_v91_apply, val_main_v87_apply, val_main_v90_apply, ref_angle86, ref_angle89, hlo _ rfl, hhi _ rfl]
    rfl
  · have hk : k.val < 128 := k.isLt
    rw [dif_neg (show ¬ ((ix2 (n0 := 72) (n1 := 128) p k) 1).val < 64 from hq),
      concatenate_pair_apply_right (t := Cert.QkvRefIdeal.S72x8x128) (s₁ := Cert.QkvRefIdeal.S72x8x64) (s₂ := Cert.QkvRefIdeal.S72x8x64) 2 _ _ _ _ rfl rfl
        (ix3 (n0 := 72) (n1 := 8) (n2 := 64) p t ⟨k.val - 64, by omega⟩) (fun b hb => match b with
          | ⟨0, _⟩ => rfl
          | ⟨1, _⟩ => rfl
          | ⟨2, _⟩ => absurd rfl hb) (by show k.val - 64 + 64 = k.val; omega),
      val_main_v98_apply, val_main_v94_apply, val_main_v97_apply, ref_angle93, ref_angle96, hlo _ rfl, hhi _ rfl]
    have e : (⟨k.val - 64 + 64, by omega⟩ : Fin 128) = k := Fin.ext (by show k.val - 64 + 64 = k.val; omega)
    exact congrArg₂ (fun a b : EReal => a + b) (congrArg (fun q => projV x0 x1 x2 x3 x4 n (ix2 (n0 := 72) (n1 := 128) p q)
      * anglesV x5 (ix2 (n0 := 72) (n1 := 64) p ⟨k.val - 64, by omega⟩)) e) rfl

end Cert.QkvIdeal.Hand

end
-- ==== Proof.Qkv.RefStats.lean ====
/- THE 4-BIT SCALES AND ZERO POINTS OF THE REFERENCE are those of the call. -/
module

public import proofs.«01_k».proof.Proof.Qkv.RefHeads

@[expose] public section

noncomputable section

namespace Cert.QkvIdeal.Hand

open Cert.QkvIdeal Cert.QkvIdeal.Gen
open Idealize.ShloMosaic Idealize.ShloMosaic.TcCoe Idealize.ShloMosaic.Tactic
open Cert.QkvRefIdeal.Read

variable (x0 : Vec Ideal S24x3x5120 .bf16) (x1 : Vec Ideal S5120 .f32) (x2 : Vec Ideal S2560x7168 .i8) (x3 x4 : Vec Ideal S7168 .f32)
  (x5 x6 : Vec Ideal S24x3x64 .f32)

/-- The reduction over the columns of a head. -/
theorem reduces_heads : (Cert.QkvRefIdeal.S72x8x128).Reduces [2] Cert.QkvRefIdeal.S72x8 := by decide
theorem lift_heads (i : Cert.QkvRefIdeal.S72x8.Idx) (k : Fin 128) :
    reduces_heads.lift i k = ix3 (n0 := 72) (n1 := 8) (n2 := 128) (i 0) (i 1) k := by
  funext a
  apply Fin.ext
  match a with
  | ⟨0, _⟩ => rfl
  | ⟨1, _⟩ => rfl
  | ⟨2, _⟩ => rfl

/-- The smallest element of a row of a head. -/
theorem ref_klow (i : Cert.QkvRefIdeal.S72x8.Idx) :
    val_main_v108 (F := Ideal) x0 x1 x2 x3 x4 x5 x6 i = lowE (keyV (projV x0 x1 x2 x3 x4) (anglesV x5) (anglesV x6) (i 1)) (i 0) := by
  unfold val_main_v108 lowE
  rw [Host.reduce_eq_fold_single (FloatOps.minimumf (F := Ideal) (φ := .f32)) _ _ _ reduces_heads]
  refine congrArg₂ (fun z f => (Finset.univ : Finset (Fin 128)).fold min z f) rfl (funext fun k => ?_)
  refine (congrArg (val_main_v99 (F := Ideal) x0 x1 x2 x3 x4 x5 x6) (lift_heads i k)).trans ?_
  exact ref_k x0 x1 x2 x3 x4 x5 x6 (i 0) (i 1) k _ rfl
/-- The largest element of a row of a head. -/
theorem ref_khigh (i : Cert.QkvRefIdeal.S72x8.Idx) :
    val_main_v109 (F := Ideal) x0 x1 x2 x3 x4 x5 x6 i = highE (keyV (projV x0 x1 x2 x3 x4) (anglesV x5) (anglesV x6) (i 1)) (i 0) := by
  unfold val_main_v109 highE
  rw [Host.reduce_eq_fold_single (FloatOps.maximumf (F := Ideal) (φ := .f32)) _ _ _ reduces_heads]
  refine congrArg₂ (fun z f => (Finset.univ : Finset (Fin 128)).fold max z f) rfl (funext fun k => ?_)
  refine (congrArg (val_main_v99 (F := Ideal) x0 x1 x2 x3 x4 x5 x6) (lift_heads i k)).trans ?_
  exact ref_k x0 x1 x2 x3 x4 x5 x6 (i 0) (i 1) k _ rfl
/-- The 4-bit scale of a row of a head. -/
theorem ref_kstep (i : Cert.QkvRefIdeal.S72x8.Idx) :
    val_main_v114 (F := Ideal) x0 x1 x2 x3 x4 x5 x6 i = stepR (keyV (projV x0 x1 x2 x3 x4) (anglesV x5) (anglesV x6) (i 1)) (i 0) := by
  rw [val_main_v114_apply, val_main_v110_apply, val_main_v113_apply, val_main_v111_apply, val_main_v112_apply,
    val_main_call3_v1_apply, ref_klow, ref_khigh]
  rfl

/-- The smallest element of a row of a head. -/
theorem ref_vlow (i : Cert.QkvRefIdeal.S72x8.Idx) :
    val_main_v115 (F := Ideal) x0 x1 x2 x3 x4 i = lowE (valueV (projV x0 x1 x2 x3 x4) (i 1)) (i 0) := by
  unfold val_main_v115 lowE
  rw [Host.reduce_eq_fold_single (FloatOps.minimumf (F := Ideal) (φ := .f32)) _ _ _ reduces_heads]
  refine congrArg₂ (fun z f => (Finset.univ : Finset (Fin 128)).fold min z f) rfl (funext fun k => ?_)
  refine (congrArg (val_main_v101 (F := Ideal) x0 x1 x2 x3 x4) (lift_heads i k)).trans ?_
  exact ref_v_head x0 x1 x2 x3 x4 (ix3 (n0 := 72) (n1 := 8) (n2 := 128) (i 0) (i 1) k) _ rfl
/-- The largest element of a row of a head. -/
theorem ref_vhigh (i : Cert.QkvRefIdeal.S72x8.Idx) :
    val_main_v116 (F := Ideal) x0 x1 x2 x3 x4 i = highE (valueV (projV x0 x1 x2 x3 x4) (i 1)) (i 0) := by
  unfold val_main_v116 highE
  rw [Host.reduce_eq_fold_single (FloatOps.maximumf (F := Ideal) (φ := .f32)) _ _ _ reduces_heads]
  refine congrArg₂ (fun z f => (Finset.univ : Finset (Fin 128)).fold max z f) rfl (funext fun k => ?_)
  refine (congrArg (val_main_v101 (F := Ideal) x0 x1 x2 x3 x4) (lift_heads i k)).trans ?_
  exact ref_v_head x0 x1 x2 x3 x4 (ix3 (n0 := 72) (n1 := 8) (n2 := 128) (i 0) (i 1) k) _ rfl
/-- The 4-bit scale of a row of a head. -/
theorem ref_vstep (i : Cert.QkvRefIdeal.S72x8.Idx) :
    val_main_v121 (F := Ideal) x0 x1 x2 x3 x4 i = stepR (valueV (projV x0 x1 x2 x3 x4) (i 1)) (i 0) := by
  rw [val_main_v121_apply, val_main_v117_apply, val_main_v120_apply, val_main_v118_apply, val_main_v119_apply,
    val_main_call4_v1_apply, ref_vlow, ref_vhigh]
  rfl

/-- The scales of the keys, laid out by position. -/
theorem ref_kscale : val_main_v124 (F := Ideal) x0 x1 x2 x3 x4 x5 x6 = stepG (keyV (projV x0 x1 x2 x3 x4) (anglesV x5) (anglesV x6)) := by
  funext j
  have h0 : (j 0).val < 3 := (j 0).isLt
  have h1 : (j 1).val < 8 := (j 1).isLt
  have h2 : (j 2).val < 24 := (j 2).isLt
  have e : idx_main_v123 (idx_main_v124 j) = ix2 (n0 := 72) (n1 := 8) ⟨(j 0).val * 24 + (j 2).val, by omega⟩ (j 1) :=
    funext fun a => match a with
      | ⟨0, _⟩ => Fin.ext (by show (((j 0).val * 24 + (j 2).val) * 8 + (j 1).val) / 8 = (j 0).val * 24 + (j 2).val; omega)
      | ⟨1, _⟩ => Fin.ext (by show (((j 0).val * 24 + (j 2).val) * 8 + (j 1).val) % 8 = (j 1).val; omega)
  rw [val_main_v124_apply, val_main_v123_apply, e, ref_kstep]
  rfl
/-- The zero points of the keys, laid out by position. -/
theorem ref_kzero : val_main_v126 (F := Ideal) x0 x1 x2 x3 x4 x5 x6 = lowG (keyV (projV x0 x1 x2 x3 x4) (anglesV x5) (anglesV x6)) := by
  funext j
  have h0 : (j 0).val < 3 := (j 0).isLt
  have h1 : (j 1).val < 8 := (j 1).isLt
  have h2 : (j 2).val < 24 := (j 2).isLt
  have e : idx_main_v125 (idx_main_v126 j) = ix2 (n0 := 72) (n1 := 8) ⟨(j 0).val * 24 + (j 2).val, by omega⟩ (j 1) :=
    funext fun a => match a with
      | ⟨0, _⟩ => Fin.ext (by show (((j 0).val * 24 + (j 2).val) * 8 + (j 1).val) / 8 = (j 0).val * 24 + (j 2).val; omega)
      | ⟨1, _⟩ => Fin.ext (by show (((j 0).val * 24 + (j 2).val) * 8 + (j 1).val) % 8 = (j 1).val; omega)
  rw [val_main_v126_apply, val_main_v125_apply, e, ref_klow]
  rfl
/-- The scales of the values, laid out by position. -/
theorem ref_vscale : val_main_v128 (F := Ideal) x0 x1 x2 x3 x4 = stepG (valueV (projV x0 x1 x2 x3 x4)) := by
  funext j
  have h0 : (j 0).val < 3 := (j 0).isLt
  have h1 : (j 1).val < 8 := (j 1).isLt
  have h2 : (j 2).val < 24 := (j 2).isLt
  have e : idx_main_v127 (idx_main_v128 j) = ix2 (n0 := 72) (n1 := 8) ⟨(j 0).val * 24 + (j 2).val, by omega⟩ (j 1) :=
    funext fun a => match a with
      | ⟨0, _⟩ => Fin.ext (by show (((j 0).val * 24 + (j 2).val) * 8 + (j 1).val) / 8 = (j 0).val * 24 + (j 2).val; omega)
      | ⟨1, _⟩ => Fin.ext (by show (((j 0).val * 24 + (j 2).val) * 8 + (j 1).val) % 8 = (j 1).val; omega)
  rw [val_main_v128_apply, val_main_v127_apply, e, ref_vstep]
  rfl
/-- The zero points of the values, laid out by position. -/
theorem ref_vzero : val_main_v130 (F := Ideal) x0 x1 x2 x3 x4 = lowG (valueV (projV x0 x1 x2 x3 x4)) := by
  funext j
  have h0 : (j 0).val < 3 := (j 0).isLt
  have h1 : (j 1).val < 8 := (j 1).isLt
  have h2 : (j 2).val < 24 := (j 2).isLt
  have e : idx_main_v129 (idx_main_v130 j) = ix2 (n0 := 72) (n1 := 8) ⟨(j 0).val * 24 + (j 2).val, by omega⟩ (j 1) :=
    funext fun a => match a with
      | ⟨0, _⟩ => Fin.ext (by show (((j 0).val * 24 + (j 2).val) * 8 + (j 1).val) / 8 = (j 0).val * 24 + (j 2).val; omega)
      | ⟨1, _⟩ => Fin.ext (by show (((j 0).val * 24 + (j 2).val) * 8 + (j 1).val) % 8 = (j 1).val; omega)
  rw [val_main_v130_apply, val_main_v129_apply, e, ref_vlow]
  rfl

end Cert.QkvIdeal.Hand

end
-- ==== Proof.Qkv.RefQueries.lean ====
/- THE QUERIES OF THE REFERENCE, laid out by sequence and group, are those of the call. -/
module

public import proofs.«01_k».proof.Proof.Qkv.RefHeads

@[expose] public section

noncomputable section

namespace Cert.QkvIdeal.Hand

open Cert.QkvIdeal Cert.QkvIdeal.Gen
open Idealize.ShloMosaic Idealize.ShloMosaic.TcCoe Idealize.ShloMosaic.Tactic
open Cert.QkvRefIdeal.Read

variable (x0 : Vec Ideal S24x3x5120 .bf16) (x1 : Vec Ideal S5120 .f32) (x2 : Vec Ideal S2560x7168 .i8) (x3 x4 : Vec Ideal S7168 .f32)
  (x5 x6 : Vec Ideal S24x3x64 .f32)

/-- The rotated heads by sequence and group. -/
theorem ref_groups (i : Cert.QkvRefIdeal.S24x8x15x128.Idx) (n : Fin 56) (hn : n.val = 5 * (i 1).val + (i 2).val % 5)
    (p : Fin 72) (hp : p.val = (i 2).val / 5 * 24 + (i 0).val) :
    val_main_v104 (F := Ideal) x0 x1 x2 x3 x4 x5 x6 i
      = ropeE (projV x0 x1 x2 x3 x4 n) (anglesV x5) (anglesV x6) (ix2 (n0 := 72) (n1 := 128) p (i 3)) := by
  have h0 : (i 0).val < 24 := (i 0).isLt
  have h1 : (i 1).val < 8 := (i 1).isLt
  have h2 : (i 2).val < 15 := (i 2).isLt
  have h3 : (i 3).val < 128 := (i 3).isLt
  have e0 : ((idx_main_v104 i) 0).val = (i 0).val := by
    show ((((i 0).val * 8 + (i 1).val) * 15 + (i 2).val) * 128 + (i 3).val) / 15360 = _; omega
  have e1 : ((idx_main_v104 i) 1).val = (i 1).val := by
    show ((((i 0).val * 8 + (i 1).val) * 15 + (i 2).val) * 128 + (i 3).val) / 1920 % 8 = _; omega
  have e2 : ((idx_main_v104 i) 2).val = (i 2).val / 5 := by
    show ((((i 0).val * 8 + (i 1).val) * 15 + (i 2).val) * 128 + (i 3).val) / 640 % 3 = _; omega
  have e3 : ((idx_main_v104 i) 3).val = (i 2).val % 5 := by
    show ((((i 0).val * 8 + (i 1).val) * 15 + (i 2).val) * 128 + (i 3).val) / 128 % 5 = _; omega
  have e4 : ((idx_main_v104 i) 4).val = (i 3).val := by
    show ((((i 0).val * 8 + (i 1).val) * 15 + (i 2).val) * 128 + (i 3).val) % 128 = _; omega
  rw [val_main_v104_apply, val_main_v103_apply, val_main_v102_apply]
  generalize idx_main_v104 i = w at e0 e1 e2 e3 e4
  have e : idx_main_v102 (idx_main_v103 w) = ix3 (n0 := 72) (n1 := 40) (n2 := 128) p ⟨n.val, by omega⟩ (i 3) :=
    funext fun a => match a with
      | ⟨0, _⟩ => Fin.ext (by
          show (((((w 2).val * 24 + (w 0).val) * 8 + (w 1).val) * 5 + (w 3).val) * 128 + (w 4).val) / 5120 = p.val; omega)
      | ⟨1, _⟩ => Fin.ext (by
          show (((((w 2).val * 24 + (w 0).val) * 8 + (w 1).val) * 5 + (w 3).val) * 128 + (w 4).val) / 128 % 40 = n.val; omega)
      | ⟨2, _⟩ => Fin.ext (by
          show (((((w 2).val * 24 + (w 0).val) * 8 + (w 1).val) * 5 + (w 3).val) * 128 + (w 4).val) % 128 = (i 3).val; omega)
  rw [e]
  exact ref_q x0 x1 x2 x3 x4 x5 x6 p ⟨n.val, by omega⟩ (i 3) n rfl

/-- The reference's queries. -/
theorem ref_queries : val_main_v107 (F := Ideal) x0 x1 x2 x3 x4 x5 x6
    = queriesG (projV x0 x1 x2 x3 x4) (anglesV x5) (anglesV x6) := by
  funext y
  have h0 : (y 0).val < 3072 := (y 0).isLt
  have h1 : (y 1).val < 128 := (y 1).isLt
  have e0 : ((idx_main_v107 y) 0).val = (y 0).val / 128 := by show ((y 0).val * 128 + (y 1).val) / 16384 = _; omega
  have e1 : ((idx_main_v107 y) 1).val = (y 0).val % 128 / 16 := by show ((y 0).val * 128 + (y 1).val) / 2048 % 8 = _; omega
  have e2 : ((idx_main_v107 y) 2).val = (y 0).val % 16 := by show ((y 0).val * 128 + (y 1).val) / 128 % 16 = _; omega
  have e3 : ((idx_main_v107 y) 3).val = (y 1).val := by show ((y 0).val * 128 + (y 1).val) % 128 = _; omega
  rw [val_main_v107_apply]
  generalize idx_main_v107 y = w at e0 e1 e2 e3
  unfold val_main_v106 queriesG
  by_cases hq : (y 0).val % 16 < 15
  · rw [if_pos hq]
    have hw : (w 2).val < 15 := by omega
    rw [concatenate_pair_apply_left (t := Cert.QkvRefIdeal.S24x8x16x128) (s₁ := Cert.QkvRefIdeal.S24x8x15x128)
      (s₂ := Cert.QkvRefIdeal.S24x8x1x128) 2 _ _ _ w rfl (fun a => match a with
        | ⟨0, _⟩ => w 0
        | ⟨1, _⟩ => w 1
        | ⟨2, _⟩ => ⟨(w 2).val, hw⟩
        | ⟨3, _⟩ => w 3) (fun b => match b with
        | ⟨0, _⟩ => rfl
        | ⟨1, _⟩ => rfl
        | ⟨2, _⟩ => rfl
        | ⟨3, _⟩ => rfl)]
    have hy : w 3 = y 1 := Fin.ext e3
    refine (ref_groups x0 x1 x2 x3 x4 x5 x6 _ ⟨qHead (y 0).val, by have := qHead_lt (y 0).val; omega⟩ ?_
      ⟨((y 0).val % 16 / 5 * 24 + (y 0).val / 128) % 72, Nat.mod_lt _ (by decide)⟩ ?_).trans ?_
    · show qHead (y 0).val = 5 * (w 1).val + (w 2).val % 5
      unfold qHead
      omega
    · show ((y 0).val % 16 / 5 * 24 + (y 0).val / 128) % 72 = (w 2).val / 5 * 24 + (w 0).val
      omega
    · exact congrArg (fun q => ropeE _ (anglesV x5) (anglesV x6) (ix2 (n0 := 72) (n1 := 128) _ q)) hy
  · rw [if_neg hq]
    rw [concatenate_pair_apply_right (t := Cert.QkvRefIdeal.S24x8x16x128) (s₁ := Cert.QkvRefIdeal.S24x8x15x128)
      (s₂ := Cert.QkvRefIdeal.S24x8x1x128) 2 _ _ _ w rfl rfl (fun a => match a with
        | ⟨0, _⟩ => w 0
        | ⟨1, _⟩ => w 1
        | ⟨2, _⟩ => ⟨0, Nat.one_pos⟩
        | ⟨3, _⟩ => w 3) (fun b hb => match b with
        | ⟨0, _⟩ => rfl
        | ⟨1, _⟩ => rfl
        | ⟨2, _⟩ => absurd rfl hb
        | ⟨3, _⟩ => rfl) (by show 0 + 15 = (w 2).val; omega)]
    rw [val_main_v105_apply]
    rfl

end Cert.QkvIdeal.Hand

end
-- ==== Proof.Qkv.Words.lean ====
/- THE CALL ON WORDS: the printed program and the one read over the extended reals are the same text, so the run proved for any
    reading of the floats is also a run of the printed program. -/
module

public import proofs.«01_k».proof.Defs
public import proofs.«01_k».proof.Proof.Qkv.Run
public import proofs.«01_k».proof.Proof.Gen.Qkv

@[expose] public section

set_option maxRecDepth 65536
set_option maxHeartbeats 8000000

noncomputable section

namespace Cert.Qkv.Words

open Idealize.ShloMosaic Idealize.ShloMosaic.TcCoe Idealize.SL.Sem

/-- The two programs have the same text of @main. -/
theorem main_eq : Cert.Qkv.main (F := Bits) = Cert.QkvIdeal.main (F := Bits) := rfl

/-- The two programs have the same pipelines. -/
theorem pcfgs_eq : Cert.Qkv.pcfgs (F := Bits) = Cert.QkvIdeal.pcfgs (F := Bits) := rfl

/-- The two programs have the same bodies. -/
theorem bodies_eq : Cert.Qkv.defs₀ (F := Bits) = Cert.QkvIdeal.defs₀ (F := Bits) := by
  unfold Cert.Qkv.defs₀ Cert.QkvIdeal.defs₀
  refine congrArg (Defs.onTc (nD := Cert.Qkv.nD) (τ := Cert.Qkv.τ) (sig := Cert.Qkv.sig) (Λ := Cert.Qkv.Λ₀)) ?_
  funext ℓ
  match ℓ with
  | 0 => funext a; rfl

/-- The two programs have the same table of bodies and pipelines. -/
theorem defs_eq : Cert.Qkv.defs (F := Bits) = Cert.QkvIdeal.defs (F := Bits) :=
  congrArg (Pipeline.defs (Cert.Qkv.pcfgs (F := Bits))) bodies_eq

/-- The printed program terminates without fault on words, changes no argument and leaves every semaphore at zero. -/
theorem frame : Cert.quiescent_Qkv (hQkv := Cert.Qkv.Gen.facts) := by
  intro m ρ _
  have h := Cert.QkvIdeal.Hand.frame (F := Bits) m ρ
  rw [← main_eq, ← defs_eq] at h
  exact h

end Cert.Qkv.Words

end
-- ==== Proof.lean ====
module

public import proofs.«01_k».proof.Defs
public import proofs.«01_k».proof.Proof.Gen.OProj
public import proofs.«01_k».proof.Proof.Gen.OProj.Skeleton
public import proofs.«01_k».proof.Proof.Gen.OProj.Launch
public import proofs.«01_k».proof.Proof.Gen.OProj.Points
public import proofs.«01_k».proof.Proof.Gen.OProj.Frame
public import proofs.«01_k».proof.Proof.Gen.OProjIdeal
public import proofs.«01_k».proof.Proof.Gen.OProjIdeal.Skeleton
public import proofs.«01_k».proof.Proof.Gen.OProjIdeal.Launch
public import proofs.«01_k».proof.Proof.Gen.OProjIdeal.Points
public import proofs.«01_k».proof.Proof.Gen.OProjIdeal.Frame
public import proofs.«01_k».proof.Proof.Gen.OProjRefIdeal
public import proofs.«01_k».proof.Proof.Gen.OProjRefIdeal.Run
public import proofs.«01_k».proof.Proof.Gen.OProjRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import proofs.«01_k».proof.Proof.Gen.QkvRefIdeal.Read
public import proofs.«01_k».proof.Proof.OProj.Hidden
public import proofs.«01_k».proof.Proof.OProj.Scale
public import proofs.«01_k».proof.Proof.OProj.Words
public import proofs.«01_k».proof.Proof.Qkv.Arrays
public import proofs.«01_k».proof.Proof.Qkv.RefStats
public import proofs.«01_k».proof.Proof.Qkv.RefQueries
public import proofs.«01_k».proof.Proof.Qkv.Words
public import Idealize.ShloMosaic.Adequacy
public import Idealize.ShloMosaic.Init

@[expose] public section

noncomputable section

namespace Cert.Proof

open Idealize.ShloMosaic Idealize.SL.Sem Cert.OProj

/-- The reference terminates, changes no argument, and has no semaphore. -/
theorem quiescent_ref : Cert.quiescent_OProjRefIdeal := fun m ρ _ =>
  (θ_run Cert.OProjRefIdeal.defs _ _).mono
    (fun r h => ⟨fun c => (h c).2.2.2.2, Idealize.ShloMosaic.sem_eq_zero_of_no_sems (by decide) r.2⟩)
    (Cert.OProjRefIdeal.Value.run m ρ)

/-- Over the extended reals the output projection and its reference leave the same new hidden state, attention rows, int8 codes
    and scales. -/
theorem same_results : Cert.algebraic_OProjIdeal_OProjRefIdeal := by
  intro m ρ m' ρ' _ hag
  refine ⟨fun c => Cert.OProjIdeal.Hand.hiddenG m c, fun c => Cert.OProjIdeal.Hand.attnG m c,
    fun c => Cert.OProjIdeal.Hand.codesV (Cert.OProjIdeal.Hand.attnG m c),
    fun c => Cert.OProjIdeal.Hand.scaleV (Cert.OProjIdeal.Hand.attnG m c), Cert.OProjIdeal.Hand.run m ρ,
    (θ_run _ _ _).mono (fun r h c => ?_) (Cert.OProjRefIdeal.Value.run m' ρ')⟩
  obtain ⟨a0, a1, a2, a3, a4, a5⟩ := hag c
  obtain ⟨r0, r1, r2, r3, rest⟩ := h c
  refine ⟨r0.trans ((Cert.OProjRefIdeal.Read.val_main_v54_eq m' c).trans ?_),
    r1.trans ((Cert.OProjRefIdeal.Read.val_main_v7_eq _ _).trans ?_),
    r2.trans ((Cert.OProjRefIdeal.Read.val_main_v21_eq _ _).trans ?_),
    r3.trans ((Cert.OProjRefIdeal.Read.val_main_v55_eq _ _).trans ?_), rest⟩
  · rw [a0, a1, a2, a3, a4, a5]
    exact Cert.OProjIdeal.Hand.ref_hidden _ _ _ _ _ _
  · rw [a0, a1]
    exact Cert.OProjIdeal.Hand.ref_attn _ _
  · rw [a0, a1]
    exact Cert.OProjIdeal.Hand.ref_codes _ _
  · rw [a0, a1]
    exact Cert.OProjIdeal.Hand.ref_scales _ _

/-- The reference of the QKV projection terminates, changes no argument, and has no semaphore. -/
theorem quiescent_qkv_ref : Cert.quiescent_QkvRefIdeal := fun m ρ _ =>
  (θ_run Cert.QkvRefIdeal.defs _ _).mono
    (fun r h => ⟨fun c => (h c).2.2.2.2.2.2.2, Idealize.ShloMosaic.sem_eq_zero_of_no_sems (by decide) r.2⟩)
    (Cert.QkvRefIdeal.Value.run m ρ)

/-- Over the extended reals the QKV projection and its reference leave the same codes and scales of the rows, queries, and 4-bit
    scales and zero points of the new keys and values. -/
theorem same_projection : Cert.algebraic_QkvIdeal_QkvRefIdeal := by
  intro m ρ m' ρ' _ hag
  refine ⟨fun c => Cert.QkvIdeal.Hand.codesG m c,
    fun c => Cert.QkvIdeal.Hand.scaleG (Cert.QkvIdeal.Hand.normG m c),
    fun c => Cert.QkvIdeal.Hand.queriesG (Cert.QkvIdeal.Hand.projG m c) (Cert.QkvIdeal.Hand.coG m c) (Cert.QkvIdeal.Hand.siG m c),
    fun c => Cert.QkvIdeal.Hand.stepG (Cert.QkvIdeal.Hand.keyV (Cert.QkvIdeal.Hand.projG m c) (Cert.QkvIdeal.Hand.coG m c) (Cert.QkvIdeal.Hand.siG m c)),
    fun c => Cert.QkvIdeal.Hand.lowG (Cert.QkvIdeal.Hand.keyV (Cert.QkvIdeal.Hand.projG m c) (Cert.QkvIdeal.Hand.coG m c) (Cert.QkvIdeal.Hand.siG m c)),
    fun c => Cert.QkvIdeal.Hand.stepG (Cert.QkvIdeal.Hand.valueV (Cert.QkvIdeal.Hand.projG m c)),
    fun c => Cert.QkvIdeal.Hand.lowG (Cert.QkvIdeal.Hand.valueV (Cert.QkvIdeal.Hand.projG m c)), Cert.QkvIdeal.Hand.run m ρ,
    (θ_run _ _ _).mono (fun r h c => ?_) (Cert.QkvRefIdeal.Value.run m' ρ')⟩
  obtain ⟨a0, a1, a2, a3, a4, a5, a6⟩ := hag c
  obtain ⟨r0, r1, r2, r3, r4, r5, r6, rest⟩ := h c
  exact ⟨r0.trans ((Cert.QkvRefIdeal.Read.val_main_v33_eq _).trans ((congr (congrArg (Cert.QkvRefIdeal.Read.val_main_v33 (F := Ideal)) a0) a1).trans
      (Cert.QkvIdeal.Hand.ref_codes _ _))),
    r1.trans ((Cert.QkvRefIdeal.Read.val_main_v122_eq _).trans ((congr (congrArg (Cert.QkvRefIdeal.Read.val_main_v122 (F := Ideal)) a0) a1).trans
      (Cert.QkvIdeal.Hand.ref_scales _ _))),
    r2.trans ((Cert.QkvRefIdeal.Read.val_main_v107_eq _).trans ((congr (congr (congr (congr (congr (congr (congrArg (Cert.QkvRefIdeal.Read.val_main_v107 (F := Ideal)) a0) a1) a2) a3) a4) a5) a6).trans
      (Cert.QkvIdeal.Hand.ref_queries _ _ _ _ _ _ _))),
    r3.trans ((Cert.QkvRefIdeal.Read.val_main_v124_eq _).trans ((congr (congr (congr (congr (congr (congr (congrArg (Cert.QkvRefIdeal.Read.val_main_v124 (F := Ideal)) a0) a1) a2) a3) a4) a5) a6).trans
      (Cert.QkvIdeal.Hand.ref_kscale _ _ _ _ _ _ _))),
    r4.trans ((Cert.QkvRefIdeal.Read.val_main_v126_eq _).trans ((congr (congr (congr (congr (congr (congr (congrArg (Cert.QkvRefIdeal.Read.val_main_v126 (F := Ideal)) a0) a1) a2) a3) a4) a5) a6).trans
      (Cert.QkvIdeal.Hand.ref_kzero _ _ _ _ _ _ _))),
    r5.trans ((Cert.QkvRefIdeal.Read.val_main_v128_eq _).trans ((congr (congr (congr (congr (congrArg (Cert.QkvRefIdeal.Read.val_main_v128 (F := Ideal)) a0) a1) a2) a3) a4).trans
      (Cert.QkvIdeal.Hand.ref_vscale _ _ _ _ _))),
    r6.trans ((Cert.QkvRefIdeal.Read.val_main_v130_eq _).trans ((congr (congr (congr (congr (congrArg (Cert.QkvRefIdeal.Read.val_main_v130 (F := Ideal)) a0) a1) a2) a3) a4).trans
      (Cert.QkvIdeal.Hand.ref_vzero _ _ _ _ _))), rest⟩

/-- Everything this certificate claims. -/
theorem claim : Cert.Claim := ⟨Cert.OProj.Gen.facts, Cert.OProjIdeal.Gen.facts, Cert.OProjRefIdeal.Gen.facts,
  Cert.Qkv.Gen.facts, Cert.QkvIdeal.Gen.facts, Cert.QkvRefIdeal.Gen.facts,
  Cert.OProj.Words.frame, fun m ρ _ => Cert.OProjIdeal.Hand.frame m ρ, quiescent_ref,
  Cert.Qkv.Words.frame, fun m ρ _ => Cert.QkvIdeal.Hand.frame m ρ, quiescent_qkv_ref,
  trivial, same_results, trivial, same_projection⟩

end Cert.Proof

end
